-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojReferenceIdeal (m : (ℓ : Loc Cert.OutprojReferenceIdeal.nD Cert.OutprojReferenceIdeal.τ Cert.OutprojReferenceIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2)
      ∧ r.2.mem ((c.tc : Thread Cert.KvReferenceIdeal.nD Cert.KvReferenceIdeal.τ).loc Cert.KvReferenceIdeal.main_arg3) = m ((c.tc : Thread Cert.KvReferenceIdeal.nD Cert.KvReferenceIdeal.τ).loc Cert.KvReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v21) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v14)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v14) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v30) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5))

def preserves_Outproj_OutprojIdeal : Prop :=
  True

def algebraic_OutprojIdeal_OutprojReferenceIdeal [hOutprojIdeal : Cert.OutprojIdeal.Facts] [hOutprojReferenceIdeal : Cert.OutprojReferenceIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojIdeal m →
    (∀ c : Dev Cert.OutprojIdeal.nD,
      m' ((c.tc : Thread Cert.OutprojReferenceIdeal.nD Cert.OutprojReferenceIdeal.τ).loc Cert.OutprojReferenceIdeal.main_arg0) = m ((c.tc : Thread Cert.OutprojIdeal.nD Cert.OutprojIdeal.τ).loc Cert.OutprojIdeal.main_arg0)
      ∧ m' ((c.tc : Thread Cert.OutprojReferenceIdeal.nD Cert.OutprojReferenceIdeal.τ).loc Cert.OutprojReferenceIdeal.main_arg1) = m ((c.tc : Thread Cert.OutprojIdeal.nD Cert.OutprojIdeal.τ).loc Cert.OutprojIdeal.main_arg1)
      ∧ m' ((c.tc : Thread Cert.OutprojReferenceIdeal.nD Cert.OutprojReferenceIdeal.τ).loc Cert.OutprojReferenceIdeal.main_arg2) = m ((c.tc : Thread Cert.OutprojIdeal.nD Cert.OutprojIdeal.τ).loc Cert.OutprojIdeal.main_arg2)) →
    ∃ (v0 : (c : Dev Cert.OutprojIdeal.nD) → Buf (Elt Ideal) ((c.tc : Thread Cert.OutprojIdeal.nD Cert.OutprojIdeal.τ).loc Cert.OutprojIdeal.main_v5)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v5) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v3) = v0 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2))

def preserves_Kv_KvIdeal : Prop :=
  True

def algebraic_KvIdeal_KvReferenceIdeal [hKvIdeal : Cert.KvIdeal.Facts] [hKvReferenceIdeal : Cert.KvReferenceIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvIdeal m →
    (∀ c : Dev Cert.KvIdeal.nD,
      m' ((c.tc : Thread Cert.KvReferenceIdeal.nD Cert.KvReferenceIdeal.τ).loc Cert.KvReferenceIdeal.main_arg0) = m ((c.tc : Thread Cert.KvIdeal.nD Cert.KvIdeal.τ).loc Cert.KvIdeal.main_arg0)
      ∧ m' ((c.tc : Thread Cert.KvReferenceIdeal.nD Cert.KvReferenceIdeal.τ).loc Cert.KvReferenceIdeal.main_arg1) = m ((c.tc : Thread Cert.KvIdeal.nD Cert.KvIdeal.τ).loc Cert.KvIdeal.main_arg1)
      ∧ m' ((c.tc : Thread Cert.KvReferenceIdeal.nD Cert.KvReferenceIdeal.τ).loc Cert.KvReferenceIdeal.main_arg2) = m ((c.tc : Thread Cert.KvIdeal.nD Cert.KvIdeal.τ).loc Cert.KvIdeal.main_arg2)
      ∧ m' ((c.tc : Thread Cert.KvReferenceIdeal.nD Cert.KvReferenceIdeal.τ).loc Cert.KvReferenceIdeal.main_arg3) = m ((c.tc : Thread Cert.KvIdeal.nD Cert.KvIdeal.τ).loc Cert.KvIdeal.main_arg3)) →
    ∃ (v0 : (c : Dev Cert.KvIdeal.nD) → Buf (Elt Ideal) ((c.tc : Thread Cert.KvIdeal.nD Cert.KvIdeal.τ).loc Cert.KvIdeal.main_v7_0)) (v1 : (c : Dev Cert.KvIdeal.nD) → Buf (Elt Ideal) ((c.tc : Thread Cert.KvIdeal.nD Cert.KvIdeal.τ).loc Cert.KvIdeal.main_v7_1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v7_0) = v0 c
          ∧ r.2.mem ((c.tc : Thread Cert.KvIdeal.nD Cert.KvIdeal.τ).loc Cert.KvIdeal.main_v7_1) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v41) = v0 c
          ∧ r.2.mem ((c.tc : Thread Cert.KvReferenceIdeal.nD Cert.KvReferenceIdeal.τ).loc Cert.KvReferenceIdeal.main_v43) = v1 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1)
          ∧ r.2.mem ((c.tc : Thread Cert.KvReferenceIdeal.nD Cert.KvReferenceIdeal.τ).loc Cert.KvReferenceIdeal.main_arg2) = m' ((c.tc : Thread Cert.KvReferenceIdeal.nD Cert.KvReferenceIdeal.τ).loc Cert.KvReferenceIdeal.main_arg2)
          ∧ r.2.mem ((c.tc : Thread Cert.KvReferenceIdeal.nD Cert.KvReferenceIdeal.τ).loc Cert.KvReferenceIdeal.main_arg3) = m' ((c.tc : Thread Cert.KvReferenceIdeal.nD Cert.KvReferenceIdeal.τ).loc Cert.KvReferenceIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMix : Cert.Mix.Facts) (hMixIdeal : Cert.MixIdeal.Facts) (hMixReferenceIdeal : Cert.MixReferenceIdeal.Facts) (hOutproj : Cert.Outproj.Facts) (hOutprojIdeal : Cert.OutprojIdeal.Facts) (hOutprojReferenceIdeal : Cert.OutprojReferenceIdeal.Facts) (hKv : Cert.Kv.Facts) (hKvIdeal : Cert.KvIdeal.Facts) (hKvReferenceIdeal : Cert.KvReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Mix (hMix := hMix)
    ∧ quiescent_MixIdeal (hMixIdeal := hMixIdeal)
    ∧ quiescent_MixReferenceIdeal (hMixReferenceIdeal := hMixReferenceIdeal)
    ∧ quiescent_Outproj (hOutproj := hOutproj)
    ∧ quiescent_OutprojIdeal (hOutprojIdeal := hOutprojIdeal)
    ∧ quiescent_OutprojReferenceIdeal (hOutprojReferenceIdeal := hOutprojReferenceIdeal)
    ∧ quiescent_Kv (hKv := hKv)
    ∧ quiescent_KvIdeal (hKvIdeal := hKvIdeal)
    ∧ quiescent_KvReferenceIdeal (hKvReferenceIdeal := hKvReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Mix_MixIdeal
    ∧ algebraic_MixIdeal_MixReferenceIdeal (hMixIdeal := hMixIdeal) (hMixReferenceIdeal := hMixReferenceIdeal)
    ∧ preserves_Outproj_OutprojIdeal
    ∧ algebraic_OutprojIdeal_OutprojReferenceIdeal (hOutprojIdeal := hOutprojIdeal) (hOutprojReferenceIdeal := hOutprojReferenceIdeal)
    ∧ preserves_Kv_KvIdeal
    ∧ algebraic_KvIdeal_KvReferenceIdeal (hKvIdeal := hKvIdeal) (hKvReferenceIdeal := hKvReferenceIdeal)
-- ==== Pre_finite.lean ====
abbrev S4x4096x8x128 : Shape := ⟨4, ![4, 4096, 8, 128]⟩
abbrev S4x4096x8x64 : Shape := ⟨4, ![4, 4096, 8, 64]⟩
abbrev S4x4096x512 : Shape := ⟨3, ![4, 4096, 512]⟩
abbrev S4x4096x64 : Shape := ⟨3, ![4, 4096, 64]⟩
abbrev S1x512x2048 : Shape := ⟨3, ![1, 512, 2048]⟩
abbrev S1x128 : Shape := ⟨2, ![1, 128]⟩
abbrev S_ : Shape := ⟨0, ![]⟩

class Facts : Prop where
  bcast_S_S4x4096x8x128 : S_.BroadcastsInDim S4x4096x8x128 (![] : Fin 0 → Fin S4x4096x8x128.rank)
  bcast_S_S4x4096x8x64 : S_.BroadcastsInDim S4x4096x8x64 (![] : Fin 0 → Fin S4x4096x8x64.rank)
  bcast_S_S4x4096x512 : S_.BroadcastsInDim S4x4096x512 (![] : Fin 0 → Fin S4x4096x512.rank)
  bcast_S_S4x4096x64 : S_.BroadcastsInDim S4x4096x64 (![] : Fin 0 → Fin S4x4096x64.rank)
  bcast_S_S1x512x2048 : S_.BroadcastsInDim S1x512x2048 (![] : Fin 0 → Fin S1x512x2048.rank)
  bcast_S_S1x128 : S_.BroadcastsInDim S1x128 (![] : Fin 0 → Fin S1x128.rank)

variable [Facts]

def fn {F : FTy → Type} [FloatOps F] (main_arg0 : FVec F S4x4096x8x128 .f32) (main_arg1 : FVec F S4x4096x8x64 .f32) (main_arg2 : FVec F S4x4096x512 .f32) (main_arg3 : FVec F S4x4096x64 .f32) (main_arg4 : FVec F S1x512x2048 .f32) (main_arg5 : FVec F S1x128 .f32) : IVec S4x4096x8x128 1 × IVec S4x4096x8x64 1 × IVec S4x4096x512 1 × IVec S4x4096x64 1 × IVec S1x512x2048 1 × IVec S1x128 1 :=
  let main_v0 : FVec F S4x4096x8x128 .f32 := Host.absf main_arg0
  let main_cst : FVec F S_ .f32 := constant S_ .f32 0x7F800000#32
  let main_v1 : FVec F S4x4096x8x128 .f32 := broadcastInDim S4x4096x8x128 ![] bcast_S_S4x4096x8x128 main_cst
  let main_v2 : IVec S4x4096x8x128 1 := cmpf .olt main_v0 main_v1
  let main_v3 : FVec F S4x4096x8x64 .f32 := Host.absf main_arg1
  let main_cst_0 : FVec F S_ .f32 := constant S_ .f32 0x7F800000#32
  let main_v4 : FVec F S4x4096x8x64 .f32 := broadcastInDim S4x4096x8x64 ![] bcast_S_S4x4096x8x64 main_cst_0
  let main_v5 : IVec S4x4096x8x64 1 := cmpf .olt main_v3 main_v4
  let main_v6 : FVec F S4x4096x512 .f32 := Host.absf main_arg2
  let main_cst_1 : FVec F S_ .f32 := constant S_ .f32 0x7F800000#32
  let main_v7 : FVec F S4x4096x512 .f32 := broadcastInDim S4x4096x512 ![] bcast_S_S4x4096x512 main_cst_1
  let main_v8 : IVec S4x4096x512 1 := cmpf .olt main_v6 main_v7
  let main_v9 : FVec F S4x4096x64 .f32 := Host.absf main_arg3
  let main_cst_2 : FVec F S_ .f32 := constant S_ .f32 0x7F800000#32
  let main_v10 : FVec F S4x4096x64 .f32 := broadcastInDim S4x4096x64 ![] bcast_S_S4x4096x64 main_cst_2
  let main_v11 : IVec S4x4096x64 1 := cmpf .olt main_v9 main_v10
  let main_v12 : FVec F S1x512x2048 .f32 := Host.absf main_arg4
  let main_cst_3 : FVec F S_ .f32 := constant S_ .f32 0x7F800000#32
  let main_v13 : FVec F S1x512x2048 .f32 := broadcastInDim S1x512x2048 ![] bcast_S_S1x512x2048 main_cst_3
  let main_v14 : IVec S1x512x2048 1 := cmpf .olt main_v12 main_v13
  let main_v15 : FVec F S1x128 .f32 := Host.absf main_arg5
  let main_cst_4 : FVec F S_ .f32 := constant S_ .f32 0x7F800000#32
  let main_v16 : FVec F S1x128 .f32 := broadcastInDim S1x128 ![] bcast_S_S1x128 main_cst_4
  let main_v17 : IVec S1x128 1 := cmpf .olt main_v15 main_v16
  (main_v2, main_v5, main_v8, main_v11, main_v14, main_v17)
-- ==== Kernel.lean ====
abbrev S4x4096x8x128 : Shape := ⟨4, ![4, 4096, 8, 128]⟩
abbrev S4x4096x8x64 : Shape := ⟨4, ![4, 4096, 8, 64]⟩
abbrev S4x4096x512 : Shape := ⟨3, ![4, 4096, 512]⟩
abbrev S4x4096x64 : Shape := ⟨3, ![4, 4096, 64]⟩
abbrev S1x512x2048 : Shape := ⟨3, ![1, 512, 2048]⟩
abbrev S1x128 : Shape := ⟨2, ![1, 128]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1x4096x1x128 : Shape := ⟨4, ![1, 4096, 1, 128]⟩
abbrev S4x4096x8x32 : Shape := ⟨4, ![4, 4096, 8, 32]⟩
abbrev S4x4096x8x256 : Shape := ⟨4, ![4, 4096, 8, 256]⟩
abbrev S4x4096x128 : Shape := ⟨3, ![4, 4096, 128]⟩
abbrev S4x4096x2048 : Shape := ⟨3, ![4, 4096, 2048]⟩
abbrev S512x2048 : Shape := ⟨2, ![512, 2048]⟩
abbrev S128 : Shape := ⟨1, ![128]⟩
abbrev S4x4096x1024 : Shape := ⟨3, ![4, 4096, 1024]⟩
abbrev S1x4096x256 : Shape := ⟨3, ![1, 4096, 256]⟩
abbrev S1x4096x512 : Shape := ⟨3, ![1, 4096, 512]⟩
abbrev S512x256 : Shape := ⟨2, ![512, 256]⟩
abbrev S1x4096x128 : Shape := ⟨3, ![1, 4096, 128]⟩
abbrev S256x256 : Shape := ⟨2, ![256, 256]⟩
abbrev S1x16x128x256 : Shape := ⟨4, ![1, 16, 128, 256]⟩
abbrev S4096x256 : Shape := ⟨2, ![4096, 256]⟩
abbrev S1x1024x512 : Shape := ⟨3, ![1, 1024, 512]⟩
abbrev S1024x512 : Shape := ⟨2, ![1024, 512]⟩
abbrev S1024x256 : Shape := ⟨2, ![1024, 256]⟩
abbrev S1024x128 : Shape := ⟨2, ![1024, 128]⟩
abbrev S1024 : Shape := ⟨1, ![1024]⟩
abbrev S1024x1 : Shape := ⟨2, ![1024, 1]⟩
abbrev S1x1024x128 : Shape := ⟨3, ![1, 1024, 128]⟩
abbrev S256x128 : Shape := ⟨2, ![256, 128]⟩
abbrev S128x256 : Shape := ⟨2, ![128, 256]⟩
abbrev S1x1x128x256 : Shape := ⟨4, ![1, 1, 128, 256]⟩
abbrev S1x256x256 : Shape := ⟨3, ![1, 256, 256]⟩
abbrev S1x512x256 : Shape := ⟨3, ![1, 512, 256]⟩
abbrev S1x768x256 : Shape := ⟨3, ![1, 768, 256]⟩
abbrev S768x256 : Shape := ⟨2, ![768, 256]⟩
abbrev S256 : Shape := ⟨1, ![256]⟩
abbrev S1x256 : Shape := ⟨2, ![1, 256]⟩
abbrev S16x256 : Shape := ⟨2, ![16, 256]⟩
abbrev S144x256 : Shape := ⟨2, ![144, 256]⟩
abbrev S1x256x128 : Shape := ⟨3, ![1, 256, 128]⟩
abbrev S1x1024x256 : Shape := ⟨3, ![1, 1024, 256]⟩
abbrev S128x512 : Shape := ⟨2, ![128, 512]⟩
abbrev S16x512 : Shape := ⟨2, ![16, 512]⟩
abbrev S144x512 : Shape := ⟨2, ![144, 512]⟩
abbrev S1x1280x256 : Shape := ⟨3, ![1, 1280, 256]⟩
abbrev S1280x256 : Shape := ⟨2, ![1280, 256]⟩
abbrev S128x768 : Shape := ⟨2, ![128, 768]⟩
abbrev S16x768 : Shape := ⟨2, ![16, 768]⟩
abbrev S144x768 : Shape := ⟨2, ![144, 768]⟩
abbrev S1x1536x256 : Shape := ⟨3, ![1, 1536, 256]⟩
abbrev S1536x256 : Shape := ⟨2, ![1536, 256]⟩
abbrev S128x1024 : Shape := ⟨2, ![128, 1024]⟩
abbrev S16x1024 : Shape := ⟨2, ![16, 1024]⟩
abbrev S144x1024 : Shape := ⟨2, ![144, 1024]⟩
abbrev S1x1792x256 : Shape := ⟨3, ![1, 1792, 256]⟩
abbrev S1792x256 : Shape := ⟨2, ![1792, 256]⟩
abbrev S1x2048x256 : Shape := ⟨3, ![1, 2048, 256]⟩
abbrev S2048x256 : Shape := ⟨2, ![2048, 256]⟩
abbrev S1x2304x256 : Shape := ⟨3, ![1, 2304, 256]⟩
abbrev S2304x256 : Shape := ⟨2, ![2304, 256]⟩
abbrev S1x2560x256 : Shape := ⟨3, ![1, 2560, 256]⟩
abbrev S2560x256 : Shape := ⟨2, ![2560, 256]⟩
abbrev S1x2816x256 : Shape := ⟨3, ![1, 2816, 256]⟩
abbrev S2816x256 : Shape := ⟨2, ![2816, 256]⟩
abbrev S1x3072x256 : Shape := ⟨3, ![1, 3072, 256]⟩
abbrev S3072x256 : Shape := ⟨2, ![3072, 256]⟩
abbrev S1x3328x256 : Shape := ⟨3, ![1, 3328, 256]⟩
abbrev S3328x256 : Shape := ⟨2, ![3328, 256]⟩
abbrev S1x3584x256 : Shape := ⟨3, ![1, 3584, 256]⟩
abbrev S3584x256 : Shape := ⟨2, ![3584, 256]⟩
abbrev S1x3840x256 : Shape := ⟨3, ![1, 3840, 256]⟩
abbrev S3840x256 : Shape := ⟨2, ![3840, 256]⟩

abbrev nBuf : Space → Nat
  | .hbm => 54
  | .vmem => 17
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x8x64, .f32⟩
  | .hbm, ⟨2, _⟩ => ⟨S4x4096x512, .f32⟩
  | .hbm, ⟨3, _⟩ => ⟨S4x4096x64, .f32⟩
  | .hbm, ⟨4, _⟩ => ⟨S1x512x2048, .f32⟩
  | .hbm, ⟨5, _⟩ => ⟨S1x128, .f32⟩
  | .hbm, ⟨6, _⟩ => ⟨S4096, .i32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S4096, .f32⟩
  | .hbm, ⟨16, _⟩ => ⟨S4096x1, .f32⟩
  | .hbm, ⟨17, _⟩ => ⟨S1x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x128, .f32⟩
  | .hbm, ⟨25, _⟩ => ⟨S1x4096x1x128, .f32⟩
  | .hbm, ⟨26, _⟩ => ⟨S1x4096x1x128, .f32⟩
  | .hbm, ⟨27, _⟩ => ⟨S4096x128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4x4096x8x128, .f32⟩
  | .hbm, ⟨35, _⟩ => ⟨S4x4096x8x128, .f32⟩
  | .hbm, ⟨36, _⟩ => ⟨S4x4096x8x32, .f32⟩
  | .hbm, ⟨37, _⟩ => ⟨S4x4096x8x32, .f32⟩
  | .hbm, ⟨38, _⟩ => ⟨S4x4096x8x128, .f32⟩
  | .hbm, ⟨39, _⟩ => ⟨S1x4096x1x128, .f32⟩
  | .hbm, ⟨40, _⟩ => ⟨S4x4096x8x128, .f32⟩
  | .hbm, ⟨41, _⟩ => ⟨S4x4096x8x128, .f32⟩
  | .hbm, ⟨42, _⟩ => ⟨S4x4096x8x128, .f32⟩
  | .hbm, ⟨43, _⟩ => ⟨S4x4096x8x128, .f32⟩
  | .hbm, ⟨44, _⟩ => ⟨S4x4096x8x256, .f32⟩
  | .hbm, ⟨45, _⟩ => ⟨S4x4096x128, .f32⟩
  | .hbm, ⟨46, _⟩ => ⟨S4x4096x8x256, .bf16⟩
  | .hbm, ⟨47, _⟩ => ⟨S4x4096x2048, .bf16⟩
  | .hbm, ⟨48, _⟩ => ⟨S4x4096x512, .bf16⟩
  | .hbm, ⟨49, _⟩ => ⟨S512x2048, .f32⟩
  | .hbm, ⟨50, _⟩ => ⟨S512x2048, .bf16⟩
  | .hbm, ⟨51, _⟩ => ⟨S128, .f32⟩
  | .hbm, ⟨52, _⟩ => ⟨S1x128, .f32⟩
  | .hbm, ⟨53, _⟩ => ⟨S4x4096x1024, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x4096x512, .bf16⟩
  | .local _ .vmem, ⟨3, _⟩ => ⟨S1x4096x512, .bf16⟩
  | .local _ .vmem, ⟨4, _⟩ => ⟨S512x256, .bf16⟩
  | .local _ .vmem, ⟨5, _⟩ => ⟨S512x256, .bf16⟩
  | .local _ .vmem, ⟨6, _⟩ => ⟨S1x128, .f32⟩
  | .local _ .vmem, ⟨7, _⟩ => ⟨S1x4096x128, .f32⟩
  | .local _ .vmem, ⟨8, _⟩ => ⟨S1x4096x128, .f32⟩
  | .local _ .vmem, ⟨9, _⟩ => ⟨S1x4096x128, .bf16⟩
  | .local _ .vmem, ⟨10, _⟩ => ⟨S1x4096x128, .bf16⟩
  | .local _ .vmem, ⟨11, _⟩ => ⟨S256x256, .f32⟩
  | .local _ .vmem, ⟨12, _⟩ => ⟨S1x4096x256, .bf16⟩
  | .local _ .vmem, ⟨13, _⟩ => ⟨S1x16x128x256, .bf16⟩
  | .local _ .vmem, ⟨14, _⟩ => ⟨S4096x256, .f32⟩
  | .local _ .vmem, ⟨15, _⟩ => ⟨S4096x256, .f32⟩
  | .local _ .vmem, ⟨16, _⟩ => ⟨S4096x256, .f32⟩
  | _, _ => ⟨S4x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_cst_2 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x4096x8x128 : Shape := ⟨4, ![4, 4096, 8, 128]⟩
abbrev S4x4096x8x64 : Shape := ⟨4, ![4, 4096, 8, 64]⟩
abbrev S4x4096x512 : Shape := ⟨3, ![4, 4096, 512]⟩
abbrev S4x4096x64 : Shape := ⟨3, ![4, 4096, 64]⟩
abbrev S1x512x2048 : Shape := ⟨3, ![1, 512, 2048]⟩
abbrev S1x128 : Shape := ⟨2, ![1, 128]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x8x32 : Shape := ⟨4, ![4, 4096, 8, 32]⟩
abbrev S512x2048 : Shape := ⟨2, ![512, 2048]⟩
abbrev S128 : Shape := ⟨1, ![128]⟩
abbrev S4x4096x2048 : Shape := ⟨3, ![4, 4096, 2048]⟩
abbrev S4x4096x8x256 : Shape := ⟨4, ![4, 4096, 8, 256]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S4x8x4096x4096 : Shape := ⟨4, ![4, 8, 4096, 4096]⟩
abbrev S4x4096x4096x8 : Shape := ⟨4, ![4, 4096, 4096, 8]⟩
abbrev S1x4096 : Shape := ⟨2, ![1, 4096]⟩
abbrev S4096x4096 : Shape := ⟨2, ![4096, 4096]⟩
abbrev S1x1x4096x4096 : Shape := ⟨4, ![1, 1, 4096, 4096]⟩
abbrev S4x8x4096 : Shape := ⟨3, ![4, 8, 4096]⟩
abbrev S4x8x4096x1 : Shape := ⟨4, ![4, 8, 4096, 1]⟩
abbrev S4x8x128x4096 : Shape := ⟨4, ![4, 8, 128, 4096]⟩
abbrev S4x4096x1024 : Shape := ⟨3, ![4, 4096, 1024]⟩

abbrev nBuf : Space → Nat
  | .hbm => 134
  | .vmem => 0
  | .smem => 0
  | _ => 0

abbrev hbmTy0_0 (i : Nat) : BufTy := match i % 128 with
  | 0 => ⟨S4x4096x8x128, .f32⟩
  | 1 => ⟨S4x4096x8x64, .f32⟩
  | 2 => ⟨S4x4096x512, .f32⟩
  | 3 => ⟨S4x4096x64, .f32⟩
  | 4 => ⟨S1x512x2048, .f32⟩
  | 5 => ⟨S1x128, .f32⟩
  | 6 => ⟨S4096, .i32⟩
  | 7 => ⟨S32, .f32⟩
  | 8 => ⟨S_, .f32⟩
  | 9 => ⟨S32, .f32⟩
  | 10 => ⟨S32, .f32⟩
  | 11 => ⟨S32, .f32⟩
  | 12 => ⟨S_, .f32⟩
  | 13 => ⟨S32, .f32⟩
  | 14 => ⟨S32, .f32⟩
  | 15 => ⟨S4096, .f32⟩
  | 16 => ⟨S4096x1, .f32⟩
  | 17 => ⟨S1x32, .f32⟩
  | 18 => ⟨S4096x32, .f32⟩
  | 19 => ⟨S4096x32, .f32⟩
  | 20 => ⟨S4096x32, .f32⟩
  | 21 => ⟨S4096x32, .f32⟩
  | 22 => ⟨S1x4096x1x32, .f32⟩
  | 23 => ⟨S4096x32, .f32⟩
  | 24 => ⟨S1x4096x1x32, .f32⟩
  | 25 => ⟨S4x4096x8x32, .f32⟩
  | 26 => ⟨S4x4096x8x32, .f32⟩
  | 27 => ⟨S4x4096x8x32, .f32⟩
  | 28 => ⟨S4x4096x8x32, .f32⟩
  | 29 => ⟨S4x4096x8x32, .f32⟩
  | 30 => ⟨S4x4096x8x32, .f32⟩
  | 31 => ⟨S4x4096x8x32, .f32⟩
  | 32 => ⟨S4x4096x8x32, .f32⟩
  | 33 => ⟨S4x4096x8x32, .f32⟩
  | 34 => ⟨S4x4096x8x32, .f32⟩
  | 35 => ⟨S4x4096x8x32, .f32⟩
  | 36 => ⟨S4x4096x8x32, .f32⟩
  | 37 => ⟨S4x4096x8x64, .f32⟩
  | 38 => ⟨S512x2048, .f32⟩
  | 39 => ⟨S128, .f32⟩
  | 40 => ⟨S4x4096x2048, .f32⟩
  | 41 => ⟨S4x4096x8x256, .f32⟩
  | 42 => ⟨S4x4096x8x128, .f32⟩
  | 43 => ⟨S4x4096x8x128, .f32⟩
  | 44 => ⟨S_, .f32⟩
  | 45 => ⟨S4x4096x8, .f32⟩
  | 46 => ⟨S4x4096x8x1, .f32⟩
  | 47 => ⟨S_, .f32⟩
  | 48 => ⟨S4x4096x8x1, .f32⟩
  | 49 => ⟨S4x4096x8x1, .f32⟩
  | 50 => ⟨S_, .f32⟩
  | 51 => ⟨S4x4096x8x1, .f32⟩
  | 52 => ⟨S4x4096x8x1, .f32⟩
  | 53 => ⟨S4x4096x8x1, .f32⟩
  | 54 => ⟨S4x4096x8x128, .f32⟩
  | 55 => ⟨S4x4096x8x128, .f32⟩
  | 56 => ⟨S1x1x1x128, .f32⟩
  | 57 => ⟨S4x4096x8x128, .f32⟩
  | 58 => ⟨S4x4096x8x128, .f32⟩
  | 59 => ⟨S4x4096x8x128, .f32⟩
  | 60 => ⟨S4x8x4096x4096, .f32⟩
  | 61 => ⟨S4x4096x4096x8, .f32⟩
  | 62 => ⟨S4x8x4096x4096, .f32⟩
  | 63 => ⟨S4x8x4096x4096, .f32⟩
  | 64 => ⟨S_, .f32⟩
  | 65 => ⟨S_, .f32⟩
  | 66 => ⟨S_, .f32⟩
  | 67 => ⟨S4x8x4096x4096, .f32⟩
  | 68 => ⟨S4x8x4096x4096, .f32⟩
  | 69 => ⟨S1x4096, .i32⟩
  | 70 => ⟨S_, .i32⟩
  | 71 => ⟨S_, .i32⟩
  | 72 => ⟨S1x4096, .i32⟩
  | 73 => ⟨S1x4096, .i32⟩
  | 74 => ⟨S1x4096, .i32⟩
  | 75 => ⟨S_, .i32⟩
  | 76 => ⟨S1x4096, .i32⟩
  | 77 => ⟨S1x4096, .i1⟩
  | 78 => ⟨S1x4096, .i32⟩
  | 79 => ⟨S1x4096, .i32⟩
  | 80 => ⟨S_, .i32⟩
  | 81 => ⟨S1x4096, .i32⟩
  | 82 => ⟨S1x4096, .i1⟩
  | 83 => ⟨S1x4096, .i1⟩
  | 84 => ⟨S_, .i32⟩
  | 85 => ⟨S1x4096, .i32⟩
  | 86 => ⟨S1x4096, .i32⟩
  | 87 => ⟨S1x4096, .i32⟩
  | 88 => ⟨S4096x1, .i32⟩
  | 89 => ⟨S_, .i32⟩
  | 90 => ⟨S_, .i32⟩
  | 91 => ⟨S4096x1, .i32⟩
  | 92 => ⟨S4096x1, .i32⟩
  | 93 => ⟨S4096x1, .i32⟩
  | 94 => ⟨S_, .i32⟩
  | 95 => ⟨S4096x1, .i32⟩
  | 96 => ⟨S4096x1, .i1⟩
  | 97 => ⟨S4096x1, .i32⟩
  | 98 => ⟨S4096x1, .i32⟩
  | 99 => ⟨S_, .i32⟩
  | 100 => ⟨S4096x1, .i32⟩
  | 101 => ⟨S4096x1, .i1⟩
  | 102 => ⟨S4096x1, .i1⟩
  | 103 => ⟨S_, .i32⟩
  | 104 => ⟨S4096x1, .i32⟩
  | 105 => ⟨S4096x1, .i32⟩
  | 106 => ⟨S4096x1, .i32⟩
  | 107 => ⟨S4096x4096, .i32⟩
  | 108 => ⟨S4096x4096, .i32⟩
  | 109 => ⟨S4096x4096, .i1⟩
  | 110 => ⟨S1x1x4096x4096, .i1⟩
  | 111 => ⟨S_, .f32⟩
  | 112 => ⟨S_, .f32⟩
  | 113 => ⟨S4x8x4096x4096, .i1⟩
  | 114 => ⟨S4x8x4096x4096, .f32⟩
  | 115 => ⟨S4x8x4096x4096, .f32⟩
  | 116 => ⟨S_, .f32⟩
  | 117 => ⟨S4x8x4096, .f32⟩
  | 118 => ⟨S_, .f32⟩
  | 119 => ⟨S4x8x4096, .f32⟩
  | 120 => ⟨S4x8x4096, .f32⟩
  | 121 => ⟨S4x8x4096x1, .f32⟩
  | 122 => ⟨S4x8x4096x4096, .f32⟩
  | 123 => ⟨S4x8x4096x4096, .f32⟩
  | 124 => ⟨S4x8x4096x4096, .f32⟩
  | 125 => ⟨S_, .f32⟩
  | 126 => ⟨S4x8x4096, .f32⟩
  | 127 => ⟨S4x8x4096x1, .f32⟩
  | _ => ⟨S4x4096x8x128, .f32⟩

abbrev hbmTy0_1 (i : Nat) : BufTy := match i % 128 with
  | 0 => ⟨S4x8x4096x4096, .f32⟩
  | 1 => ⟨S4x8x4096x4096, .f32⟩
  | 2 => ⟨S4x8x128x4096, .f32⟩
  | 3 => ⟨S4x4096x8x128, .f32⟩
  | 4 => ⟨S4x4096x1024, .f32⟩
  | 5 => ⟨S4x4096x1024, .bf16⟩
  | _ => ⟨S4x4096x8x128, .f32⟩

abbrev hbmTy (i : Nat) : BufTy := match i / 128 with
  | 0 => hbmTy0_0 i
  | 1 => hbmTy0_1 i
  | _ => ⟨S4x4096x8x128, .f32⟩

abbrev bufTy : (tb : Table) → Fin (tcTables nBuf tb) → BufTy
  | .hbm, ⟨i, _⟩ => hbmTy i
  | _, _ => ⟨S4x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_1 : Ref sig .tc := ⟨.hbm, 44, rfl⟩
abbrev main_v36 : Ref sig .tc := ⟨.hbm, 45, rfl⟩
abbrev main_v37 : Ref sig .tc := ⟨.hbm, 46, rfl⟩
abbrev main_cst_2 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_4 : Ref sig .tc := ⟨.hbm, 64, rfl⟩
abbrev main_cst_5 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_c : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_v5 : Ref sig .tc := ⟨.hbm, 76, rfl⟩
abbrev main_call0_v6 : Ref sig .tc := ⟨.hbm, 77, rfl⟩
abbrev main_call0_v7 : Ref sig .tc := ⟨.hbm, 78, rfl⟩
abbrev main_call0_v8 : Ref sig .tc := ⟨.hbm, 79, rfl⟩
abbrev main_call0_c : Ref sig .tc := ⟨.hbm, 80, rfl⟩
abbrev main_call0_v9 : Ref sig .tc := ⟨.hbm, 81, rfl⟩
abbrev main_call0_v10 : Ref sig .tc := ⟨.hbm, 82, rfl⟩
abbrev main_call0_v11 : Ref sig .tc := ⟨.hbm, 83, rfl⟩
abbrev main_call0_c_0 : Ref sig .tc := ⟨.hbm, 84, rfl⟩
abbrev main_call0_v12 : Ref sig .tc := ⟨.hbm, 85, rfl⟩
abbrev main_call0_v13 : Ref sig .tc := ⟨.hbm, 86, rfl⟩
abbrev main_v57 : Ref sig .tc := ⟨.hbm, 87, rfl⟩
abbrev main_v58 : Ref sig .tc := ⟨.hbm, 88, rfl⟩
abbrev main_c_6 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_v6 : Ref sig .tc := ⟨.hbm, 96, rfl⟩
abbrev main_call1_v7 : Ref sig .tc := ⟨.hbm, 97, rfl⟩
abbrev main_call1_v8 : Ref sig .tc := ⟨.hbm, 98, rfl⟩
abbrev main_call1_c : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_call1_c_0 : Ref sig .tc := ⟨.hbm, 103, rfl⟩
abbrev main_call1_v12 : Ref sig .tc := ⟨.hbm, 104, rfl⟩
abbrev main_call1_v13 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_cst_7 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_v64 : Ref sig .tc := ⟨.hbm, 115, rfl⟩
abbrev main_cst_8 : Ref sig .tc := ⟨.hbm, 116, rfl⟩
abbrev main_v65 : Ref sig .tc := ⟨.hbm, 117, rfl⟩
abbrev main_cst_9 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_cst_10 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩

abbrev nD : Nat := 1
abbrev τ : Topo := Topo.v7x

variable {F : FTy → Type} [FloatOps F]
-- ==== Ffn.lean ====
abbrev S4x4096x2048 : Shape := ⟨3, ![4, 4096, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S1024x2048 : Shape := ⟨2, ![1024, 2048]⟩
abbrev S2048x1024 : Shape := ⟨2, ![2048, 1024]⟩
abbrev S1024 : Shape := ⟨1, ![1024]⟩
abbrev S1024x1 : Shape := ⟨2, ![1024, 1]⟩
abbrev S1024x1024 : Shape := ⟨2, ![1024, 1024]⟩

abbrev nBuf : Space → Nat
  | .hbm => 12
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S16384x2048, .f32⟩
  | .hbm, ⟨5, _⟩ => ⟨S2048, .f32⟩
  | .hbm, ⟨6, _⟩ => ⟨S1x2048, .f32⟩
  | .hbm, ⟨7, _⟩ => ⟨S2048x8192, .f32⟩
  | .hbm, ⟨8, _⟩ => ⟨S2048x8192, .bf16⟩
  | .hbm, ⟨9, _⟩ => ⟨S8192x2048, .f32⟩
  | .hbm, ⟨10, _⟩ => ⟨S8192x2048, .bf16⟩
  | .hbm, ⟨11, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnReferenceIdeal.lean ====
abbrev S4x4096x2048 : Shape := ⟨3, ![4, 4096, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x8192 : Shape := ⟨2, ![2048, 8192]⟩
abbrev S4x4096x8192 : Shape := ⟨3, ![4, 4096, 8192]⟩
abbrev S8192x2048 : Shape := ⟨2, ![8192, 2048]⟩
abbrev S16384x2048 : Shape := ⟨2, ![16384, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S2048x8192, .f32⟩
  | .hbm, ⟨22, _⟩ => ⟨S4x4096x8192, .f32⟩
  | .hbm, ⟨23, _⟩ => ⟨S_, .f32⟩
  | .hbm, ⟨24, _⟩ => ⟨S4x4096x8192, .f32⟩
  | .hbm, ⟨25, _⟩ => ⟨S4x4096x8192, .f32⟩
  | .hbm, ⟨26, _⟩ => ⟨S4x4096x8192, .f32⟩
  | .hbm, ⟨27, _⟩ => ⟨S8192x2048, .f32⟩
  | .hbm, ⟨28, _⟩ => ⟨S4x4096x2048, .f32⟩
  | .hbm, ⟨29, _⟩ => ⟨S4x4096x2048, .f32⟩
  | .hbm, ⟨30, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Mix.lean ====
abbrev S4x4096x2048 : Shape := ⟨3, ![4, 4096, 2048]⟩
abbrev S4x4096x1024 : Shape := ⟨3, ![4, 4096, 1024]⟩
abbrev S1x2048x9280 : Shape := ⟨3, ![1, 2048, 9280]⟩
abbrev S1x1024x2048 : Shape := ⟨3, ![1, 1024, 2048]⟩
abbrev S2048x9280 : Shape := ⟨2, ![2048, 9280]⟩
abbrev S16384x2048 : Shape := ⟨2, ![16384, 2048]⟩
abbrev S16384x1024 : Shape := ⟨2, ![16384, 1024]⟩
abbrev S2048x2048 : Shape := ⟨2, ![2048, 2048]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 21
  | .vmem => 16
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .f32⟩
  | .hbm, ⟨2, _⟩ => ⟨S4x4096x1024, .f32⟩
  | .hbm, ⟨3, _⟩ => ⟨S1x2048x9280, .f32⟩
  | .hbm, ⟨4, _⟩ => ⟨S1x1024x2048, .f32⟩
  | .hbm, ⟨5, _⟩ => ⟨S1x1024x2048, .f32⟩
  | .hbm, ⟨6, _⟩ => ⟨S2048x9280, .f32⟩
  | .hbm, ⟨7, _⟩ => ⟨S2048x9280, .bf16⟩
  | .hbm, ⟨8, _⟩ => ⟨S16384x2048, .f32⟩
  | .hbm, ⟨9, _⟩ => ⟨S16384x2048, .bf16⟩
  | .hbm, ⟨10, _⟩ => ⟨S16384x1024, .f32⟩
  | .hbm, ⟨11, _⟩ => ⟨S16384x1024, .bf16⟩
  | .hbm, ⟨12, _⟩ => ⟨S16384x1024, .f32⟩
  | .hbm, ⟨13, _⟩ => ⟨S16384x1024, .bf16⟩
  | .hbm, ⟨14, _⟩ => ⟨S2048x2048, .bf16⟩
  | .hbm, ⟨15, _⟩ => ⟨S2048x2048, .bf16⟩
  | .hbm, ⟨16, _⟩ => ⟨S1024x2048, .f32⟩
  | .hbm, ⟨17, _⟩ => ⟨S1024x2048, .bf16⟩
  | .hbm, ⟨18, _⟩ => ⟨S1024x2048, .f32⟩
  | .hbm, ⟨19, _⟩ => ⟨S1024x2048, .bf16⟩
  | .hbm, ⟨20, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MixReferenceIdeal.lean ====
abbrev S4x4096x2048 : Shape := ⟨3, ![4, 4096, 2048]⟩
abbrev S4x4096x1024 : Shape := ⟨3, ![4, 4096, 1024]⟩
abbrev S1x2048x9280 : Shape := ⟨3, ![1, 2048, 9280]⟩
abbrev S1x1024x2048 : Shape := ⟨3, ![1, 1024, 2048]⟩
abbrev S2048x9280 : Shape := ⟨2, ![2048, 9280]⟩
abbrev S4x4096x9280 : Shape := ⟨3, ![4, 4096, 9280]⟩
abbrev S4x4096x1536 : Shape := ⟨3, ![4, 4096, 1536]⟩
abbrev S4x4096x512 : Shape := ⟨3, ![4, 4096, 512]⟩
abbrev S4x4096x64 : Shape := ⟨3, ![4, 4096, 64]⟩
abbrev S_ : Shape := ⟨0, ![]⟩
abbrev S1024x2048 : Shape := ⟨2, ![1024, 2048]⟩
abbrev S16384x2048 : Shape := ⟨2, ![16384, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .f32⟩
  | .hbm, ⟨2, _⟩ => ⟨S4x4096x1024, .f32⟩
  | .hbm, ⟨3, _⟩ => ⟨S1x2048x9280, .f32⟩
  | .hbm, ⟨4, _⟩ => ⟨S1x1024x2048, .f32⟩
  | .hbm, ⟨5, _⟩ => ⟨S1x1024x2048, .f32⟩
  | .hbm, ⟨6, _⟩ => ⟨S2048x9280, .f32⟩
  | .hbm, ⟨7, _⟩ => ⟨S4x4096x9280, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S4x4096x1536, .f32⟩
  | .hbm, ⟨12, _⟩ => ⟨S4x4096x512, .f32⟩
  | .hbm, ⟨13, _⟩ => ⟨S4x4096x64, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S_, .f32⟩
  | .hbm, ⟨19, _⟩ => ⟨S4x4096x2048, .f32⟩
  | .hbm, ⟨20, _⟩ => ⟨S4x4096x2048, .f32⟩
  | .hbm, ⟨21, _⟩ => ⟨S_, .f32⟩
  | .hbm, ⟨22, _⟩ => ⟨S4x4096x2048, .f32⟩
  | .hbm, ⟨23, _⟩ => ⟨S4x4096x2048, .f32⟩
  | .hbm, ⟨24, _⟩ => ⟨S1024x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S_, .f32⟩
  | .hbm, ⟨30, _⟩ => ⟨S4x4096x2048, .f32⟩
  | .hbm, ⟨31, _⟩ => ⟨S4x4096x2048, .f32⟩
  | .hbm, ⟨32, _⟩ => ⟨S_, .f32⟩
  | .hbm, ⟨33, _⟩ => ⟨S4x4096x2048, .f32⟩
  | .hbm, ⟨34, _⟩ => ⟨S4x4096x2048, .f32⟩
  | .hbm, ⟨35, _⟩ => ⟨S1024x2048, .f32⟩
  | .hbm, ⟨36, _⟩ => ⟨S4x4096x2048, .f32⟩
  | .hbm, ⟨37, _⟩ => ⟨S4x4096x2048, .f32⟩
  | .hbm, ⟨38, _⟩ => ⟨S4x4096x2048, .f32⟩
  | .hbm, ⟨39, _⟩ => ⟨S16384x2048, .f32⟩
  | .hbm, ⟨40, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Outproj.lean ====
abbrev S4x4096x2048 : Shape := ⟨3, ![4, 4096, 2048]⟩
abbrev S1x2048x2048 : Shape := ⟨3, ![1, 2048, 2048]⟩
abbrev S16384x2048 : Shape := ⟨2, ![16384, 2048]⟩
abbrev S2048x2048 : Shape := ⟨2, ![2048, 2048]⟩
abbrev S512x2048 : Shape := ⟨2, ![512, 2048]⟩

abbrev nBuf : Space → Nat
  | .hbm => 9
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S1x2048x2048, .f32⟩
  | .hbm, ⟨3, _⟩ => ⟨S16384x2048, .f32⟩
  | .hbm, ⟨4, _⟩ => ⟨S16384x2048, .f32⟩
  | .hbm, ⟨5, _⟩ => ⟨S16384x2048, .bf16⟩
  | .hbm, ⟨6, _⟩ => ⟨S2048x2048, .f32⟩
  | .hbm, ⟨7, _⟩ => ⟨S2048x2048, .bf16⟩
  | .hbm, ⟨8, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutprojReferenceIdeal.lean ====
abbrev S4x4096x2048 : Shape := ⟨3, ![4, 4096, 2048]⟩
abbrev S1x2048x2048 : Shape := ⟨3, ![1, 2048, 2048]⟩
abbrev S2048x2048 : Shape := ⟨2, ![2048, 2048]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S1x2048x2048, .f32⟩
  | .hbm, ⟨3, _⟩ => ⟨S2048x2048, .f32⟩
  | .hbm, ⟨4, _⟩ => ⟨S4x4096x2048, .f32⟩
  | .hbm, ⟨5, _⟩ => ⟨S4x4096x2048, .f32⟩
  | .hbm, ⟨6, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kv.lean ====
abbrev S4x4096x2048 : Shape := ⟨3, ![4, 4096, 2048]⟩
abbrev S1x2048 : Shape := ⟨2, ![1, 2048]⟩
abbrev S1x2048x9280 : Shape := ⟨3, ![1, 2048, 9280]⟩
abbrev S1x128 : Shape := ⟨2, ![1, 128]⟩
abbrev S16384x2048 : Shape := ⟨2, ![16384, 2048]⟩
abbrev S2048 : Shape := ⟨1, ![2048]⟩
abbrev S2048x9280 : Shape := ⟨2, ![2048, 9280]⟩
abbrev S128 : Shape := ⟨1, ![128]⟩
abbrev S16384x128 : Shape := ⟨2, ![16384, 128]⟩
abbrev S512x2048 : Shape := ⟨2, ![512, 2048]⟩
abbrev S2048x1024 : Shape := ⟨2, ![2048, 1024]⟩
abbrev S4096x128 : Shape := ⟨2, ![4096, 128]⟩
abbrev S512 : Shape := ⟨1, ![512]⟩
abbrev S512x1 : Shape := ⟨2, ![512, 1]⟩
abbrev S512x1024 : Shape := ⟨2, ![512, 1024]⟩
abbrev S512x128 : Shape := ⟨2, ![512, 128]⟩

abbrev nBuf : Space → Nat
  | .hbm => 13
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x9280, .f32⟩
  | .hbm, ⟨3, _⟩ => ⟨S1x128, .f32⟩
  | .hbm, ⟨4, _⟩ => ⟨S16384x2048, .f32⟩
  | .hbm, ⟨5, _⟩ => ⟨S2048, .f32⟩
  | .hbm, ⟨6, _⟩ => ⟨S1x2048, .f32⟩
  | .hbm, ⟨7, _⟩ => ⟨S2048x9280, .f32⟩
  | .hbm, ⟨8, _⟩ => ⟨S2048x9280, .bf16⟩
  | .hbm, ⟨9, _⟩ => ⟨S128, .f32⟩
  | .hbm, ⟨10, _⟩ => ⟨S1x128, .f32⟩
  | .hbm, ⟨11, _⟩ => ⟨S16384x128, .f32⟩
  | .hbm, ⟨12, _⟩ => ⟨S16384x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c8_i32 : BitVec 32 := 8#32
  let v17 : BitVec 32 := Scalar.muli v16 c8_i32
  let c7_i32 : BitVec 32 := 7#32
  let v18 : BitVec 32 := Scalar.addi v17 c7_i32
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c0_i32_11 : BitVec 32 := 0#32
  let c0_i32_12 : BitVec 32 := 0#32
  ![v29.toNat, c0_i32_11.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KvReferenceIdeal.lean ====
abbrev S4x4096x2048 : Shape := ⟨3, ![4, 4096, 2048]⟩
abbrev S1x2048 : Shape := ⟨2, ![1, 2048]⟩
abbrev S1x2048x9280 : Shape := ⟨3, ![1, 2048, 9280]⟩
abbrev S1x128 : Shape := ⟨2, ![1, 128]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x9280 : Shape := ⟨2, ![2048, 9280]⟩
abbrev S4x4096x9280 : Shape := ⟨3, ![4, 4096, 9280]⟩
abbrev S4x4096x1024 : Shape := ⟨3, ![4, 4096, 1024]⟩
abbrev S4x4096x1536 : Shape := ⟨3, ![4, 4096, 1536]⟩
abbrev S4x4096x512 : Shape := ⟨3, ![4, 4096, 512]⟩
abbrev S4x4096x64 : Shape := ⟨3, ![4, 4096, 64]⟩
abbrev S4x4096x8x128 : Shape := ⟨4, ![4, 4096, 8, 128]⟩
abbrev S128 : Shape := ⟨1, ![128]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S4x512x8x128 : Shape := ⟨4, ![4, 512, 8, 128]⟩
abbrev S16384x128 : Shape := ⟨2, ![16384, 128]⟩

abbrev nBuf : Space → Nat
  | .hbm => 54
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x9280, .f32⟩
  | .hbm, ⟨3, _⟩ => ⟨S1x128, .f32⟩
  | .hbm, ⟨4, _⟩ => ⟨S2048, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S2048x9280, .f32⟩
  | .hbm, ⟨22, _⟩ => ⟨S4x4096x9280, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S4x4096x1536, .f32⟩
  | .hbm, ⟨27, _⟩ => ⟨S4x4096x512, .f32⟩
  | .hbm, ⟨28, _⟩ => ⟨S4x4096x64, .f32⟩
  | .hbm, ⟨29, _⟩ => ⟨S4x4096x2048, .f32⟩
  | .hbm, ⟨30, _⟩ => ⟨S4x4096x2048, .f32⟩
  | .hbm, ⟨31, _⟩ => ⟨S4x4096x8x128, .f32⟩
  | .hbm, ⟨32, _⟩ => ⟨S128, .f32⟩
  | .hbm, ⟨33, _⟩ => ⟨S4x4096x8x128, .f32⟩
  | .hbm, ⟨34, _⟩ => ⟨S_, .f32⟩
  | .hbm, ⟨35, _⟩ => ⟨S4x4096x8, .f32⟩
  | .hbm, ⟨36, _⟩ => ⟨S4x4096x8x1, .f32⟩
  | .hbm, ⟨37, _⟩ => ⟨S_, .f32⟩
  | .hbm, ⟨38, _⟩ => ⟨S4x4096x8x1, .f32⟩
  | .hbm, ⟨39, _⟩ => ⟨S4x4096x8x1, .f32⟩
  | .hbm, ⟨40, _⟩ => ⟨S_, .f32⟩
  | .hbm, ⟨41, _⟩ => ⟨S4x4096x8x1, .f32⟩
  | .hbm, ⟨42, _⟩ => ⟨S4x4096x8x1, .f32⟩
  | .hbm, ⟨43, _⟩ => ⟨S4x4096x8x1, .f32⟩
  | .hbm, ⟨44, _⟩ => ⟨S4x4096x8x128, .f32⟩
  | .hbm, ⟨45, _⟩ => ⟨S4x4096x8x128, .f32⟩
  | .hbm, ⟨46, _⟩ => ⟨S1x1x1x128, .f32⟩
  | .hbm, ⟨47, _⟩ => ⟨S4x4096x8x128, .f32⟩
  | .hbm, ⟨48, _⟩ => ⟨S4x4096x8x128, .f32⟩
  | .hbm, ⟨49, _⟩ => ⟨S4x4096x8x128, .f32⟩
  | .hbm, ⟨50, _⟩ => ⟨S4x512x8x128, .f32⟩
  | .hbm, ⟨51, _⟩ => ⟨S16384x128, .f32⟩
  | .hbm, ⟨52, _⟩ => ⟨S4x512x8x128, .f32⟩
  | .hbm, ⟨53, _⟩ => ⟨S16384x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]
-- ==== Proof.Entry.lean ====
module

public import proofs.«01_k».proof.Proof.Gen.KernelIdeal.Value
public import Idealize.ShloMosaic.Lib.StableHlo.RunRead

@[expose] public section

set_option maxRecDepth 16384

noncomputable section

/-! Each buffer the host operations before the call write, as its operation on the buffers they leave. -/

namespace Cert.Entry

open Idealize.ShloMosaic Idealize.ShloMosaic.TcCoe Idealize.ShloMosaic.StableHlo

section
variable {τ : Topo} {sig : RefSig} {Val : EltTy → Type}

/-- An operand not written from position `k` on is left as it stands there. -/
theorem after_eq_upto {ops : List (HloOp τ sig Val)} {W : List (Ref sig .tc)} (hW : ops.map HloOp.writes = W.map fun w => {Proc.devRef (τ := τ) .tc w})
    (k : ℕ) {r : Ref sig .tc} (hr : r ∉ W.drop k) (σ : Valuation τ sig Val) : after ops σ (Proc.devRef .tc r) = upto ops σ k (Proc.devRef .tc r) := by
  have h : after (ops.drop k) (upto ops σ k) (Proc.devRef .tc r) = upto ops σ k (Proc.devRef .tc r) :=
    after_unwritten (W.drop k) (by rw [List.map_drop, hW, List.map_drop]) hr _
  refine Eq.trans ?_ h
  unfold upto
  have h2 : ∀ (l₁ l₂ : List (HloOp τ sig Val)) (V : Valuation τ sig Val), after (l₁ ++ l₂) V = after l₂ (after l₁ V) := by
    intro l₁
    induction l₁ with
    | nil => intro _ _; rfl
    | cons a l ih => intro l₂ V; exact ih l₂ _
  rw [← h2, List.take_append_drop]

theorem after_at {ops : List (HloOp τ sig Val)} {W : List (Ref sig .tc)} (hW : ops.map HloOp.writes = W.map fun w => {Proc.devRef (τ := τ) .tc w})
    (k : ℕ) {op : HloOp τ sig Val} {rest : List (HloOp τ sig Val)} (hseg : ops.drop k = op :: rest) {r : Ref sig .tc} (hr : r ∉ W.drop (k + 1)) (σ : Valuation τ sig Val) :
    after ops σ (Proc.devRef .tc r) = op.result (upto ops σ k) (Proc.devRef .tc r) :=
  after_last_write (W.drop (k + 1)) hseg (by
    have : rest = ops.drop (k + 1) := by rw [← List.drop_drop, hseg]; rfl
    rw [this, List.map_drop, hW, List.map_drop]) hr σ

variable {ops : List (HloOp τ sig Val)} {W : List (Ref sig .tc)} {rest : List (HloOp τ sig Val)}

theorem ssa0 (hW : ops.map HloOp.writes = W.map fun w => {Proc.devRef (τ := τ) .tc w}) (k : ℕ) {y : Ref sig .tc} {f : y.ty.Contents Val} {hy}
    (hseg : ops.drop k = nullary (τ := τ) y f hy :: rest) (h : y ∉ W.drop (k + 1)) (σ : Valuation τ sig Val) : after ops σ (Proc.devRef .tc y) = f := by
  rw [after_at hW k hseg h, nullary_result]

theorem ssa1 (hW : ops.map HloOp.writes = W.map fun w => {Proc.devRef (τ := τ) .tc w}) (k : ℕ) {a y : Ref sig .tc} {f : a.ty.Contents Val → y.ty.Contents Val} {ha hy}
    (hseg : ops.drop k = unary (τ := τ) a y f ha hy :: rest) (h : y ∉ W.drop (k + 1)) (h1 : a ∉ W.drop k) (σ : Valuation τ sig Val) :
    after ops σ (Proc.devRef .tc y) = f (after ops σ (Proc.devRef .tc a)) := by
  rw [after_at hW k hseg h, unary_result, after_eq_upto hW k h1]

theorem ssa2 (hW : ops.map HloOp.writes = W.map fun w => {Proc.devRef (τ := τ) .tc w}) (k : ℕ) {a b y : Ref sig .tc}
    {f : a.ty.Contents Val → b.ty.Contents Val → y.ty.Contents Val} {ha hb hy}
    (hseg : ops.drop k = binary (τ := τ) a b y f ha hb hy :: rest) (h : y ∉ W.drop (k + 1)) (h1 : a ∉ W.drop k) (h2 : b ∉ W.drop k) (σ : Valuation τ sig Val) :
    after ops σ (Proc.devRef .tc y) = f (after ops σ (Proc.devRef .tc a)) (after ops σ (Proc.devRef .tc b)) := by
  rw [after_at hW k hseg h, binary_result, after_eq_upto hW k h1, after_eq_upto hW k h2]

theorem ssaR (hW : ops.map HloOp.writes = W.map fun w => {Proc.devRef (τ := τ) .tc w}) (k : ℕ) {a y : Ref sig .tc} {he hn ha hy}
    (hseg : ops.drop k = reshape (τ := τ) (Val := Val) a y he hn ha hy :: rest) (h : y ∉ W.drop (k + 1)) (h1 : a ∉ W.drop k) (σ : Valuation τ sig Val) :
    after ops σ (Proc.devRef .tc y) = fun i => he ▸ shapeCast y.ty.shape (after ops σ (Proc.devRef .tc a)) hn i := by
  rw [after_at hW k hseg h, reshape_result, after_eq_upto hW k h1]

theorem ssaN (hW : ops.map HloOp.writes = W.map fun w => {Proc.devRef (τ := τ) .tc w}) (k : ℕ) {n : ℕ} {xs : Fin n → Ref sig .tc} {y : Ref sig .tc}
    {f : ((k : Fin n) → (xs k).ty.Contents Val) → y.ty.Contents Val} {ha hy}
    (hseg : ops.drop k = nary (τ := τ) xs y f ha hy :: rest) (h : y ∉ W.drop (k + 1)) (h1 : ∀ i, xs i ∉ W.drop k) (σ : Valuation τ sig Val) :
    after ops σ (Proc.devRef .tc y) = f (fun i => after ops σ (Proc.devRef .tc (xs i))) := by
  rw [after_at hW k hseg h, nary_result]
  exact congrArg f (funext fun i => (after_eq_upto hW k (h1 i) σ).symm)

end

open Cert.KernelIdeal Cert.KernelIdeal.Gen

variable (m : (ℓ : Loc nD τ sig) → Buf (Elt Ideal) ℓ)

/-- The buffers written, in order. -/
abbrev written : List (Ref sig .tc) := [main_v0, main_v1, main_cst, main_v2, main_v3, main_v4, main_cst_0, main_v5, main_v6, main_v7, main_v8, main_v9, main_v10, main_v11, main_v12, main_v13, main_v14, main_v15, main_v16, main_v17, main_v18, main_v19, main_cst_1, main_cst_2, main_v20, main_cst_3, main_v21, main_v22, main_v23, main_v24, main_v25, main_v26, main_v27, main_v28, main_v29, main_v30, main_v31, main_v32, main_v33, main_v34, main_v35, main_v36, main_v37, main_v38, main_v39, main_v40, main_v41]

theorem writes_eq : (hostOps0 (F := Ideal)).map HloOp.writes = written.map fun w => {Proc.devRef (τ := τ) .tc w} := rfl

theorem E_v0 (c : Dev nD) : V m c main_v0 = (iotaInDim S4096 32 0) :=
  ssa0 writes_eq 0 rfl (by decide) _

theorem E_v1 (c : Dev nD) : V m c main_v1 = (sitofp (F := Ideal) .f32 (iotaInDim S32 32 0)) :=
  ssa0 writes_eq 1 rfl (by decide) _

theorem E_cst (c : Dev nD) : V m c main_cst = (constant (F := Ideal) S_ .f32 0x42000000#32) :=
  ssa0 writes_eq 2 rfl (by decide) _

theorem E_v2 (c : Dev nD) : V m c main_v2 = (broadcastInDim S32 ![] bcast_S_S32 : (⟨S_, .f32⟩ : BufTy).Contents (Elt Ideal) → (⟨S32, .f32⟩ : BufTy).Contents (Elt Ideal)) (V m c main_cst) :=
  ssa1 writes_eq 3 rfl (by decide) (by decide) _

theorem E_v3 (c : Dev nD) : V m c main_v3 = (Host.divf (F := Ideal) (s := S32) (φ := .f32) : (⟨S32, .f32⟩ : BufTy).Contents (Elt Ideal) → (⟨S32, .f32⟩ : BufTy).Contents (Elt Ideal) → (⟨S32, .f32⟩ : BufTy).Contents (Elt Ideal)) (V m c main_v1) (V m c main_v2) :=
  ssa2 writes_eq 4 rfl (by decide) (by decide) (by decide) _

theorem E_v4 (c : Dev nD) : V m c main_v4 = (Host.negf (F := Ideal) (s := S32) (φ := .f32) : (⟨S32, .f32⟩ : BufTy).Contents (Elt Ideal) → (⟨S32, .f32⟩ : BufTy).Contents (Elt Ideal)) (V m c main_v3) :=
  ssa1 writes_eq 5 rfl (by decide) (by decide) _

theorem E_cst_0 (c : Dev nD) : V m c main_cst_0 = (constant (F := Ideal) S_ .f32 0x461C4000#32) :=
  ssa0 writes_eq 6 rfl (by decide) _

theorem E_v5 (c : Dev nD) : V m c main_v5 = (broadcastInDim S32 ![] bcast_S_S32 : (⟨S_, .f32⟩ : BufTy).Contents (Elt Ideal) → (⟨S32, .f32⟩ : BufTy).Contents (Elt Ideal)) (V m c main_cst_0) :=
  ssa1 writes_eq 7 rfl (by decide) (by decide) _

theorem E_v6 (c : Dev nD) : V m c main_v6 = (Host.powf (F := Ideal) (s := S32) (φ := .f32) : (⟨S32, .f32⟩ : BufTy).Contents (Elt Ideal) → (⟨S32, .f32⟩ : BufTy).Contents (Elt Ideal) → (⟨S32, .f32⟩ : BufTy).Contents (Elt Ideal)) (V m c main_v5) (V m c main_v4) :=
  ssa2 writes_eq 8 rfl (by decide) (by decide) (by decide) _

theorem E_v7 (c : Dev nD) : V m c main_v7 = (sitofp (F := Ideal) (s := S4096) (w := 32) .f32 : (⟨S4096, .i32⟩ : BufTy).Contents (Elt Ideal) → (⟨S4096, .f32⟩ : BufTy).Contents (Elt Ideal)) (V m c main_v0) :=
  ssa1 writes_eq 9 rfl (by decide) (by decide) _

theorem E_v8 (c : Dev nD) : V m c main_v8 = (broadcastInDim S4096x1 ![0] bcast_S4096_S4096x1_0 : (⟨S4096, .f32⟩ : BufTy).Contents (Elt Ideal) → (⟨S4096x1, .f32⟩ : BufTy).Contents (Elt Ideal)) (V m c main_v7) :=
  ssa1 writes_eq 10 rfl (by decide) (by decide) _

theorem E_v9 (c : Dev nD) : V m c main_v9 = (broadcastInDim S1x32 ![1] bcast_S32_S1x32_1 : (⟨S32, .f32⟩ : BufTy).Contents (Elt Ideal) → (⟨S1x32, .f32⟩ : BufTy).Contents (Elt Ideal)) (V m c main_v6) :=
  ssa1 writes_eq 11 rfl (by decide) (by decide) _

theorem E_v10 (c : Dev nD) : V m c main_v10 = (broadcastInDim S4096x32 ![0, 1] bcast_S4096x1_S4096x32_0_1 : (⟨S4096x1, .f32⟩ : BufTy).Contents (Elt Ideal) → (⟨S4096x32, .f32⟩ : BufTy).Contents (Elt Ideal)) (V m c main_v8) :=
  ssa1 writes_eq 12 rfl (by decide) (by decide) _

theorem E_v11 (c : Dev nD) : V m c main_v11 = (broadcastInDim S4096x32 ![0, 1] bcast_S1x32_S4096x32_0_1 : (⟨S1x32, .f32⟩ : BufTy).Contents (Elt Ideal) → (⟨S4096x32, .f32⟩ : BufTy).Contents (Elt Ideal)) (V m c main_v9) :=
  ssa1 writes_eq 13 rfl (by decide) (by decide) _

theorem E_v12 (c : Dev nD) : V m c main_v12 = (mulf (F := Ideal) (s := S4096x32) (φ := .f32) : (⟨S4096x32, .f32⟩ : BufTy).Contents (Elt Ideal) → (⟨S4096x32, .f32⟩ : BufTy).Contents (Elt Ideal) → (⟨S4096x32, .f32⟩ : BufTy).Contents (Elt Ideal)) (V m c main_v10) (V m c main_v11) :=
  ssa2 writes_eq 14 rfl (by decide) (by decide) (by decide) _

theorem E_v13 (c : Dev nD) : V m c main_v13 = (Host.cos (F := Ideal) (s := S4096x32) (φ := .f32) : (⟨S4096x32, .f32⟩ : BufTy).Contents (Elt Ideal) → (⟨S4096x32, .f32⟩ : BufTy).Contents (Elt Ideal)) (V m c main_v12) :=
  ssa1 writes_eq 15 rfl (by decide) (by decide) _

theorem E_v14 (c : Dev nD) : V m c main_v14 = (Host.sin (F := Ideal) (s := S4096x32) (φ := .f32) : (⟨S4096x32, .f32⟩ : BufTy).Contents (Elt Ideal) → (⟨S4096x32, .f32⟩ : BufTy).Contents (Elt Ideal)) (V m c main_v12) :=
  ssa1 writes_eq 16 rfl (by decide) (by decide) _

theorem E_v15 (c : Dev nD) : V m c main_v15 = (Host.negf (F := Ideal) (s := S4096x32) (φ := .f32) : (⟨S4096x32, .f32⟩ : BufTy).Contents (Elt Ideal) → (⟨S4096x32, .f32⟩ : BufTy).Contents (Elt Ideal)) (V m c main_v14) :=
  ssa1 writes_eq 17 rfl (by decide) (by decide) _

theorem E_v16 (c : Dev nD) : V m c main_v16 = (concatenate S4096x128 1 [⟨S4096x32, (V m c main_v13 : (⟨S4096x32, .f32⟩ : BufTy).Contents (Elt Ideal))⟩, ⟨S4096x32, (V m c main_v13 : (⟨S4096x32, .f32⟩ : BufTy).Contents (Elt Ideal))⟩, ⟨S4096x32, (V m c main_v15 : (⟨S4096x32, .f32⟩ : BufTy).Contents (Elt Ideal))⟩, ⟨S4096x32, (V m c main_v14 : (⟨S4096x32, .f32⟩ : BufTy).Contents (Elt Ideal))⟩] concatenates_S4096x32_S4096x32_S4096x32_S4096x32_S4096x128_d1 : (⟨S4096x128, .f32⟩ : BufTy).Contents (Elt Ideal)) :=
  ssaN writes_eq 18 rfl (by decide) (by decide) _

theorem E_v17 (c : Dev nD) : V m c main_v17 = shapeCast _ (V m c main_v16) shapeCasts_S4096x128_S1x4096x1x128 :=
  ssaR writes_eq 19 rfl (by decide) (by decide) _

theorem E_v18 (c : Dev nD) : V m c main_v18 = (broadcastInDim S1x4096x1x128 ![0, 1, 2, 3] bcast_S1x4096x1x128_S1x4096x1x128_0_1_2_3 : (⟨S1x4096x1x128, .f32⟩ : BufTy).Contents (Elt Ideal) → (⟨S1x4096x1x128, .f32⟩ : BufTy).Contents (Elt Ideal)) (V m c main_v17) :=
  ssa1 writes_eq 20 rfl (by decide) (by decide) _

theorem E_v19 (c : Dev nD) : V m c main_v19 = shapeCast _ (V m c main_v18) shapeCasts_S1x4096x1x128_S4096x128 :=
  ssaR writes_eq 21 rfl (by decide) (by decide) _

theorem E_cst_1 (c : Dev nD) : V m c main_cst_1 = (constant (F := Ideal) S_ .f32 0x43400000#32) :=
  ssa0 writes_eq 22 rfl (by decide) _

theorem E_cst_2 (c : Dev nD) : V m c main_cst_2 = (constant (F := Ideal) S_ .f32 0xBF000000#32) :=
  ssa0 writes_eq 23 rfl (by decide) _

theorem E_v20 (c : Dev nD) : V m c main_v20 = (Host.powf (F := Ideal) (s := S_) (φ := .f32) : (⟨S_, .f32⟩ : BufTy).Contents (Elt Ideal) → (⟨S_, .f32⟩ : BufTy).Contents (Elt Ideal) → (⟨S_, .f32⟩ : BufTy).Contents (Elt Ideal)) (V m c main_cst_1) (V m c main_cst_2) :=
  ssa2 writes_eq 24 rfl (by decide) (by decide) (by decide) _

theorem E_cst_3 (c : Dev nD) : V m c main_cst_3 = (constant (F := Ideal) S_ .f32 0x40000000#32) :=
  ssa0 writes_eq 25 rfl (by decide) _

theorem E_v21 (c : Dev nD) : V m c main_v21 = (Host.log (F := Ideal) (s := S_) (φ := .f32) : (⟨S_, .f32⟩ : BufTy).Contents (Elt Ideal) → (⟨S_, .f32⟩ : BufTy).Contents (Elt Ideal)) (V m c main_cst_3) :=
  ssa1 writes_eq 26 rfl (by decide) (by decide) _

theorem E_v22 (c : Dev nD) : V m c main_v22 = (Host.divf (F := Ideal) (s := S_) (φ := .f32) : (⟨S_, .f32⟩ : BufTy).Contents (Elt Ideal) → (⟨S_, .f32⟩ : BufTy).Contents (Elt Ideal) → (⟨S_, .f32⟩ : BufTy).Contents (Elt Ideal)) (V m c main_v20) (V m c main_v21) :=
  ssa2 writes_eq 27 rfl (by decide) (by decide) (by decide) _

theorem E_v23 (c : Dev nD) : V m c main_v23 = (broadcastInDim S4x4096x8x128 ![] bcast_S_S4x4096x8x128 : (⟨S_, .f32⟩ : BufTy).Contents (Elt Ideal) → (⟨S4x4096x8x128, .f32⟩ : BufTy).Contents (Elt Ideal)) (V m c main_v22) :=
  ssa1 writes_eq 28 rfl (by decide) (by decide) _

theorem E_v24 (c : Dev nD) : V m c main_v24 = (mulf (F := Ideal) (s := S4x4096x8x128) (φ := .f32) : (⟨S4x4096x8x128, .f32⟩ : BufTy).Contents (Elt Ideal) → (⟨S4x4096x8x128, .f32⟩ : BufTy).Contents (Elt Ideal) → (⟨S4x4096x8x128, .f32⟩ : BufTy).Contents (Elt Ideal)) (V m c main_arg0) (V m c main_v23) :=
  ssa2 writes_eq 29 rfl (by decide) (by decide) (by decide) _

theorem E_v25 (c : Dev nD) : V m c main_v25 = ((extractStridedSlice S4x4096x8x32 ![0, 0, 0, 32] · slices_S4x4096x8x64_S4x4096x8x32_0_0_0_32) : (⟨S4x4096x8x64, .f32⟩ : BufTy).Contents (Elt Ideal) → (⟨S4x4096x8x32, .f32⟩ : BufTy).Contents (Elt Ideal)) (V m c main_arg1) :=
  ssa1 writes_eq 30 rfl (by decide) (by decide) _

theorem E_v26 (c : Dev nD) : V m c main_v26 = ((extractStridedSlice S4x4096x8x32 ![0, 0, 0, 0] · slices_S4x4096x8x64_S4x4096x8x32_0_0_0_0) : (⟨S4x4096x8x64, .f32⟩ : BufTy).Contents (Elt Ideal) → (⟨S4x4096x8x32, .f32⟩ : BufTy).Contents (Elt Ideal)) (V m c main_arg1) :=
  ssa1 writes_eq 31 rfl (by decide) (by decide) _

theorem E_v27 (c : Dev nD) : V m c main_v27 = (concatenate S4x4096x8x128 3 [⟨S4x4096x8x64, (V m c main_arg1 : (⟨S4x4096x8x64, .f32⟩ : BufTy).Contents (Elt Ideal))⟩, ⟨S4x4096x8x32, (V m c main_v25 : (⟨S4x4096x8x32, .f32⟩ : BufTy).Contents (Elt Ideal))⟩, ⟨S4x4096x8x32, (V m c main_v26 : (⟨S4x4096x8x32, .f32⟩ : BufTy).Contents (Elt Ideal))⟩] concatenates_S4x4096x8x64_S4x4096x8x32_S4x4096x8x32_S4x4096x8x128_d3 : (⟨S4x4096x8x128, .f32⟩ : BufTy).Contents (Elt Ideal)) :=
  ssaN writes_eq 32 rfl (by decide) (by decide) _

theorem E_v28 (c : Dev nD) : V m c main_v28 = (broadcastInDim S1x4096x1x128 ![1, 3] bcast_S4096x128_S1x4096x1x128_1_3 : (⟨S4096x128, .f32⟩ : BufTy).Contents (Elt Ideal) → (⟨S1x4096x1x128, .f32⟩ : BufTy).Contents (Elt Ideal)) (V m c main_v19) :=
  ssa1 writes_eq 33 rfl (by decide) (by decide) _

theorem E_v29 (c : Dev nD) : V m c main_v29 = (broadcastInDim S4x4096x8x128 ![0, 1, 2, 3] bcast_S1x4096x1x128_S4x4096x8x128_0_1_2_3 : (⟨S1x4096x1x128, .f32⟩ : BufTy).Contents (Elt Ideal) → (⟨S4x4096x8x128, .f32⟩ : BufTy).Contents (Elt Ideal)) (V m c main_v28) :=
  ssa1 writes_eq 34 rfl (by decide) (by decide) _

theorem E_v30 (c : Dev nD) : V m c main_v30 = (mulf (F := Ideal) (s := S4x4096x8x128) (φ := .f32) : (⟨S4x4096x8x128, .f32⟩ : BufTy).Contents (Elt Ideal) → (⟨S4x4096x8x128, .f32⟩ : BufTy).Contents (Elt Ideal) → (⟨S4x4096x8x128, .f32⟩ : BufTy).Contents (Elt Ideal)) (V m c main_v27) (V m c main_v29) :=
  ssa2 writes_eq 35 rfl (by decide) (by decide) (by decide) _

theorem E_v31 (c : Dev nD) : V m c main_v31 = (broadcastInDim S4x4096x8x128 ![] bcast_S_S4x4096x8x128 : (⟨S_, .f32⟩ : BufTy).Contents (Elt Ideal) → (⟨S4x4096x8x128, .f32⟩ : BufTy).Contents (Elt Ideal)) (V m c main_v22) :=
  ssa1 writes_eq 36 rfl (by decide) (by decide) _

theorem E_v32 (c : Dev nD) : V m c main_v32 = (mulf (F := Ideal) (s := S4x4096x8x128) (φ := .f32) : (⟨S4x4096x8x128, .f32⟩ : BufTy).Contents (Elt Ideal) → (⟨S4x4096x8x128, .f32⟩ : BufTy).Contents (Elt Ideal) → (⟨S4x4096x8x128, .f32⟩ : BufTy).Contents (Elt Ideal)) (V m c main_v30) (V m c main_v31) :=
  ssa2 writes_eq 37 rfl (by decide) (by decide) (by decide) _

theorem E_v33 (c : Dev nD) : V m c main_v33 = ((fun a b => concatenate S4x4096x8x256 3 [⟨S4x4096x8x128, a⟩, ⟨S4x4096x8x128, b⟩] concatenates_S4x4096x8x128_S4x4096x8x128_S4x4096x8x256_d3) : (⟨S4x4096x8x128, .f32⟩ : BufTy).Contents (Elt Ideal) → (⟨S4x4096x8x128, .f32⟩ : BufTy).Contents (Elt Ideal) → (⟨S4x4096x8x256, .f32⟩ : BufTy).Contents (Elt Ideal)) (V m c main_v24) (V m c main_v32) :=
  ssa2 writes_eq 38 rfl (by decide) (by decide) (by decide) _

theorem E_v34 (c : Dev nD) : V m c main_v34 = ((fun a b => concatenate S4x4096x128 2 [⟨S4x4096x64, a⟩, ⟨S4x4096x64, b⟩] concatenates_S4x4096x64_S4x4096x64_S4x4096x128_d2) : (⟨S4x4096x64, .f32⟩ : BufTy).Contents (Elt Ideal) → (⟨S4x4096x64, .f32⟩ : BufTy).Contents (Elt Ideal) → (⟨S4x4096x128, .f32⟩ : BufTy).Contents (Elt Ideal)) (V m c main_arg3) (V m c main_arg3) :=
  ssa2 writes_eq 39 rfl (by decide) (by decide) (by decide) _

theorem E_v35 (c : Dev nD) : V m c main_v35 = ((truncf (F := Ideal) (φ := .f32) .bf16 · bitsLt_bf16_f32) : (⟨S4x4096x8x256, .f32⟩ : BufTy).Contents (Elt Ideal) → (⟨S4x4096x8x256, .bf16⟩ : BufTy).Contents (Elt Ideal)) (V m c main_v33) :=
  ssa1 writes_eq 40 rfl (by decide) (by decide) _

theorem E_v36 (c : Dev nD) : V m c main_v36 = shapeCast _ (V m c main_v35) shapeCasts_S4x4096x8x256_S4x4096x2048 :=
  ssaR writes_eq 41 rfl (by decide) (by decide) _

theorem E_v37 (c : Dev nD) : V m c main_v37 = ((truncf (F := Ideal) (φ := .f32) .bf16 · bitsLt_bf16_f32) : (⟨S4x4096x512, .f32⟩ : BufTy).Contents (Elt Ideal) → (⟨S4x4096x512, .bf16⟩ : BufTy).Contents (Elt Ideal)) (V m c main_arg2) :=
  ssa1 writes_eq 42 rfl (by decide) (by decide) _

theorem E_v38 (c : Dev nD) : V m c main_v38 = shapeCast _ (V m c main_arg4) shapeCasts_S1x512x2048_S512x2048 :=
  ssaR writes_eq 43 rfl (by decide) (by decide) _

theorem E_v39 (c : Dev nD) : V m c main_v39 = ((truncf (F := Ideal) (φ := .f32) .bf16 · bitsLt_bf16_f32) : (⟨S512x2048, .f32⟩ : BufTy).Contents (Elt Ideal) → (⟨S512x2048, .bf16⟩ : BufTy).Contents (Elt Ideal)) (V m c main_v38) :=
  ssa1 writes_eq 44 rfl (by decide) (by decide) _

theorem E_v40 (c : Dev nD) : V m c main_v40 = shapeCast _ (V m c main_arg5) shapeCasts_S1x128_S128 :=
  ssaR writes_eq 45 rfl (by decide) (by decide) _

theorem E_v41 (c : Dev nD) : V m c main_v41 = (broadcastInDim S1x128 ![1] bcast_S128_S1x128_1 : (⟨S128, .f32⟩ : BufTy).Contents (Elt Ideal) → (⟨S1x128, .f32⟩ : BufTy).Contents (Elt Ideal)) (V m c main_v40) :=
  ssa1 writes_eq 46 rfl (by decide) (by decide) _

end Cert.Entry
-- ==== Proof.Basic.lean ====
module

public import proofs.«01_k».proof.Proof.Gen.KernelIdeal.Value
public import Idealize.ShloMosaic.Lib.Pipeline.ValueKit
public import Idealize.ShloMosaic.Lib.MatmulPlain
public import Idealize.ShloMosaic.Lib.Pipeline.ReadBack

@[expose] public section

set_option maxRecDepth 16384

noncomputable section

namespace Cert.Words

open Idealize.ShloMosaic hiding ix0 ix1 ix2 ix3 ix4 ix5 eq_ix1 eq_ix2 eq_ix3 eq_ix4 eq_ix5
open Idealize.ShloMosaic.ValueIdx

/-! Vectors read through functions of natural coordinates: each operation of the kernel once, at any extents. -/

/-- The rank-one vector `w` is `f` of its coordinate. -/
def Is1 {n : ℕ} (w : (⟨1, ![n]⟩ : Shape).Idx → EReal) (f : ℕ → EReal) : Prop := ∀ j, w j = f (j 0).val

/-- The matrix `w` is `f` of its two coordinates. -/
def Is2 {n m : ℕ} (w : (⟨2, ![n, m]⟩ : Shape).Idx → EReal) (f : ℕ → ℕ → EReal) : Prop := ∀ j, w j = f (j 0).val (j 1).val

/-- The matrix under one unit axis. -/
def Is3 {n m : ℕ} (w : (⟨3, ![1, n, m]⟩ : Shape).Idx → EReal) (f : ℕ → ℕ → EReal) : Prop := ∀ j, w j = f (j 1).val (j 2).val

/-- The matrix under two unit axes. -/
def Is4 {n m : ℕ} (w : (⟨4, ![1, 1, n, m]⟩ : Shape).Idx → EReal) (f : ℕ → ℕ → EReal) : Prop := ∀ j, w j = f (j 2).val (j 3).val

variable {n m k : ℕ} {f g : ℕ → ℕ → EReal} {f1 : ℕ → EReal}

theorem Is2.congr {w : (⟨2, ![n, m]⟩ : Shape).Idx → EReal} (h : Is2 w f) (hfg : ∀ a < n, ∀ b < m, f a b = g a b) : Is2 w g :=
  fun j => (h j).trans (hfg _ (j 0).isLt _ (j 1).isLt)

/-! ### Shape changes -/

theorem is2_of3 {w : (⟨3, ![1, n, m]⟩ : Shape).Idx → EReal} (h : Is3 w f)
    (hc : Shape.ShapeCasts ⟨3, ![1, n, m]⟩ ⟨2, ![n, m]⟩) : Is2 (shapeCast ⟨2, ![n, m]⟩ w hc) f := fun j =>
  (shapeCast_dropUnit_apply ![n, m] w hc j).trans (h _)

theorem is3_of2 {w : (⟨2, ![n, m]⟩ : Shape).Idx → EReal} (h : Is2 w f)
    (hc : Shape.ShapeCasts ⟨2, ![n, m]⟩ ⟨3, ![1, n, m]⟩) : Is3 (shapeCast ⟨3, ![1, n, m]⟩ w hc) f := fun j =>
  (shapeCast_addUnit_apply ![n, m] w hc j).trans (h _)

theorem is2_self {w : (⟨2, ![n, m]⟩ : Shape).Idx → EReal} (h : Is2 w f)
    (hc : Shape.ShapeCasts ⟨2, ![n, m]⟩ ⟨2, ![n, m]⟩) : Is2 (shapeCast ⟨2, ![n, m]⟩ w hc) f := fun j => by
  rw [shapeCast_self]; exact h j

theorem is2_of4 {w : (⟨4, ![1, 1, n, m]⟩ : Shape).Idx → EReal} (h : Is4 w f)
    (hc : Shape.ShapeCasts ⟨4, ![1, 1, n, m]⟩ ⟨2, ![n, m]⟩) : Is2 (shapeCast ⟨2, ![n, m]⟩ w hc) f := fun j =>
  (shapeCast_apply w hc j (ix4 0 0 (j 0) (j 1)) (by
    obtain ⟨a, b, rfl⟩ : ∃ a b, j = ix2 a b := ⟨_, _, eq_ix2 j⟩
    simp [Shape.rowMajor_val_four, Shape.rowMajor_val_two]; rfl)).trans (h _)

theorem is4_of2 {w : (⟨2, ![n, m]⟩ : Shape).Idx → EReal} (h : Is2 w f)
    (hc : Shape.ShapeCasts ⟨2, ![n, m]⟩ ⟨4, ![1, 1, n, m]⟩) : Is4 (shapeCast ⟨4, ![1, 1, n, m]⟩ w hc) f := fun j =>
  (shapeCast_apply w hc j (ix2 (j 2) (j 3)) (by
    obtain ⟨z, z', a, b, rfl⟩ : ∃ z z' a b, j = ix4 z z' a b := ⟨_, _, _, _, eq_ix4 j⟩
    have h0 : z = 0 := Subsingleton.elim _ _
    have h1 : z' = 0 := Subsingleton.elim _ _
    subst h0 h1
    simp [Shape.rowMajor_val_four, Shape.rowMajor_val_two]; rfl)).trans (h _)

theorem is2_row {w : (⟨1, ![m]⟩ : Shape).Idx → EReal} (h : Is1 w f1)
    (hc : Shape.ShapeCasts ⟨1, ![m]⟩ ⟨2, ![1, m]⟩) : Is2 (shapeCast ⟨2, ![1, m]⟩ w hc) (fun _ b => f1 b) := fun j =>
  (shapeCast_addUnit_apply ![m] w hc j).trans (h _)

theorem is2_col {w : (⟨1, ![n]⟩ : Shape).Idx → EReal} (h : Is1 w f1)
    (hc : Shape.ShapeCasts ⟨1, ![n]⟩ ⟨2, ![n, 1]⟩) : Is2 (shapeCast ⟨2, ![n, 1]⟩ w hc) (fun a _ => f1 a) := fun j =>
  (shapeCast_apply w hc j (ix1 (j 0)) (by
    obtain ⟨a, b, rfl⟩ : ∃ a b, j = ix2 a b := ⟨_, _, eq_ix2 j⟩
    have h0 : b = 0 := Subsingleton.elim _ _
    subst h0
    simp [Shape.rowMajor_val_one, Shape.rowMajor_val_two]; rfl)).trans (h _)

theorem is2_bcastRow {w : (⟨2, ![1, m]⟩ : Shape).Idx → EReal} (h : Is2 w f)
    (hb : Shape.Broadcasts ⟨2, ![1, m]⟩ ⟨2, ![n, m]⟩) : Is2 (broadcastTo ⟨2, ![n, m]⟩ w hb) (fun _ b => f 0 b) := fun j =>
  (broadcastTo_apply w hb j (ix2 0 (j 1)) (by
    intro a
    match a with
    | ⟨0, _⟩ => simp
    | ⟨1, _⟩ =>
      by_cases hm : m = 1
      · have hj := (j 1).isLt
        change (j 1).val < m at hj
        have : (j 1).val = 0 := by omega
        simp [hm, this]
      · simp [hm])).trans (h _)

theorem is2_bcastCol {w : (⟨2, ![n, 1]⟩ : Shape).Idx → EReal} (h : Is2 w f)
    (hb : Shape.Broadcasts ⟨2, ![n, 1]⟩ ⟨2, ![n, m]⟩) : Is2 (broadcastTo ⟨2, ![n, m]⟩ w hb) (fun a _ => f a 0) := fun j =>
  (broadcastTo_apply w hb j (ix2 (j 0) 0) (by
    intro a
    match a with
    | ⟨0, _⟩ =>
      by_cases hm : n = 1
      · have hj := (j 0).isLt
        change (j 0).val < n at hj
        have : (j 0).val = 0 := by omega
        simp [hm, this]
      · simp [hm]
    | ⟨1, _⟩ => simp)).trans (h _)

theorem is2_slice {n' m' : ℕ} {w : (⟨2, ![n, m]⟩ : Shape).Idx → EReal} (h : Is2 w f) (o p : ℕ)
    (hs : Shape.Slices ⟨2, ![n, m]⟩ ![o, p] ⟨2, ![n', m']⟩) :
    Is2 (extractStridedSlice ⟨2, ![n', m']⟩ ![o, p] w hs) (fun a b => f (o + a) (p + b)) := fun j => by
  have h0 : o + (j 0).val < n := by
    have := hs.2 0; have := (j 0).isLt; simp at *; omega
  have h1 : p + (j 1).val < m := by
    have := hs.2 1; have := (j 1).isLt; simp at *; omega
  refine (extractStridedSlice_apply ![o, p] w hs j (ix2 ⟨_, h0⟩ ⟨_, h1⟩) ?_).trans (h _)
  intro a
  match a with
  | ⟨0, _⟩ => rfl
  | ⟨1, _⟩ => rfl

theorem is2_transpose {w : (⟨2, ![n, m]⟩ : Shape).Idx → EReal} (h : Is2 w f)
    (ht : Shape.Transposes ⟨2, ![n, m]⟩ [1, 0] ⟨2, ![m, n]⟩) :
    Is2 (transpose ⟨2, ![m, n]⟩ [1, 0] w ht) (fun a b => f b a) := fun j =>
  (transpose_apply [1, 0] w ht j (ix2 (j 1) (j 0)) (by
    intro b
    match b with
    | ⟨0, _⟩ => rfl
    | ⟨1, _⟩ => rfl)).trans (h _)

/-! ### Element by element -/

theorem is2_addf {φ : FTy} {v w : FVec Ideal ⟨2, ![n, m]⟩ φ} (hv : Is2 v f) (hw : Is2 w g) :
    Is2 (addf v w) (fun a b => f a b + g a b) := fun j => by
  show (v j : EReal) + w j = _; rw [hv j, hw j]

theorem is2_subf {φ : FTy} {v w : FVec Ideal ⟨2, ![n, m]⟩ φ} (hv : Is2 v f) (hw : Is2 w g) :
    Is2 (subf v w) (fun a b => f a b - g a b) := fun j => by
  show (v j : EReal) - w j = _; rw [hv j, hw j]

theorem is2_mulf {φ : FTy} {v w : FVec Ideal ⟨2, ![n, m]⟩ φ} (hv : Is2 v f) (hw : Is2 w g) :
    Is2 (mulf v w) (fun a b => f a b * g a b) := fun j => by
  show (v j : EReal) * w j = _; rw [hv j, hw j]

theorem is2_divf {φ : FTy} {v w : FVec Ideal ⟨2, ![n, m]⟩ φ} (hv : Is2 v f) (hw : Is2 w g) :
    Is2 (divf v w) (fun a b => Ideal.div (f a b) (g a b)) := fun j => by
  show Ideal.div (v j) (w j) = _; rw [hv j, hw j]

theorem is2_exp2 {φ : FTy} {v : FVec Ideal ⟨2, ![n, m]⟩ φ} (hv : Is2 v f) :
    Is2 (exp2 v) (fun a b => Ideal.exp2 (f a b)) := fun j => by
  show Ideal.exp2 (v j) = _; rw [hv j]

theorem is2_rsqrt {φ : FTy} {v : FVec Ideal ⟨2, ![n, m]⟩ φ} (hv : Is2 v f) :
    Is2 (rsqrt v) (fun a b => Ideal.rsqrt (f a b)) := fun j => by
  show Ideal.rsqrt (v j) = _; rw [hv j]

theorem is2_truncf {φ ψ : FTy} {v : FVec Ideal ⟨2, ![n, m]⟩ φ} (hv : Is2 v f) (h : ψ.bits < φ.bits) :
    Is2 (truncf ψ v h) f := fun j => hv j

theorem is2_broadcast (x : EReal) : Is2 (broadcast (⟨2, ![n, m]⟩ : Shape) x) (fun _ _ => x) := fun _ => rfl

/-! ### Products and reductions -/

theorem is2_matmul {φ₁ φ₂ : FTy} {prec : Option ContractPrecision}
    {l : FVec Ideal ⟨2, ![n, k]⟩ φ₁} {r : FVec Ideal ⟨2, ![k, m]⟩ φ₂} {acc : FVec Ideal ⟨2, ![n, m]⟩ .f32}
    (hl : Is2 l f) (hr : Is2 r g) (ha : acc = constant ⟨2, ![n, m]⟩ .f32 0#32) :
    Is2 (FloatOps.matmul (DotDims.plain n k m) prec l r acc) (fun a b => ∑ j ∈ Finset.range k, f a j * g j b) := fun j => by
  obtain ⟨a, b, rfl⟩ : ∃ a b, j = ix2 a b := ⟨_, _, eq_ix2 j⟩
  show _ = ∑ j ∈ Finset.range k, f a.val j * g j b.val
  rw [Ideal.matmul_plain_apply, Finset.sum_range, ha]
  have h0 : (constant ⟨2, ![n, m]⟩ .f32 0#32 : FVec Ideal ⟨2, ![n, m]⟩ .f32) (ix2 a b) = (0 : EReal) := by
    show Ideal.ofBits .f32 0#32 = 0
    simp
  rw [h0, zero_add]
  exact Finset.sum_congr rfl fun c _ => by rw [hl, hr]; rfl

theorem is2_matmulT {φ₁ φ₂ : FTy} {prec : Option ContractPrecision}
    {l : FVec Ideal ⟨2, ![n, k]⟩ φ₁} {r : FVec Ideal ⟨2, ![m, k]⟩ φ₂} {acc : FVec Ideal ⟨2, ![n, m]⟩ .f32}
    (hl : Is2 l f) (hr : Is2 r g) (ha : acc = constant ⟨2, ![n, m]⟩ .f32 0#32) :
    Is2 (FloatOps.matmul (DotDims.transposedRhs n k m) prec l r acc) (fun a b => ∑ j ∈ Finset.range k, f a j * g b j) := fun j => by
  obtain ⟨a, b, rfl⟩ : ∃ a b, j = ix2 a b := ⟨_, _, eq_ix2 j⟩
  show _ = ∑ j ∈ Finset.range k, f a.val j * g b.val j
  rw [Ideal.matmul_transposedRhs_apply, Finset.sum_range, ha]
  have h0 : (constant ⟨2, ![n, m]⟩ .f32 0#32 : FVec Ideal ⟨2, ![n, m]⟩ .f32) (ix2 a b) = (0 : EReal) := by
    show Ideal.ofBits .f32 0#32 = 0
    simp
  rw [h0, zero_add]
  exact Finset.sum_congr rfl fun c _ => by rw [hl, hr]; rfl

theorem is1_rowSum {v : FVec Ideal ⟨2, ![n, m]⟩ .f32} (hv : Is2 v f) (h : Shape.Reduces ⟨2, ![n, m]⟩ [1] ⟨1, ![n]⟩)
    (hφ : FKind.Formats .f32) (ha : (0#32 : BitVec 32) = FKind.add.neutral .f32 hφ) :
    Is1 (multiReduction (F := Ideal) .add [1] ⟨1, ![n]⟩ v 0#32 h hφ ha) (fun a => ∑ j ∈ Finset.range m, f a j) := fun j => by
  show _ = ∑ j' ∈ Finset.range m, f (j 0).val j'
  rw [Finset.sum_range]
  have e : multiReduction (F := Ideal) .add [1] ⟨1, ![n]⟩ v 0#32 h hφ ha j = ∑ c : Fin m, v (ix2 (j 0) c) := by
    simp only [pointwise, Ideal.reduceAdd_def]
    rfl
  rw [e]
  exact Finset.sum_congr rfl fun c _ => by rw [hv]; rfl

theorem fold_max_eq_sup {ι : Type*} (s : Finset ι) (u : ι → EReal) : s.fold max ⊥ u = s.sup u := by
  classical
  induction s using Finset.induction_on with
  | empty => simp
  | insert a s ha ih => rw [Finset.fold_insert ha, Finset.sup_insert, ih]

theorem univ_sup_eq_range {K : ℕ} (u : ℕ → EReal) : (Finset.univ : Finset (Fin K)).sup (fun c => u c.val) = (Finset.range K).sup u := by
  apply le_antisymm
  · exact Finset.sup_le fun c _ => Finset.le_sup (f := u) (Finset.mem_range.mpr c.isLt)
  · exact Finset.sup_le fun c hc => Finset.le_sup (f := fun c : Fin K => u c.val) (b := ⟨c, Finset.mem_range.mp hc⟩) (Finset.mem_univ _)

theorem is1_colMax {v : FVec Ideal ⟨2, ![n, m]⟩ .f32} (hv : Is2 v f) (h : Shape.Reduces ⟨2, ![n, m]⟩ [0] ⟨1, ![m]⟩)
    (hφ : FKind.Formats .f32) (ha : (4286578688#32 : BitVec 32) = FKind.maximumf.neutral .f32 hφ) :
    Is1 (multiReduction (F := Ideal) .maximumf [0] ⟨1, ![m]⟩ v 4286578688#32 h hφ ha) (fun b => (Finset.range n).sup fun a => f a b) := fun j => by
  have e : multiReduction (F := Ideal) .maximumf [0] ⟨1, ![m]⟩ v 4286578688#32 h hφ ha j
      = (Finset.univ : Finset (Fin n)).fold max (Ideal.ofBits .f32 4286578688#32) fun c => v (ix2 c (j 0)) := by
    simp only [pointwise]
    rfl
  have hb : Ideal.ofBits .f32 4286578688#32 = ⊥ := by simp [Ideal.ofBits, Ideal.ieee]
  show _ = (Finset.range n).sup fun a => f a (j 0).val
  rw [e, hb, fold_max_eq_sup, ← univ_sup_eq_range]
  exact congrArg _ (funext fun c => by rw [hv]; rfl)

/-! ### Concatenations -/

theorem is2_catRows {n' : ℕ} {v : (⟨2, ![n, m]⟩ : Shape).Idx → EReal} {w : (⟨2, ![n', m]⟩ : Shape).Idx → EReal} {t : ℕ}
    (hv : Is2 v f) (hw : Is2 w g) (h : Shape.Concatenates [⟨2, ![n, m]⟩, ⟨2, ![n', m]⟩] ⟨2, ![t, m]⟩ 0) :
    Is2 (concatenate ⟨2, ![t, m]⟩ 0 [⟨⟨2, ![n, m]⟩, v⟩, ⟨⟨2, ![n', m]⟩, w⟩] h) (fun a b => if a < n then f a b else g (a - n) b) := fun j => by
  have ht : n + n' = t := by simpa using h.2
  by_cases hj : (j 0).val < n
  · simp only [hj, if_true]
    refine (concatenate_pair_apply_left 0 v w h j rfl (ix2 ⟨_, hj⟩ (j 1)) ?_).trans (hv _)
    intro b; match b with
    | ⟨0, _⟩ => rfl
    | ⟨1, _⟩ => rfl
  · simp only [hj, if_false]
    have h0 : (j 0).val - n < n' := by have := (j 0).isLt; simp at this; omega
    refine (concatenate_pair_apply_right 0 v w h j rfl rfl (ix2 ⟨_, h0⟩ (j 1)) ?_ ?_).trans (hw _)
    · intro b hb; match b with
      | ⟨0, _⟩ => exact absurd rfl hb
      | ⟨1, _⟩ => rfl
    · show (j 0).val - n + n = (j 0).val; omega

/-- Two or more equal column blocks side by side: block `i` is `f`'s columns from `256 i`. -/
theorem is2_catCols {N : ℕ} {t : ℕ} {xs : List ((s : Shape) × (s.Idx → EReal))}
    (hl : xs.length = N)
    (hx : ∀ i (hi : i < N), ∃ w : (⟨2, ![n, m]⟩ : Shape).Idx → EReal, xs[i]'(hl ▸ hi) = ⟨⟨2, ![n, m]⟩, w⟩ ∧ Is2 w (fun a b => f a (m * i + b)))
    (ht : t = m * N)
    (h : Shape.Concatenates (xs.map (·.1)) ⟨2, ![n, t]⟩ 1) :
    Is2 (concatenate ⟨2, ![n, t]⟩ 1 xs h) f := fun j => by
  have hj : (j 1).val < t := (j 1).isLt
  have hm : 0 < m := by
    rcases Nat.eq_zero_or_pos m with h0 | h0
    · subst h0; simp at ht; omega
    · exact h0
  have hi : (j 1).val / m < N := Nat.div_lt_of_lt_mul (by omega)
  obtain ⟨w, hw, hf⟩ := hx _ hi
  have hr : (j 1).val % m < m := Nat.mod_lt _ hm
  have hd : m * ((j 1).val / m) + (j 1).val % m = (j 1).val := Nat.div_add_mod _ _
  have hpre : ((xs.take ((j 1).val / m)).map (·.1) |>.map fun s : Shape => if h : s.rank = 2 then s.size (Fin.cast h.symm 1) else 0).sum
      = m * ((j 1).val / m) := by
    have : ((xs.take ((j 1).val / m)).map (·.1) |>.map fun s : Shape => if h : s.rank = 2 then s.size (Fin.cast h.symm 1) else 0)
        = List.replicate ((j 1).val / m) m := by
      apply List.ext_getElem
      · simp [hl]; omega
      · intro i h1 h2
        simp only [List.length_replicate] at h2
        obtain ⟨w', hw', -⟩ := hx i (by omega)
        simp [hw']
    rw [this]; simp [Nat.mul_comm]
  refine (concatenate_apply_piece 1 xs h j _ (hl ▸ hi) _ w hw rfl (m * ((j 1).val / m)) hpre (ix2 (j 0) ⟨_, hr⟩) ?_ hd).trans ((hf _).trans ?_)
  · intro b hb; match b with
    | ⟨0, _⟩ => rfl
    | ⟨1, _⟩ => exact absurd rfl hb
  · exact congrArg (f (j 0).val) hd

/-! ### Loads -/

/-- A load of rows of a bf16 matrix under a unit axis. -/
theorem is3_loadB {sig : RefSig} {κ : Kind} {sp : Space} {n' m' : ℕ} {mr : Memref sig κ sp ⟨3, ![1, n, m]⟩ .bf16} (hw : mr.IsWhole)
    {x : Vec Ideal ⟨3, ![1, n, m]⟩ .bf16} (hx : Is3 (n := n) (m := m) x f) (o p : ℕ)
    (inb : ∀ a, (![0, o, p] : Fin 3 → ℕ) a + (![1, n', m'] : Fin 3 → ℕ) a ≤ (![1, n, m] : Fin 3 → ℕ) a) :
    Is3 (n := n') (m := m') (View.readAt (Elt Ideal) mr.view (Rect.unit (s := ⟨3, ![1, n, m]⟩) ![0, o, p] ![1, n', m'] inb).toLoadRect (hw.unread x))
      (fun a b => f (o + a) (p + b)) := fun j => by
  rw [View.readAt_eq_ld, hw.read_unread]
  refine (hx _).trans ?_
  show f (o + 1 * (j 1).val) (p + 1 * (j 2).val) = _
  rw [one_mul, one_mul]

/-- The same at f32. -/
theorem is3_loadF {sig : RefSig} {κ : Kind} {sp : Space} {n' m' : ℕ} {mr : Memref sig κ sp ⟨3, ![1, n, m]⟩ .f32} (hw : mr.IsWhole)
    {x : Vec Ideal ⟨3, ![1, n, m]⟩ .f32} (hx : Is3 (n := n) (m := m) x f) (o p : ℕ)
    (inb : ∀ a, (![0, o, p] : Fin 3 → ℕ) a + (![1, n', m'] : Fin 3 → ℕ) a ≤ (![1, n, m] : Fin 3 → ℕ) a) :
    Is3 (n := n') (m := m') (View.readAt (Elt Ideal) mr.view (Rect.unit (s := ⟨3, ![1, n, m]⟩) ![0, o, p] ![1, n', m'] inb).toLoadRect (hw.unread x))
      (fun a b => f (o + a) (p + b)) := fun j => by
  rw [View.readAt_eq_ld, hw.read_unread]
  refine (hx _).trans ?_
  show f (o + 1 * (j 1).val) (p + 1 * (j 2).val) = _
  rw [one_mul, one_mul]

/-- A load of a whole bf16 matrix. -/
theorem is2_loadB {sig : RefSig} {κ : Kind} {sp : Space} {mr : Memref sig κ sp ⟨2, ![n, m]⟩ .bf16} (hw : mr.IsWhole)
    {x : Vec Ideal ⟨2, ![n, m]⟩ .bf16} (hx : Is2 (n := n) (m := m) x f)
    (inb : ∀ a, (![0, 0] : Fin 2 → ℕ) a + (![n, m] : Fin 2 → ℕ) a ≤ (![n, m] : Fin 2 → ℕ) a) :
    Is2 (n := n) (m := m) (View.readAt (Elt Ideal) mr.view (Rect.unit (s := ⟨2, ![n, m]⟩) ![0, 0] ![n, m] inb).toLoadRect (hw.unread x)) f := fun j => by
  rw [View.readAt_eq_ld, hw.read_unread]
  refine (hx _).trans ?_
  show f (0 + 1 * (j 0).val) (0 + 1 * (j 1).val) = _
  rw [one_mul, one_mul, zero_add, zero_add]

/-- The same at f32. -/
theorem is2_loadF {sig : RefSig} {κ : Kind} {sp : Space} {mr : Memref sig κ sp ⟨2, ![n, m]⟩ .f32} (hw : mr.IsWhole)
    {x : Vec Ideal ⟨2, ![n, m]⟩ .f32} (hx : Is2 (n := n) (m := m) x f)
    (inb : ∀ a, (![0, 0] : Fin 2 → ℕ) a + (![n, m] : Fin 2 → ℕ) a ≤ (![n, m] : Fin 2 → ℕ) a) :
    Is2 (n := n) (m := m) (View.readAt (Elt Ideal) mr.view (Rect.unit (s := ⟨2, ![n, m]⟩) ![0, 0] ![n, m] inb).toLoadRect (hw.unread x)) f := fun j => by
  rw [View.readAt_eq_ld, hw.read_unread]
  refine (hx _).trans ?_
  show f (0 + 1 * (j 0).val) (0 + 1 * (j 1).val) = _
  rw [one_mul, one_mul, zero_add, zero_add]

/-! ### A score buffer: stores of whole rows read back -/

/-- The first `N` rows that a list of stores leaves are `f`. -/
def RowsOf {R M : ℕ} (N : ℕ) (L : List (View.Piece (Elt Ideal) ⟨2, ![R, M]⟩ .f32)) (f : ℕ → ℕ → EReal) : Prop :=
  ∀ y : (⟨2, ![R, M]⟩ : Shape).Idx, (y 0).val < N → View.canon L y = f (y 0).val (y 1).val

theorem mem_rows {R M o c : ℕ} (inb : ∀ a, (![o, 0] : Fin 2 → ℕ) a + (![c, M] : Fin 2 → ℕ) a ≤ (![R, M] : Fin 2 → ℕ) a)
    (y : (⟨2, ![R, M]⟩ : Shape).Idx) (h0 : o ≤ (y 0).val) (h1 : (y 0).val < o + c) :
    (Rect.unit (s := ⟨2, ![R, M]⟩) ![o, 0] ![c, M] inb).emb (ix2 (n0 := c) (n1 := M) ⟨(y 0).val - o, by omega⟩ (y 1)) = y := by
  funext a; apply Fin.ext
  match a with
  | ⟨0, _⟩ => show o + 1 * ((y 0).val - o) = (y 0).val; omega
  | ⟨1, _⟩ => show 0 + 1 * (y 1).val = (y 1).val; omega

theorem RowsOf.whole {R M c : ℕ} {inb} {w : (Rect.unit (s := ⟨2, ![R, M]⟩) ![0, 0] ![c, M] inb).shape.Idx → Elt Ideal .f32}
    (L : List (View.Piece (Elt Ideal) ⟨2, ![R, M]⟩ .f32)) (hw : Is2 (n := c) (m := M) w f) :
    RowsOf c (⟨Rect.unit (s := ⟨2, ![R, M]⟩) ![0, 0] ![c, M] inb, w⟩ :: L) f := fun y hy => by
  have e := mem_rows inb y (Nat.zero_le _) (by omega)
  conv_lhs => rw [← e]
  rw [View.canon_cons_emb]
  exact hw _

theorem RowsOf.patch {R M c o N : ℕ} {inb} {w : (Rect.unit (s := ⟨2, ![R, M]⟩) ![o, 0] ![c, M] inb).shape.Idx → Elt Ideal .f32}
    {L : List (View.Piece (Elt Ideal) ⟨2, ![R, M]⟩ .f32)} (hL : RowsOf N L f) (hw : Is2 (n := c) (m := M) w g) (hN : N = o + c) :
    RowsOf N (⟨Rect.unit (s := ⟨2, ![R, M]⟩) ![o, 0] ![c, M] inb, w⟩ :: L) (fun a b => if o ≤ a then g (a - o) b else f a b) := fun y hy => by
  show _ = if o ≤ (y 0).val then g ((y 0).val - o) (y 1).val else f (y 0).val (y 1).val
  by_cases h : o ≤ (y 0).val
  · have e := mem_rows inb y h (by omega)
    conv_lhs => rw [← e]
    rw [View.canon_cons_emb, if_pos h]
    exact hw _
  · rw [if_neg h, View.canon_cons_of_not_mem]
    · exact hL y hy
    · intro hm
      rw [← Rect.map_emb_univ] at hm
      obtain ⟨x, -, hx⟩ := Finset.mem_map.mp hm
      apply h
      rw [← hx]
      show o ≤ o + 1 * (x 0).val
      omega

theorem RowsOf.read {sig : RefSig} {κ : Kind} {sp : Space} {R M c o N : ℕ} {inb} {v : View sig κ sp ⟨2, ![R, M]⟩ .f32}
    {L : List (View.Piece (Elt Ideal) ⟨2, ![R, M]⟩ .f32)} (hL : RowsOf N L f) (hN : o + c ≤ N) :
    Is2 (n := c) (m := M) (v.readCov L (Rect.unit (s := ⟨2, ![R, M]⟩) ![o, 0] ![c, M] inb).toLoadRect) (fun a b => f (o + a) b) := fun j => by
  rw [View.readCov_eq_canon']
  have hj : (j 0).val < c := (j 0).isLt
  refine (hL _ ?_).trans ?_
  · show o + 1 * (j 0).val < N; omega
  · show f (o + 1 * (j 0).val) (0 + 1 * (j 1).val) = _
    rw [one_mul, one_mul, zero_add]

/-! ### The key and value scratch -/

theorem is3_readCov {sig : RefSig} {κ : Kind} {sp : Space} {R M c o : ℕ} {inb} {v : View sig κ sp ⟨3, ![1, R, M]⟩ .bf16}
    {L : List (View.Piece (Elt Ideal) ⟨3, ![1, R, M]⟩ .bf16)} (hL : Is3 (n := R) (m := M) (View.canon L) f) :
    Is3 (n := c) (m := M) (v.readCov L (Rect.unit (s := ⟨3, ![1, R, M]⟩) ![0, o, 0] ![1, c, M] inb).toLoadRect) (fun a b => f (o + a) b) := fun j => by
  rw [View.readCov_eq_canon']
  refine (hL _).trans ?_
  show f (o + 1 * (j 1).val) (0 + 1 * (j 2).val) = _
  rw [one_mul, one_mul, zero_add]

/-- A rectangle of the key scratch holds an index at its coordinates. -/
theorem mem_block {R M o p c d : ℕ} (inb : ∀ a, (![0, o, p] : Fin 3 → ℕ) a + (![1, c, d] : Fin 3 → ℕ) a ≤ (![1, R, M] : Fin 3 → ℕ) a)
    (y : (⟨3, ![1, R, M]⟩ : Shape).Idx) (h0 : o ≤ (y 1).val) (h1 : (y 1).val < o + c) (h2 : p ≤ (y 2).val) (h3 : (y 2).val < p + d) :
    y ∈ (Rect.unit (s := ⟨3, ![1, R, M]⟩) ![0, o, p] ![1, c, d] inb).set := by
  have e : (Rect.unit (s := ⟨3, ![1, R, M]⟩) ![0, o, p] ![1, c, d] inb).emb
      (ix3 (n0 := 1) (n1 := c) (n2 := d) 0 ⟨(y 1).val - o, by omega⟩ ⟨(y 2).val - p, by omega⟩) = y := by
    funext a; apply Fin.ext
    match a with
    | ⟨0, _⟩ => have : (y 0).val < 1 := (y 0).isLt
                show 0 + 1 * 0 = (y 0).val; omega
    | ⟨1, _⟩ => show o + 1 * ((y 1).val - o) = (y 1).val; omega
    | ⟨2, _⟩ => show p + 1 * ((y 2).val - p) = (y 2).val; omega
  rw [← e, ← Rect.map_emb_univ]; exact Finset.mem_map_of_mem _ (Finset.mem_univ _)

/-- A store of a block of `f`, as the piece of a covering list. -/
theorem piece3 {R M o p c d : ℕ} {inb} {w : (Rect.unit (s := ⟨3, ![1, R, M]⟩) ![0, o, p] ![1, c, d] inb).shape.Idx → Elt Ideal .bf16}
    (hw : Is3 (n := c) (m := d) w (fun a b => f (o + a) (p + b))) :
    ∀ x, w x = (fun y : (⟨3, ![1, R, M]⟩ : Shape).Idx => (f (y 1).val (y 2).val : EReal)) ((Rect.unit (s := ⟨3, ![1, R, M]⟩) ![0, o, p] ![1, c, d] inb).emb x) := fun x => by
  refine (hw x).trans ?_
  show f (o + (x 1).val) (p + (x 2).val) = f (o + 1 * (x 1).val) (p + 1 * (x 2).val)
  rw [one_mul, one_mul]

end Cert.Words
-- ==== Proof.Spec.lean ====
module

public import proofs.«01_k».proof.Proof.Basic

@[expose] public section

set_option maxRecDepth 16384

noncomputable section

namespace Cert.Words

open Idealize.ShloMosaic hiding ix0 ix1 ix2 ix3 ix4 ix5 eq_ix1 eq_ix2 eq_ix3 eq_ix4 eq_ix5
open Idealize.ShloMosaic.ValueIdx
open Cert.KernelIdeal

/-! What one grid point computes, as functions of natural coordinates, and each stage of the body as that function. -/

/-- What the five input windows hold at a point: queries, latents, expansion weights, key norm weight, doubled rotary key. -/
structure Data where
  /-- queries -/
  Q : ℕ → ℕ → EReal
  /-- latents -/
  C : ℕ → ℕ → EReal
  /-- expansion weights -/
  W : ℕ → ℕ → EReal
  /-- key norm weight -/
  G : ℕ → ℕ → EReal
  /-- rotary key twice -/
  R : ℕ → ℕ → EReal

/-- The windows' contents are the data. -/
structure Inputs (x0 : Vec Ideal S1x4096x256 .bf16) (x1 : Vec Ideal S1x4096x512 .bf16) (x2 : Vec Ideal S512x256 .bf16)
    (x3 : Vec Ideal S1x128 .f32) (x4 : Vec Ideal S1x4096x128 .f32) (D : Data) : Prop where
  q : Is3 (n := 4096) (m := 256) x0 D.Q
  c : Is3 (n := 4096) (m := 512) x1 D.C
  w : Is2 (n := 512) (m := 256) x2 D.W
  g : Is2 (n := 1) (m := 128) x3 D.G
  r : Is3 (n := 4096) (m := 128) x4 D.R

namespace Data

variable (D : Data)

/-- the expanded latents -/
def A (k n : ℕ) : EReal := ∑ j ∈ Finset.range 512, D.C k j * D.W j n
/-- the normed keys -/
def KN (k n : ℕ) : EReal :=
  D.A k n * Ideal.rsqrt (Ideal.div (∑ j ∈ Finset.range 128, D.A k j * D.A k j) (Ideal.ofBits .f32 1124073472#32) + Ideal.ofBits .f32 897988541#32) * D.G 0 n
/-- keys with the rotary part behind -/
def K (k j : ℕ) : EReal := if j < 128 then D.KN k j else D.R k (j - 128)
/-- values, and under them rows of ones -/
def V (d k : ℕ) : EReal := if d < 128 then D.A k (128 + d) else Ideal.ofBits .bf16 16256#16
/-- scores of query block `i` -/
def S (i k q : ℕ) : EReal := ∑ j ∈ Finset.range 256, D.K k j * D.Q (256 * i + q) j
/-- the diagonal block's mask -/
def M (k q : ℕ) : EReal := if k / 64 ≤ q / 64 then 0 else ⊥
/-- masked scores -/
def T (i k q : ℕ) : EReal := if 256 * i ≤ k then D.S i (256 * i + (k - 256 * i)) q + M (k - 256 * i) q else D.S i k q
/-- a column's maximum -/
def mx (i q : ℕ) : EReal := (Finset.range (256 * (i + 1))).sup fun k => D.T i k q
/-- exponentials -/
def E (i k q : ℕ) : EReal := Ideal.exp2 (D.T i k q - D.mx i q)
/-- products of values and exponentials over the first `n` keys -/
def acc (i n d q : ℕ) : EReal := ∑ k ∈ Finset.range n, D.V d k * D.E i k q
/-- the result block -/
def outB (i q d : ℕ) : EReal := Ideal.div (D.acc i (256 * (i + 1)) d q) (D.acc i (256 * (i + 1)) 128 q)
/-- the result -/
def out (q d : ℕ) : EReal := D.outB (q / 256) (q % 256) d

end Data

variable {D : Data}

/-! ### The slabs -/

theorem slabKN {o : ℕ} {a : FVec Ideal ⟨2, ![1024, 256]⟩ .f32} {g : FVec Ideal ⟨2, ![1, 128]⟩ .f32}
    (ha : Is2 a fun k n => D.A (o + k) n) (hg : Is2 g D.G) {h1 h2 h3 h4 h5 h6 h7 h8 h9} :
    Is3 (n := 1024) (m := 128) (shapeCast ⟨3, ![1, 1024, 128]⟩ (truncf .bf16
      (mulf (mulf (extractStridedSlice ⟨2, ![1024, 128]⟩ ![0, 0] a h1)
        (broadcastTo ⟨2, ![1024, 128]⟩ (rsqrt (addf (divf (shapeCast ⟨2, ![1024, 1]⟩
          (multiReduction (F := Ideal) (φ := .f32) .add [1] ⟨1, ![1024]⟩ (mulf (extractStridedSlice ⟨2, ![1024, 128]⟩ ![0, 0] a h1) (extractStridedSlice ⟨2, ![1024, 128]⟩ ![0, 0] a h1))
            0#32 h3 h4 h5) h6)
          (broadcast ⟨2, ![1024, 1]⟩ (FloatOps.ofBits .f32 1124073472#32 : Ideal .f32))) (broadcast ⟨2, ![1024, 1]⟩ (FloatOps.ofBits .f32 897988541#32 : Ideal .f32)))) h2))
        (broadcastTo ⟨2, ![1024, 128]⟩ g h7)) h8) h9) (fun k n => D.KN (o + k) n) := by
  have hs := (is2_slice ha 0 0 h1 (n' := 1024) (m' := 128)).congr (g := fun k n => D.A (o + k) n) (fun a _ b _ => by simp)
  refine is3_of2 (is2_truncf ((is2_mulf (is2_mulf hs (is2_bcastCol (is2_rsqrt (is2_addf (is2_divf
    (is2_col (is1_rowSum (is2_mulf hs hs) _ _ _) _) (is2_broadcast _)) (is2_broadcast _))) _)) (is2_bcastRow hg _)).congr ?_) _) _
  intro a _ b _
  rfl

theorem slabV {o s : ℕ} {a : FVec Ideal ⟨2, ![1024, 256]⟩ .f32} (ha : Is2 a fun k n => D.A (o + k) n) {h1 h2 h3 h4} :
    Is4 (n := 128) (m := 256) (shapeCast ⟨4, ![1, 1, 128, 256]⟩ (truncf .bf16
      (transpose ⟨2, ![128, 256]⟩ [1, 0] (extractStridedSlice ⟨2, ![256, 128]⟩ ![s, 128] a h1) h2 : FVec Ideal ⟨2, ![128, 256]⟩ .f32) h3) h4)
      (fun d k => D.A (o + s + k) (128 + d)) := by
  refine is4_of2 (is2_truncf ((is2_transpose (is2_slice ha s 128 h1 (n' := 256) (m' := 128)) _).congr ?_) _) _
  intro a _ b _
  simp only [Nat.add_assoc]

/-! ### The stages of a query block -/

theorem scoreI {n i : ℕ} {kk : FVec Ideal ⟨2, ![n, 256]⟩ .bf16} {qq : FVec Ideal ⟨2, ![256, 256]⟩ .bf16} {a0}
    (hk : Is2 kk D.K) (hq : Is2 qq fun a b => D.Q (256 * i + a) b) (ha : a0 = constant ⟨2, ![n, 256]⟩ .f32 0#32) {h1} :
    Is2 (n := n) (m := 256) (shapeCast ⟨2, ![n, 256]⟩ (FloatOps.matmul (F := Ideal) (DotDims.transposedRhs n 256 256) none kk qq a0) h1) (D.S i) :=
  is2_self (is2_matmulT hk hq ha) _

theorem maskedI {i o : ℕ} {s m : FVec Ideal ⟨2, ![256, 256]⟩ .f32} (hs : Is2 s fun a b => D.S i (o + a) b) (hm : Is2 m Data.M) {h1} :
    Is2 (n := 256) (m := 256) (shapeCast ⟨2, ![256, 256]⟩ (addf s m) h1) (fun a b => D.S i (o + a) b + Data.M a b) :=
  is2_self (is2_addf hs hm) _

theorem maxI {n i : ℕ} {s : FVec Ideal ⟨2, ![n, 256]⟩ .f32} (hs : Is2 s fun a b => D.T i (0 + a) b) (hn : n = 256 * (i + 1)) {h1 h2 h3 h4} :
    Is2 (n := 1) (m := 256) (shapeCast ⟨2, ![1, 256]⟩ (multiReduction (F := Ideal) (φ := .f32) .maximumf [0] ⟨1, ![256]⟩ s 4286578688#32 h1 h2 h3) h4)
      (fun _ b => D.mx i b) := by
  subst hn
  refine (is2_row (is1_colMax hs _ _ _) _).congr fun a _ b _ => ?_
  simp only [Nat.zero_add]; rfl

/-- One group of keys. -/
theorem groupI {i o c : ℕ} {v : FVec Ideal ⟨2, ![144, c]⟩ .bf16} {s : FVec Ideal ⟨2, ![c, 256]⟩ .f32} {m : FVec Ideal ⟨2, ![1, 256]⟩ .f32} {a0}
    (hv : Is2 v fun d k => D.V d (o + k)) (hs : Is2 s fun a b => D.T i (o + a) b) (hm : Is2 m fun _ b => D.mx i b)
    (ha : a0 = constant ⟨2, ![144, 256]⟩ .f32 0#32) {h1 h2} :
    Is2 (n := 144) (m := 256) (FloatOps.matmul (F := Ideal) (DotDims.plain 144 c 256) none v
      (truncf .bf16 (exp2 (subf s (broadcastTo ⟨2, ![c, 256]⟩ m h1))) h2) a0)
      (fun d q => ∑ k ∈ Finset.range c, D.V d (o + k) * D.E i (o + k) q) :=
  is2_matmul hv (is2_truncf (is2_exp2 (is2_subf hs (is2_bcastRow hm _))) _) ha

theorem groupFirst {i c : ℕ} {w : FVec Ideal ⟨2, ![144, 256]⟩ .f32}
    (h : Is2 w fun d q => ∑ k ∈ Finset.range c, D.V d (0 + k) * D.E i (0 + k) q) : Is2 w (D.acc i c) :=
  h.congr fun a _ b _ => by simp only [Nat.zero_add]; rfl

theorem groupNext {i o c : ℕ} {w w' : FVec Ideal ⟨2, ![144, 256]⟩ .f32} (h : Is2 w (D.acc i o))
    (h' : Is2 w' fun d q => ∑ k ∈ Finset.range c, D.V d (o + k) * D.E i (o + k) q) {n : ℕ} (hn : n = o + c) : Is2 (addf w w') (D.acc i n) :=
  (is2_addf h h').congr fun a _ b _ => by subst hn; exact (Finset.sum_range_add _ _ _).symm

/-- A group's values with rows of ones below. -/
theorem valuesI {o c : ℕ} {v : FVec Ideal ⟨2, ![128, c]⟩ .bf16} (hv : Is2 v fun d k => D.A (o + k) (128 + d)) {h} :
    Is2 (n := 144) (m := c) (concatenate ⟨2, ![144, c]⟩ 0 [⟨⟨2, ![128, c]⟩, v⟩, ⟨⟨2, ![16, c]⟩, broadcast ⟨2, ![16, c]⟩ (FloatOps.ofBits .bf16 16256#16 : Ideal .bf16)⟩] h)
      (fun d k => D.V d (o + k)) :=
  is2_catRows hv (is2_broadcast _) h

theorem outI {i n : ℕ} {w : FVec Ideal ⟨2, ![144, 256]⟩ .f32} (hw : Is2 w (D.acc i n)) (hn : n = 256 * (i + 1)) {h1 h2 h3 h4 h5 h6} :
    Is3 (n := 256) (m := 128) (shapeCast ⟨3, ![1, 256, 128]⟩ (truncf .bf16 (transpose ⟨2, ![256, 128]⟩ [1, 0]
      (divf (extractStridedSlice ⟨2, ![128, 256]⟩ ![0, 0] w h1) (broadcastTo ⟨2, ![128, 256]⟩ (extractStridedSlice ⟨2, ![1, 256]⟩ ![128, 0] w h2) h3) : FVec Ideal ⟨2, ![128, 256]⟩ .f32) h4) h5) h6)
      (D.outB i) := by
  subst hn
  refine is3_of2 (is2_truncf ((is2_transpose (is2_divf (is2_slice hw 0 0 h1 (n' := 128) (m' := 256)) (is2_bcastRow (is2_slice hw 128 0 h2 (n' := 1) (m' := 256)) _)) _).congr ?_) _) _
  intro a _ b _
  simp only [Nat.zero_add, Nat.add_zero]
  rfl

/-! ### The buffers read -/

theorem canon_of_pieces {s : Shape} {e : EltTy} (G : s.Idx → Elt Ideal e) {L : List (View.Piece (Elt Ideal) s e)} {y : s.Idx}
    (hc : ∃ p ∈ L, y ∈ p.1.set) (h : View.PiecesOf G L) : View.canon L y = G y := by
  have := View.canon_append_of_piecesOf G [] L h y hc
  rwa [List.append_nil] at this

theorem Is3.congr {n m : ℕ} {f g : ℕ → ℕ → EReal} {w : (⟨3, ![1, n, m]⟩ : Shape).Idx → EReal} (h : Is3 w f) (hfg : ∀ a < n, ∀ b < m, f a b = g a b) : Is3 w g :=
  fun j => (h j).trans (hfg _ (j 1).isLt _ (j 2).isLt)

theorem keyRows {n : ℕ} {v : View sig .tc .vmem S1x4096x256 .bf16} {L : List (View.Piece (Elt Ideal) S1x4096x256 .bf16)} (hL : Is3 (n := 4096) (m := 256) (View.canon L) D.K) {inb h} :
    Is2 (n := n) (m := 256) (shapeCast ⟨2, ![n, 256]⟩ (v.readCov L (Rect.unit (s := S1x4096x256) ![0, 0, 0] ![1, n, 256] inb).toLoadRect) h) D.K :=
  (is2_of3 (is3_readCov hL) h).congr fun a _ b _ => by simp

theorem queryRows {o i : ℕ} {mr : Memref sig .tc .vmem S1x4096x256 .bf16} (hw : mr.IsWhole) {x : Vec Ideal S1x4096x256 .bf16}
    (hx : Is3 (n := 4096) (m := 256) x D.Q) (ho : o = 256 * i) {inb h} :
    Is2 (n := 256) (m := 256) (shapeCast ⟨2, ![256, 256]⟩ (View.readAt (Elt Ideal) mr.view (Rect.unit (s := S1x4096x256) ![0, o, 0] ![1, 256, 256] inb).toLoadRect (hw.unread x)) h)
      (fun a b => D.Q (256 * i + a) b) :=
  (is2_of3 (is3_loadB hw hx o 0 inb) h).congr fun a _ b _ => by simp [ho]

theorem slabA {o : ℕ} {mr : Memref sig .tc .vmem S1x4096x512 .bf16} (hw : mr.IsWhole) {x : Vec Ideal S1x4096x512 .bf16} (hx : Is3 (n := 4096) (m := 512) x D.C)
    {mr' : Memref sig .tc .vmem S512x256 .bf16} (hw' : mr'.IsWhole) {x' : Vec Ideal S512x256 .bf16} (hx' : Is2 (n := 512) (m := 256) x' D.W)
    {a0} (ha : a0 = constant ⟨2, ![1024, 256]⟩ .f32 0#32) {inb inb' h h'} :
    Is2 (n := 1024) (m := 256) (FloatOps.matmul (F := Ideal) (φ₁ := .bf16) (φ₂ := .bf16) (DotDims.plain 1024 512 256) none
      (shapeCast ⟨2, ![1024, 512]⟩ (View.readAt (Elt Ideal) mr.view (Rect.unit (s := S1x4096x512) ![0, o, 0] ![1, 1024, 512] inb).toLoadRect (hw.unread x)) h)
      (shapeCast ⟨2, ![512, 256]⟩ (View.readAt (Elt Ideal) mr'.view (Rect.unit (s := S512x256) ![0, 0] ![512, 256] inb').toLoadRect (hw'.unread x')) h') a0)
      (fun k n => D.A (o + k) n) :=
  (is2_matmul (is2_of3 (is3_loadB hw hx o 0 inb) h) (is2_self (is2_loadB hw' hx' inb') h') ha).congr fun a _ b _ => by
    unfold Data.A; exact Finset.sum_congr rfl fun j _ => by simp

theorem pieceKN {o : ℕ} {w : (⟨3, ![1, 1024, 128]⟩ : Shape).Idx → EReal} (h : Is3 w fun k n => D.KN (o + k) n) : Is3 w fun a b => D.K (o + a) (0 + b) :=
  h.congr fun a _ b hb => by simp [Data.K, hb]

theorem pieceKR {o : ℕ} {mr : Memref sig .tc .vmem S1x4096x128 .f32} (hw : mr.IsWhole) {x : Vec Ideal S1x4096x128 .f32} (hx : Is3 (n := 4096) (m := 128) x D.R) {inb h h' h''} :
    Is3 (n := 1024) (m := 128) (shapeCast ⟨3, ![1, 1024, 128]⟩ (truncf .bf16
      (shapeCast ⟨2, ![1024, 128]⟩ (View.readAt (Elt Ideal) mr.view (Rect.unit (s := S1x4096x128) ![0, o, 0] ![1, 1024, 128] inb).toLoadRect (hw.unread x)) h : FVec Ideal ⟨2, ![1024, 128]⟩ .f32) h') h'')
      (fun a b => D.K (o + a) (128 + b)) :=
  (is3_of2 (is2_truncf (φ := .f32) (is2_of3 (is3_loadF hw hx o 0 inb) h) h') h'').congr fun a _ b _ => by simp [Data.K]

/-- A store of one block of values. -/
theorem pieceV {s o : ℕ} {inb} {w : (Rect.unit (s := S1x16x128x256) ![0, s, 0, 0] ![1, 1, 128, 256] inb).shape.Idx → Elt Ideal .bf16}
    (h : Is4 (n := 128) (m := 256) w fun d k => D.A (o + k) (128 + d)) (ho : o = 256 * s) :
    ∀ x, w x = (fun y : S1x16x128x256.Idx => (D.A (256 * (y 1).val + (y 3).val) (128 + (y 2).val) : EReal)) ((Rect.unit (s := S1x16x128x256) ![0, s, 0, 0] ![1, 1, 128, 256] inb).emb x) := fun x => by
  refine (h x).trans ?_
  have h1 : (x 1).val < 1 := (x 1).isLt
  show D.A (o + (x 3).val) (128 + (x 2).val) = D.A (256 * (s + 1 * (x 1).val) + (0 + 1 * (x 3).val)) (128 + (0 + 1 * (x 2).val))
  have : (x 1).val = 0 := by omega
  rw [this, ho]; simp

theorem mem_value {s : ℕ} (inb : ∀ a, (![0, s, 0, 0] : Fin 4 → ℕ) a + (![1, 1, 128, 256] : Fin 4 → ℕ) a ≤ (![1, 16, 128, 256] : Fin 4 → ℕ) a)
    (y : S1x16x128x256.Idx) (h : (y 1).val = s) : y ∈ (Rect.unit (s := S1x16x128x256) ![0, s, 0, 0] ![1, 1, 128, 256] inb).set := by
  have e : (Rect.unit (s := S1x16x128x256) ![0, s, 0, 0] ![1, 1, 128, 256] inb).emb
      (ix4 (n0 := 1) (n1 := 1) (n2 := 128) (n3 := 256) 0 0 (y 2) (y 3)) = y := by
    funext a; apply Fin.ext
    match a with
    | ⟨0, _⟩ => have : (y 0).val < 1 := (y 0).isLt
                show 0 + 1 * 0 = (y 0).val; omega
    | ⟨1, _⟩ => show s + 1 * 0 = (y 1).val; omega
    | ⟨2, _⟩ => show 0 + 1 * (y 2).val = (y 2).val; omega
    | ⟨3, _⟩ => show 0 + 1 * (y 3).val = (y 3).val; omega
  rw [← e, ← Rect.map_emb_univ]; exact Finset.mem_map_of_mem _ (Finset.mem_univ _)

theorem valueBlock {s o : ℕ} {v : View sig .tc .vmem S1x16x128x256 .bf16} {L : List (View.Piece (Elt Ideal) S1x16x128x256 .bf16)}
    (hL : ∀ y, View.canon L y = D.A (256 * (y 1).val + (y 3).val) (128 + (y 2).val)) (ho : o = 256 * s) {inb h} :
    Is2 (n := 128) (m := 256) (shapeCast ⟨2, ![128, 256]⟩ (v.readCov L (Rect.unit (s := S1x16x128x256) ![0, s, 0, 0] ![1, 1, 128, 256] inb).toLoadRect) h)
      (fun d k => D.A (o + k) (128 + d)) := by
  refine is2_of4 (fun j => ?_) h
  rw [View.readCov_eq_canon']
  refine (hL _).trans ?_
  have h1 : (j 1).val < 1 := (j 1).isLt
  show D.A (256 * (s + 1 * (j 1).val) + (0 + 1 * (j 3).val)) (128 + (0 + 1 * (j 2).val)) = D.A (o + (j 3).val) (128 + (j 2).val)
  have : (j 1).val = 0 := by omega
  rw [this, ho]; simp

theorem colAt {s o p : ℕ} {w : (⟨2, ![128, 256]⟩ : Shape).Idx → EReal} (h : Is2 w fun d k => D.A (s + k) (128 + d)) (e : s = o + p) :
    Is2 w fun a b => D.A (o + (p + b)) (128 + a) := h.congr fun a _ b _ => by rw [e, Nat.add_assoc]

/-- A block of the result, as a piece. -/
theorem pieceOut {i o : ℕ} {inb} {w : (Rect.unit (s := S1x4096x128) ![0, o, 0] ![1, 256, 128] inb).shape.Idx → Elt Ideal .bf16}
    (h : Is3 (n := 256) (m := 128) w (D.outB i)) (ho : o = 256 * i) :
    ∀ x, w x = (fun y : S1x4096x128.Idx => (D.out (y 1).val (y 2).val : EReal)) ((Rect.unit (s := S1x4096x128) ![0, o, 0] ![1, 256, 128] inb).emb x) := by
  refine piece3 (R := 4096) (M := 128) (c := 256) (d := 128) (f := D.out) (p := 0) (h.congr fun a ha b _ => ?_)
  unfold Data.out
  have h1 : (o + a) / 256 = i := by omega
  have h2 : (o + a) % 256 = a := by omega
  rw [h1, h2, Nat.zero_add]

/-! ### The diagonal mask -/

/-- A word's floor quotient by 64 as the body spells it. -/
def fdiv (w : BitVec 32) : BitVec 32 :=
  Scalar.select (IntOp.andi (IntOp.cmpi .ne (IntOp.subi ((IntOp.cmpi .sgt w 0#32).setWidth 32) ((IntOp.cmpi .slt w 0#32).setWidth 32)) 1#32) (IntOp.cmpi .ne (IntOp.remsi .vector w 64#32) 0#32))
    (IntOp.subi (IntOp.divsi .vector w 64#32) 1#32) (IntOp.divsi .vector w 64#32)

theorem fdiv_eq : ∀ a : Fin 256, fdiv (BitVec.ofNat 32 a.val) = BitVec.ofNat 32 (a.val / 64) := by decide +kernel

theorem sle_eq : ∀ a b : Fin 4, IntOp.cmpi .sle (BitVec.ofNat 32 a.val) (BitVec.ofNat 32 b.val) = BitVec.ofBool (decide (a.val ≤ b.val)) := by decide +kernel

theorem mask_eq (a b : Fin 256) : Scalar.select (IntOp.cmpi .sle (fdiv (BitVec.ofNat 32 a.val)) (fdiv (BitVec.ofNat 32 b.val))) (0 : EReal) ⊥ = Data.M a.val b.val := by
  have h := sle_eq ⟨a.val / 64, by omega⟩ ⟨b.val / 64, by omega⟩
  rw [fdiv_eq, fdiv_eq, h]
  unfold Data.M Scalar.select
  by_cases hh : a.val / 64 ≤ b.val / 64 <;> simp [hh]

theorem is2_mask {v : View sig .tc .vmem S256x256 .f32} : Is2 (n := 256) (m := 256)
    (v.readCov (Gen.kernelRun0_A.sl.HS0_1 (F := Ideal)) (Rect.unit ![0, 0] S256x256.size Gen.inb_S256x256_S256x256_0_0).toLoadRect) Data.M := by
  unfold Gen.kernelRun0_A.sl.HS0_1
  rw [View.readCov_cons_toLoadRect]
  intro j
  obtain ⟨a, b, rfl⟩ : ∃ a b, j = ix2 a b := ⟨_, _, eq_ix2 j⟩
  refine Eq.trans ?_ (mask_eq a b)
  unfold Gen.k0_pay41
  rw [shapeCast_self]
  have hi0 : Gen.kernelRun0_A.sl.v240 (ix2 a b) = fdiv (BitVec.ofNat 32 a.val) := by
    have e : Gen.kernelRun0_A.sl.v216 (ix2 a b) = BitVec.ofNat 32 a.val := by unfold Gen.kernelRun0_A.sl.v216; rw [iota_single_apply]
    rw [← e]; rfl
  have hi1 : Gen.kernelRun0_A.sl.v241 (ix2 a b) = BitVec.ofNat 32 b.val := by unfold Gen.kernelRun0_A.sl.v241; rw [iota_single_apply]
  rw [← hi0, ← hi1]
  have h0 : (FloatOps.ofBits .f32 0#32 : Ideal .f32) = (0 : EReal) := by simp
  have h1 : (Named.named (F := Ideal) κ "mask" 4048155338#32 : Ideal .f32) = (⊥ : EReal) := IdealRules.named_const.ideal_named_scalar _ _ _ _ rfl
  rw [h0, h1]
  rfl

end Cert.Words
-- ==== Proof.Slabs.lean ====
module

public import proofs.«01_k».proof.Proof.Spec

@[expose] public section

set_option maxRecDepth 16384

noncomputable section

namespace Cert.Words

open Idealize.ShloMosaic hiding ix0 ix1 ix2 ix3 ix4 ix5 eq_ix1 eq_ix2 eq_ix3 eq_ix4 eq_ix5
open Idealize.ShloMosaic.ValueIdx
open Cert.KernelIdeal Cert.KernelIdeal.Gen

/-! The expansion: keys and values of the whole prompt. -/

variable {D : Data} {c : Dev nD} {arg2 : Memref sig .tc .vmem S1x4096x256 .bf16} {harg2 : arg2.IsWhole} {arg3 : Memref sig .tc .vmem S1x4096x512 .bf16} {harg3 : arg3.IsWhole}
  {arg4 : Memref sig .tc .vmem S512x256 .bf16} {harg4 : arg4.IsWhole} {arg5 : Memref sig .tc .vmem S1x128 .f32} {harg5 : arg5.IsWhole}
  {arg6 : Memref sig .tc .vmem S1x4096x128 .f32} {harg6 : arg6.IsWhole} {arg8 : Memref sig .tc .vmem S256x256 .f32}
  {arg9 : Memref sig .tc .vmem S1x4096x256 .bf16} {arg10 : Memref sig .tc .vmem S1x16x128x256 .bf16}
  {arg11 arg12 arg13 : Memref sig .tc .vmem S4096x256 .f32}
  {x0 : Vec Ideal S1x4096x256 .bf16} {x1 : Vec Ideal S1x4096x512 .bf16} {x2 : Vec Ideal S512x256 .bf16} {x3 : Vec Ideal S1x128 .f32} {x4 : Vec Ideal S1x4096x128 .f32}

theorem gRow (H : Inputs x0 x1 x2 x3 x4 D) : Is2 (n := 1) (m := 128) (kernelRun0_A.sl.v7 (F := Ideal) c arg5 harg5 x3) D.G := by
  unfold kernelRun0_A.sl.v7
  exact is2_self (is2_loadF harg5 H.g _) _

/-- Slab 0 of the expansion. -/
theorem is_v4 (H : Inputs x0 x1 x2 x3 x4 D) : Is2 (n := 1024) (m := 256) (kernelRun0_A.sl.v4 (F := Ideal) c arg3 harg3 arg4 harg4 x1 x2) (fun k n => D.A (0 + k) n) := by
  unfold kernelRun0_A.sl.v4 kernelRun0_A.sl.v1 kernelRun0_A.sl.v3 kernelRun0_A.sl.cst
  exact slabA harg3 H.c harg4 H.w rfl

/-- Slab 1 of the expansion. -/
theorem is_v58 (H : Inputs x0 x1 x2 x3 x4 D) : Is2 (n := 1024) (m := 256) (kernelRun0_A.sl.v58 (F := Ideal) c arg3 harg3 arg4 harg4 x1 x2) (fun k n => D.A (1024 + k) n) := by
  unfold kernelRun0_A.sl.v58 kernelRun0_A.sl.v55 kernelRun0_A.sl.v3 kernelRun0_A.sl.cst
  exact slabA harg3 H.c harg4 H.w rfl

/-- Slab 2 of the expansion. -/
theorem is_v112 (H : Inputs x0 x1 x2 x3 x4 D) : Is2 (n := 1024) (m := 256) (kernelRun0_A.sl.v112 (F := Ideal) c arg3 harg3 arg4 harg4 x1 x2) (fun k n => D.A (2048 + k) n) := by
  unfold kernelRun0_A.sl.v112 kernelRun0_A.sl.v109 kernelRun0_A.sl.v3 kernelRun0_A.sl.cst
  exact slabA harg3 H.c harg4 H.w rfl

/-- Slab 3 of the expansion. -/
theorem is_v166 (H : Inputs x0 x1 x2 x3 x4 D) : Is2 (n := 1024) (m := 256) (kernelRun0_A.sl.v166 (F := Ideal) c arg3 harg3 arg4 harg4 x1 x2) (fun k n => D.A (3072 + k) n) := by
  unfold kernelRun0_A.sl.v166 kernelRun0_A.sl.v163 kernelRun0_A.sl.v3 kernelRun0_A.sl.cst
  exact slabA harg3 H.c harg4 H.w rfl

/-- Normed keys of slab 0. -/
theorem is_v23 (H : Inputs x0 x1 x2 x3 x4 D) : Is3 (n := 1024) (m := 128) (kernelRun0_A.sl.v23 (F := Ideal) c arg3 harg3 arg4 harg4 arg5 harg5 x1 x2 x3) (fun k n => D.KN (0 + k) n) := by
  unfold kernelRun0_A.sl.v23 kernelRun0_A.sl.v20 kernelRun0_A.sl.v19 kernelRun0_A.sl.v17 kernelRun0_A.sl.v5 kernelRun0_A.sl.v16 kernelRun0_A.sl.v15 kernelRun0_A.sl.v14 kernelRun0_A.sl.v12 kernelRun0_A.sl.v10 kernelRun0_A.sl.v9 kernelRun0_A.sl.v8 kernelRun0_A.sl.v11 kernelRun0_A.sl.cst_7 kernelRun0_A.sl.v13 kernelRun0_A.sl.cst_8 kernelRun0_A.sl.v18
  exact slabKN (is_v4 H) (gRow H)

/-- Rotary keys of slab 0. -/
theorem is_v29 (H : Inputs x0 x1 x2 x3 x4 D) : Is3 (n := 1024) (m := 128) (kernelRun0_A.sl.v29 (F := Ideal) c arg6 harg6 x4) (fun a b => D.K (0 + a) (128 + b)) := by
  unfold kernelRun0_A.sl.v29 kernelRun0_A.sl.v26 kernelRun0_A.sl.v25
  exact pieceKR harg6 H.r

/-- Values of block 0. -/
theorem is_v35 (H : Inputs x0 x1 x2 x3 x4 D) : Is4 (n := 128) (m := 256) (kernelRun0_A.sl.v35 (F := Ideal) c arg3 harg3 arg4 harg4 x1 x2) (fun d k => D.A (0 + 0 + k) (128 + d)) := by
  unfold kernelRun0_A.sl.v35 kernelRun0_A.sl.v32 kernelRun0_A.sl.v31 kernelRun0_A.sl.v30
  exact slabV (is_v4 H)

/-- Values of block 1. -/
theorem is_v41 (H : Inputs x0 x1 x2 x3 x4 D) : Is4 (n := 128) (m := 256) (kernelRun0_A.sl.v41 (F := Ideal) c arg3 harg3 arg4 harg4 x1 x2) (fun d k => D.A (0 + 256 + k) (128 + d)) := by
  unfold kernelRun0_A.sl.v41 kernelRun0_A.sl.v38 kernelRun0_A.sl.v37 kernelRun0_A.sl.v36
  exact slabV (is_v4 H)

/-- Values of block 2. -/
theorem is_v47 (H : Inputs x0 x1 x2 x3 x4 D) : Is4 (n := 128) (m := 256) (kernelRun0_A.sl.v47 (F := Ideal) c arg3 harg3 arg4 harg4 x1 x2) (fun d k => D.A (0 + 512 + k) (128 + d)) := by
  unfold kernelRun0_A.sl.v47 kernelRun0_A.sl.v44 kernelRun0_A.sl.v43 kernelRun0_A.sl.v42
  exact slabV (is_v4 H)

/-- Values of block 3. -/
theorem is_v53 (H : Inputs x0 x1 x2 x3 x4 D) : Is4 (n := 128) (m := 256) (kernelRun0_A.sl.v53 (F := Ideal) c arg3 harg3 arg4 harg4 x1 x2) (fun d k => D.A (0 + 768 + k) (128 + d)) := by
  unfold kernelRun0_A.sl.v53 kernelRun0_A.sl.v50 kernelRun0_A.sl.v49 kernelRun0_A.sl.v48
  exact slabV (is_v4 H)

/-- Normed keys of slab 1. -/
theorem is_v77 (H : Inputs x0 x1 x2 x3 x4 D) : Is3 (n := 1024) (m := 128) (kernelRun0_A.sl.v77 (F := Ideal) c arg3 harg3 arg4 harg4 arg5 harg5 x1 x2 x3) (fun k n => D.KN (1024 + k) n) := by
  unfold kernelRun0_A.sl.v77 kernelRun0_A.sl.v74 kernelRun0_A.sl.v73 kernelRun0_A.sl.v71 kernelRun0_A.sl.v59 kernelRun0_A.sl.v70 kernelRun0_A.sl.v69 kernelRun0_A.sl.v68 kernelRun0_A.sl.v66 kernelRun0_A.sl.v64 kernelRun0_A.sl.v63 kernelRun0_A.sl.v62 kernelRun0_A.sl.v11 kernelRun0_A.sl.cst_7 kernelRun0_A.sl.v13 kernelRun0_A.sl.cst_8 kernelRun0_A.sl.v18
  exact slabKN (is_v58 H) (gRow H)

/-- Rotary keys of slab 1. -/
theorem is_v83 (H : Inputs x0 x1 x2 x3 x4 D) : Is3 (n := 1024) (m := 128) (kernelRun0_A.sl.v83 (F := Ideal) c arg6 harg6 x4) (fun a b => D.K (1024 + a) (128 + b)) := by
  unfold kernelRun0_A.sl.v83 kernelRun0_A.sl.v80 kernelRun0_A.sl.v79
  exact pieceKR harg6 H.r

/-- Values of block 4. -/
theorem is_v89 (H : Inputs x0 x1 x2 x3 x4 D) : Is4 (n := 128) (m := 256) (kernelRun0_A.sl.v89 (F := Ideal) c arg3 harg3 arg4 harg4 x1 x2) (fun d k => D.A (1024 + 0 + k) (128 + d)) := by
  unfold kernelRun0_A.sl.v89 kernelRun0_A.sl.v86 kernelRun0_A.sl.v85 kernelRun0_A.sl.v84
  exact slabV (is_v58 H)

/-- Values of block 5. -/
theorem is_v95 (H : Inputs x0 x1 x2 x3 x4 D) : Is4 (n := 128) (m := 256) (kernelRun0_A.sl.v95 (F := Ideal) c arg3 harg3 arg4 harg4 x1 x2) (fun d k => D.A (1024 + 256 + k) (128 + d)) := by
  unfold kernelRun0_A.sl.v95 kernelRun0_A.sl.v92 kernelRun0_A.sl.v91 kernelRun0_A.sl.v90
  exact slabV (is_v58 H)

/-- Values of block 6. -/
theorem is_v101 (H : Inputs x0 x1 x2 x3 x4 D) : Is4 (n := 128) (m := 256) (kernelRun0_A.sl.v101 (F := Ideal) c arg3 harg3 arg4 harg4 x1 x2) (fun d k => D.A (1024 + 512 + k) (128 + d)) := by
  unfold kernelRun0_A.sl.v101 kernelRun0_A.sl.v98 kernelRun0_A.sl.v97 kernelRun0_A.sl.v96
  exact slabV (is_v58 H)

/-- Values of block 7. -/
theorem is_v107 (H : Inputs x0 x1 x2 x3 x4 D) : Is4 (n := 128) (m := 256) (kernelRun0_A.sl.v107 (F := Ideal) c arg3 harg3 arg4 harg4 x1 x2) (fun d k => D.A (1024 + 768 + k) (128 + d)) := by
  unfold kernelRun0_A.sl.v107 kernelRun0_A.sl.v104 kernelRun0_A.sl.v103 kernelRun0_A.sl.v102
  exact slabV (is_v58 H)

/-- Normed keys of slab 2. -/
theorem is_v131 (H : Inputs x0 x1 x2 x3 x4 D) : Is3 (n := 1024) (m := 128) (kernelRun0_A.sl.v131 (F := Ideal) c arg3 harg3 arg4 harg4 arg5 harg5 x1 x2 x3) (fun k n => D.KN (2048 + k) n) := by
  unfold kernelRun0_A.sl.v131 kernelRun0_A.sl.v128 kernelRun0_A.sl.v127 kernelRun0_A.sl.v125 kernelRun0_A.sl.v113 kernelRun0_A.sl.v124 kernelRun0_A.sl.v123 kernelRun0_A.sl.v122 kernelRun0_A.sl.v120 kernelRun0_A.sl.v118 kernelRun0_A.sl.v117 kernelRun0_A.sl.v116 kernelRun0_A.sl.v11 kernelRun0_A.sl.cst_7 kernelRun0_A.sl.v13 kernelRun0_A.sl.cst_8 kernelRun0_A.sl.v18
  exact slabKN (is_v112 H) (gRow H)

/-- Rotary keys of slab 2. -/
theorem is_v137 (H : Inputs x0 x1 x2 x3 x4 D) : Is3 (n := 1024) (m := 128) (kernelRun0_A.sl.v137 (F := Ideal) c arg6 harg6 x4) (fun a b => D.K (2048 + a) (128 + b)) := by
  unfold kernelRun0_A.sl.v137 kernelRun0_A.sl.v134 kernelRun0_A.sl.v133
  exact pieceKR harg6 H.r

/-- Values of block 8. -/
theorem is_v143 (H : Inputs x0 x1 x2 x3 x4 D) : Is4 (n := 128) (m := 256) (kernelRun0_A.sl.v143 (F := Ideal) c arg3 harg3 arg4 harg4 x1 x2) (fun d k => D.A (2048 + 0 + k) (128 + d)) := by
  unfold kernelRun0_A.sl.v143 kernelRun0_A.sl.v140 kernelRun0_A.sl.v139 kernelRun0_A.sl.v138
  exact slabV (is_v112 H)

/-- Values of block 9. -/
theorem is_v149 (H : Inputs x0 x1 x2 x3 x4 D) : Is4 (n := 128) (m := 256) (kernelRun0_A.sl.v149 (F := Ideal) c arg3 harg3 arg4 harg4 x1 x2) (fun d k => D.A (2048 + 256 + k) (128 + d)) := by
  unfold kernelRun0_A.sl.v149 kernelRun0_A.sl.v146 kernelRun0_A.sl.v145 kernelRun0_A.sl.v144
  exact slabV (is_v112 H)

/-- Values of block 10. -/
theorem is_v155 (H : Inputs x0 x1 x2 x3 x4 D) : Is4 (n := 128) (m := 256) (kernelRun0_A.sl.v155 (F := Ideal) c arg3 harg3 arg4 harg4 x1 x2) (fun d k => D.A (2048 + 512 + k) (128 + d)) := by
  unfold kernelRun0_A.sl.v155 kernelRun0_A.sl.v152 kernelRun0_A.sl.v151 kernelRun0_A.sl.v150
  exact slabV (is_v112 H)

/-- Values of block 11. -/
theorem is_v161 (H : Inputs x0 x1 x2 x3 x4 D) : Is4 (n := 128) (m := 256) (kernelRun0_A.sl.v161 (F := Ideal) c arg3 harg3 arg4 harg4 x1 x2) (fun d k => D.A (2048 + 768 + k) (128 + d)) := by
  unfold kernelRun0_A.sl.v161 kernelRun0_A.sl.v158 kernelRun0_A.sl.v157 kernelRun0_A.sl.v156
  exact slabV (is_v112 H)

/-- Normed keys of slab 3. -/
theorem is_v185 (H : Inputs x0 x1 x2 x3 x4 D) : Is3 (n := 1024) (m := 128) (kernelRun0_A.sl.v185 (F := Ideal) c arg3 harg3 arg4 harg4 arg5 harg5 x1 x2 x3) (fun k n => D.KN (3072 + k) n) := by
  unfold kernelRun0_A.sl.v185 kernelRun0_A.sl.v182 kernelRun0_A.sl.v181 kernelRun0_A.sl.v179 kernelRun0_A.sl.v167 kernelRun0_A.sl.v178 kernelRun0_A.sl.v177 kernelRun0_A.sl.v176 kernelRun0_A.sl.v174 kernelRun0_A.sl.v172 kernelRun0_A.sl.v171 kernelRun0_A.sl.v170 kernelRun0_A.sl.v11 kernelRun0_A.sl.cst_7 kernelRun0_A.sl.v13 kernelRun0_A.sl.cst_8 kernelRun0_A.sl.v18
  exact slabKN (is_v166 H) (gRow H)

/-- Rotary keys of slab 3. -/
theorem is_v191 (H : Inputs x0 x1 x2 x3 x4 D) : Is3 (n := 1024) (m := 128) (kernelRun0_A.sl.v191 (F := Ideal) c arg6 harg6 x4) (fun a b => D.K (3072 + a) (128 + b)) := by
  unfold kernelRun0_A.sl.v191 kernelRun0_A.sl.v188 kernelRun0_A.sl.v187
  exact pieceKR harg6 H.r

/-- Values of block 12. -/
theorem is_v197 (H : Inputs x0 x1 x2 x3 x4 D) : Is4 (n := 128) (m := 256) (kernelRun0_A.sl.v197 (F := Ideal) c arg3 harg3 arg4 harg4 x1 x2) (fun d k => D.A (3072 + 0 + k) (128 + d)) := by
  unfold kernelRun0_A.sl.v197 kernelRun0_A.sl.v194 kernelRun0_A.sl.v193 kernelRun0_A.sl.v192
  exact slabV (is_v166 H)

/-- Values of block 13. -/
theorem is_v203 (H : Inputs x0 x1 x2 x3 x4 D) : Is4 (n := 128) (m := 256) (kernelRun0_A.sl.v203 (F := Ideal) c arg3 harg3 arg4 harg4 x1 x2) (fun d k => D.A (3072 + 256 + k) (128 + d)) := by
  unfold kernelRun0_A.sl.v203 kernelRun0_A.sl.v200 kernelRun0_A.sl.v199 kernelRun0_A.sl.v198
  exact slabV (is_v166 H)

/-- Values of block 14. -/
theorem is_v209 (H : Inputs x0 x1 x2 x3 x4 D) : Is4 (n := 128) (m := 256) (kernelRun0_A.sl.v209 (F := Ideal) c arg3 harg3 arg4 harg4 x1 x2) (fun d k => D.A (3072 + 512 + k) (128 + d)) := by
  unfold kernelRun0_A.sl.v209 kernelRun0_A.sl.v206 kernelRun0_A.sl.v205 kernelRun0_A.sl.v204
  exact slabV (is_v166 H)

/-- Values of block 15. -/
theorem is_v215 (H : Inputs x0 x1 x2 x3 x4 D) : Is4 (n := 128) (m := 256) (kernelRun0_A.sl.v215 (F := Ideal) c arg3 harg3 arg4 harg4 x1 x2) (fun d k => D.A (3072 + 768 + k) (128 + d)) := by
  unfold kernelRun0_A.sl.v215 kernelRun0_A.sl.v212 kernelRun0_A.sl.v211 kernelRun0_A.sl.v210
  exact slabV (is_v166 H)

/-- The key scratch. -/
theorem keys (H : Inputs x0 x1 x2 x3 x4 D) : Is3 (n := 4096) (m := 256) (View.canon (kernelRun0_A.sl.HS1_8 (F := Ideal) c arg3 harg3 arg4 harg4 arg5 harg5 arg6 harg6 x1 x2 x3 x4)) D.K := by
  unfold kernelRun0_A.sl.HS1_8
  intro y
  refine canon_of_pieces (s := S1x4096x256) (e := .bf16) (fun y => (D.K (y 1).val (y 2).val : EReal)) ?_
    ⟨piece3 (R := 4096) (M := 256) (c := 1024) (d := 128) (f := D.K) (o := 3072) (p := 128) (inb := by decide) (is_v191 H),
      piece3 (R := 4096) (M := 256) (c := 1024) (d := 128) (f := D.K) (o := 3072) (p := 0) (inb := by decide) (pieceKN (is_v185 H)),
      piece3 (R := 4096) (M := 256) (c := 1024) (d := 128) (f := D.K) (o := 2048) (p := 128) (inb := by decide) (is_v137 H),
      piece3 (R := 4096) (M := 256) (c := 1024) (d := 128) (f := D.K) (o := 2048) (p := 0) (inb := by decide) (pieceKN (is_v131 H)),
      piece3 (R := 4096) (M := 256) (c := 1024) (d := 128) (f := D.K) (o := 1024) (p := 128) (inb := by decide) (is_v83 H),
      piece3 (R := 4096) (M := 256) (c := 1024) (d := 128) (f := D.K) (o := 1024) (p := 0) (inb := by decide) (pieceKN (is_v77 H)),
      piece3 (R := 4096) (M := 256) (c := 1024) (d := 128) (f := D.K) (o := 0) (p := 128) (inb := by decide) (is_v29 H),
      piece3 (R := 4096) (M := 256) (c := 1024) (d := 128) (f := D.K) (o := 0) (p := 0) (inb := by decide) (pieceKN (is_v23 H)), trivial⟩
  · have h1 : (y 1).val < 4096 := (y 1).isLt
    have h2 : (y 2).val < 256 := (y 2).isLt
    rcases Nat.lt_or_ge (y 2).val 128 with h | h <;> rcases (by omega : (y 1).val < 1024 ∨ (1024 ≤ (y 1).val ∧ (y 1).val < 2048) ∨ (2048 ≤ (y 1).val ∧ (y 1).val < 3072) ∨ 3072 ≤ (y 1).val) with h' | h' | h' | h'
    · exact ⟨_, .tail _ (.tail _ (.tail _ (.tail _ (.tail _ (.tail _ (.tail _ (.head _))))))), mem_block (R := 4096) (M := 256) (by decide) y (by omega) (by omega) (by omega) (by omega)⟩
    · exact ⟨_, .tail _ (.tail _ (.tail _ (.tail _ (.tail _ (.head _))))), mem_block (R := 4096) (M := 256) (by decide) y (by omega) (by omega) (by omega) (by omega)⟩
    · exact ⟨_, .tail _ (.tail _ (.tail _ (.head _))), mem_block (R := 4096) (M := 256) (by decide) y (by omega) (by omega) (by omega) (by omega)⟩
    · exact ⟨_, .tail _ (.head _), mem_block (R := 4096) (M := 256) (by decide) y (by omega) (by omega) (by omega) (by omega)⟩
    · exact ⟨_, .tail _ (.tail _ (.tail _ (.tail _ (.tail _ (.tail _ (.head _)))))), mem_block (R := 4096) (M := 256) (by decide) y (by omega) (by omega) (by omega) (by omega)⟩
    · exact ⟨_, .tail _ (.tail _ (.tail _ (.tail _ (.head _)))), mem_block (R := 4096) (M := 256) (by decide) y (by omega) (by omega) (by omega) (by omega)⟩
    · exact ⟨_, .tail _ (.tail _ (.head _)), mem_block (R := 4096) (M := 256) (by decide) y (by omega) (by omega) (by omega) (by omega)⟩
    · exact ⟨_, .head _, mem_block (R := 4096) (M := 256) (by decide) y (by omega) (by omega) (by omega) (by omega)⟩

/-- The value scratch. -/
theorem values (H : Inputs x0 x1 x2 x3 x4 D) : ∀ y, View.canon (kernelRun0_A.sl.HS2_16 (F := Ideal) c arg3 harg3 arg4 harg4 x1 x2) y = D.A (256 * (y 1).val + (y 3).val) (128 + (y 2).val) := by
  unfold kernelRun0_A.sl.HS2_16
  intro y
  refine canon_of_pieces (s := S1x16x128x256) (e := .bf16) (fun y => (D.A (256 * (y 1).val + (y 3).val) (128 + (y 2).val) : EReal)) ?_
    ⟨pieceV (inb := by decide) (is_v215 H) rfl,
      pieceV (inb := by decide) (is_v209 H) rfl,
      pieceV (inb := by decide) (is_v203 H) rfl,
      pieceV (inb := by decide) (is_v197 H) rfl,
      pieceV (inb := by decide) (is_v161 H) rfl,
      pieceV (inb := by decide) (is_v155 H) rfl,
      pieceV (inb := by decide) (is_v149 H) rfl,
      pieceV (inb := by decide) (is_v143 H) rfl,
      pieceV (inb := by decide) (is_v107 H) rfl,
      pieceV (inb := by decide) (is_v101 H) rfl,
      pieceV (inb := by decide) (is_v95 H) rfl,
      pieceV (inb := by decide) (is_v89 H) rfl,
      pieceV (inb := by decide) (is_v53 H) rfl,
      pieceV (inb := by decide) (is_v47 H) rfl,
      pieceV (inb := by decide) (is_v41 H) rfl,
      pieceV (inb := by decide) (is_v35 H) rfl, trivial⟩
  · have h1 : (y 1).val < 16 := (y 1).isLt
    obtain ⟨s, hs⟩ : ∃ s, s = (y 1).val := ⟨_, rfl⟩
    rw [← hs] at h1
    interval_cases s
    · exact ⟨_, .tail _ (.tail _ (.tail _ (.tail _ (.tail _ (.tail _ (.tail _ (.tail _ (.tail _ (.tail _ (.tail _ (.tail _ (.tail _ (.tail _ (.tail _ (.head _))))))))))))))), mem_value (by decide) y hs.symm⟩
    · exact ⟨_, .tail _ (.tail _ (.tail _ (.tail _ (.tail _ (.tail _ (.tail _ (.tail _ (.tail _ (.tail _ (.tail _ (.tail _ (.tail _ (.tail _ (.head _)))))))))))))), mem_value (by decide) y hs.symm⟩
    · exact ⟨_, .tail _ (.tail _ (.tail _ (.tail _ (.tail _ (.tail _ (.tail _ (.tail _ (.tail _ (.tail _ (.tail _ (.tail _ (.tail _ (.head _))))))))))))), mem_value (by decide) y hs.symm⟩
    · exact ⟨_, .tail _ (.tail _ (.tail _ (.tail _ (.tail _ (.tail _ (.tail _ (.tail _ (.tail _ (.tail _ (.tail _ (.tail _ (.head _)))))))))))), mem_value (by decide) y hs.symm⟩
    · exact ⟨_, .tail _ (.tail _ (.tail _ (.tail _ (.tail _ (.tail _ (.tail _ (.tail _ (.tail _ (.tail _ (.tail _ (.head _))))))))))), mem_value (by decide) y hs.symm⟩
    · exact ⟨_, .tail _ (.tail _ (.tail _ (.tail _ (.tail _ (.tail _ (.tail _ (.tail _ (.tail _ (.tail _ (.head _)))))))))), mem_value (by decide) y hs.symm⟩
    · exact ⟨_, .tail _ (.tail _ (.tail _ (.tail _ (.tail _ (.tail _ (.tail _ (.tail _ (.tail _ (.head _))))))))), mem_value (by decide) y hs.symm⟩
    · exact ⟨_, .tail _ (.tail _ (.tail _ (.tail _ (.tail _ (.tail _ (.tail _ (.tail _ (.head _)))))))), mem_value (by decide) y hs.symm⟩
    · exact ⟨_, .tail _ (.tail _ (.tail _ (.tail _ (.tail _ (.tail _ (.tail _ (.head _))))))), mem_value (by decide) y hs.symm⟩
    · exact ⟨_, .tail _ (.tail _ (.tail _ (.tail _ (.tail _ (.tail _ (.head _)))))), mem_value (by decide) y hs.symm⟩
    · exact ⟨_, .tail _ (.tail _ (.tail _ (.tail _ (.tail _ (.head _))))), mem_value (by decide) y hs.symm⟩
    · exact ⟨_, .tail _ (.tail _ (.tail _ (.tail _ (.head _)))), mem_value (by decide) y hs.symm⟩
    · exact ⟨_, .tail _ (.tail _ (.tail _ (.head _))), mem_value (by decide) y hs.symm⟩
    · exact ⟨_, .tail _ (.tail _ (.head _)), mem_value (by decide) y hs.symm⟩
    · exact ⟨_, .tail _ (.head _), mem_value (by decide) y hs.symm⟩
    · exact ⟨_, .head _, mem_value (by decide) y hs.symm⟩

end Cert.Words
-- ==== Proof.Blocks.lean ====
module

public import proofs.«01_k».proof.Proof.Slabs

@[expose] public section

set_option maxRecDepth 16384

noncomputable section

namespace Cert.Words

open Idealize.ShloMosaic hiding ix0 ix1 ix2 ix3 ix4 ix5 eq_ix1 eq_ix2 eq_ix3 eq_ix4 eq_ix5
open Idealize.ShloMosaic.ValueIdx
open Cert.KernelIdeal Cert.KernelIdeal.Gen

/-! The query blocks, one after another. -/

variable {D : Data} {c : Dev nD} {arg2 : Memref sig .tc .vmem S1x4096x256 .bf16} {harg2 : arg2.IsWhole} {arg3 : Memref sig .tc .vmem S1x4096x512 .bf16} {harg3 : arg3.IsWhole}
  {arg4 : Memref sig .tc .vmem S512x256 .bf16} {harg4 : arg4.IsWhole} {arg5 : Memref sig .tc .vmem S1x128 .f32} {harg5 : arg5.IsWhole}
  {arg6 : Memref sig .tc .vmem S1x4096x128 .f32} {harg6 : arg6.IsWhole} {arg8 : Memref sig .tc .vmem S256x256 .f32}
  {arg9 : Memref sig .tc .vmem S1x4096x256 .bf16} {arg10 : Memref sig .tc .vmem S1x16x128x256 .bf16}
  {arg11 arg12 arg13 : Memref sig .tc .vmem S4096x256 .f32}
  {x0 : Vec Ideal S1x4096x256 .bf16} {x1 : Vec Ideal S1x4096x512 .bf16} {x2 : Vec Ideal S512x256 .bf16} {x3 : Vec Ideal S1x128 .f32} {x4 : Vec Ideal S1x4096x128 .f32}

/-- Scores of query block 0. -/
theorem rows_HS3_1 (H : Inputs x0 x1 x2 x3 x4 D) : RowsOf 256 (kernelRun0_A.sl.HS3_1 (F := Ideal) c arg2 harg2 arg3 harg3 arg4 harg4 arg5 harg5 arg6 harg6 arg9 x0 x1 x2 x3 x4) (D.S 0) := by
  unfold kernelRun0_A.sl.HS3_1 kernelRun0_A.sl.v273
  unfold k0_pay42
  exact RowsOf.whole (R := 4096) (M := 256) _ (scoreI (keyRows (keys H)) (queryRows (i := 0) (o := 0) harg2 H.q rfl) rfl)

/-- Masked diagonal scores of query block 0. -/
theorem is_v302 (H : Inputs x0 x1 x2 x3 x4 D) : Is2 (n := 256) (m := 256) (kernelRun0_A.sl.v302 (F := Ideal) c arg2 harg2 arg3 harg3 arg4 harg4 arg5 harg5 arg6 harg6 arg8 arg9 arg11 x0 x1 x2 x3 x4) (fun a b => D.S 0 (0 + a) b + Data.M a b) := by
  unfold kernelRun0_A.sl.v302 kernelRun0_A.sl.v299 kernelRun0_A.sl.v297
  exact maskedI (RowsOf.read (rows_HS3_1 H) (by norm_num)) is2_mask

/-- The buffer with the masked scores of query block 0. -/
theorem rows_HS3_2 (H : Inputs x0 x1 x2 x3 x4 D) : RowsOf 256 (kernelRun0_A.sl.HS3_2 (F := Ideal) c arg2 harg2 arg3 harg3 arg4 harg4 arg5 harg5 arg6 harg6 arg8 arg9 arg11 x0 x1 x2 x3 x4) (D.T 0) := by
  unfold kernelRun0_A.sl.HS3_2
  exact RowsOf.patch (R := 4096) (M := 256) (rows_HS3_1 H) (is_v302 H) (by norm_num)

/-- Maxima of query block 0. -/
theorem is_v305 (H : Inputs x0 x1 x2 x3 x4 D) : Is2 (n := 1) (m := 256) (kernelRun0_A.sl.v305 (F := Ideal) c arg2 harg2 arg3 harg3 arg4 harg4 arg5 harg5 arg6 harg6 arg8 arg9 arg11 x0 x1 x2 x3 x4) (fun _ b => D.mx 0 b) := by
  unfold kernelRun0_A.sl.v305 kernelRun0_A.sl.v304 kernelRun0_A.sl.v303
  exact maxI (RowsOf.read (rows_HS3_2 H) (by norm_num)) rfl

/-- Value block 0, read back. -/
theorem is_v307 (H : Inputs x0 x1 x2 x3 x4 D) : Is2 (n := 128) (m := 256) (kernelRun0_A.sl.v307 (F := Ideal) c arg3 harg3 arg4 harg4 arg10 x1 x2) (fun d k => D.A (0 + k) (128 + d)) := by
  unfold kernelRun0_A.sl.v307 kernelRun0_A.sl.v306
  exact valueBlock (values H) rfl

/-- Values of the 256 keys from 0 on, with ones below. -/
theorem is_v309 (H : Inputs x0 x1 x2 x3 x4 D) : Is2 (n := 144) (m := 256) (kernelRun0_A.sl.v309 (F := Ideal) c arg3 harg3 arg4 harg4 arg10 x1 x2) (fun d k => D.V d (0 + k)) := by
  unfold kernelRun0_A.sl.v309 kernelRun0_A.sl.v308 kernelRun0_A.sl.cst_176
  exact valuesI (is_v307 H)

/-- Query block 0 over 256 keys. -/
theorem is_v315 (H : Inputs x0 x1 x2 x3 x4 D) : Is2 (n := 144) (m := 256) (kernelRun0_A.sl.v315 (F := Ideal) c arg2 harg2 arg3 harg3 arg4 harg4 arg5 harg5 arg6 harg6 arg8 arg9 arg10 arg11 x0 x1 x2 x3 x4) (D.acc 0 256) := by
  unfold kernelRun0_A.sl.v315 kernelRun0_A.sl.v314 kernelRun0_A.sl.v313 kernelRun0_A.sl.v312 kernelRun0_A.sl.v303 kernelRun0_A.sl.v311 kernelRun0_A.sl.cst_179
  exact groupFirst (groupI (is_v309 H) (RowsOf.read (rows_HS3_2 H) (by norm_num)) (is_v305 H) rfl)

/-- Result block 0. -/
theorem is_v324 (H : Inputs x0 x1 x2 x3 x4 D) : Is3 (n := 256) (m := 128) (kernelRun0_A.sl.v324 (F := Ideal) c arg2 harg2 arg3 harg3 arg4 harg4 arg5 harg5 arg6 harg6 arg8 arg9 arg10 arg11 x0 x1 x2 x3 x4) (D.outB 0) := by
  unfold kernelRun0_A.sl.v324 kernelRun0_A.sl.v321 kernelRun0_A.sl.v320 kernelRun0_A.sl.v319 kernelRun0_A.sl.v316 kernelRun0_A.sl.v318 kernelRun0_A.sl.v317
  exact outI (is_v315 H) rfl

/-- Scores of query block 1. -/
theorem is_v288 (H : Inputs x0 x1 x2 x3 x4 D) : Is2 (n := 512) (m := 256) (kernelRun0_A.sl.v288 (F := Ideal) c arg2 harg2 arg3 harg3 arg4 harg4 arg5 harg5 arg6 harg6 arg9 x0 x1 x2 x3 x4) (D.S 1) := by
  unfold kernelRun0_A.sl.v288 kernelRun0_A.sl.v285 kernelRun0_A.sl.v282 kernelRun0_A.sl.v281 kernelRun0_A.sl.v284 kernelRun0_A.sl.cst_152
  exact scoreI (keyRows (keys H)) (queryRows (i := 1) (o := 256) harg2 H.q rfl) rfl

/-- The buffer with the scores of query block 1. -/
theorem rows_HS4_1 (H : Inputs x0 x1 x2 x3 x4 D) : RowsOf 512 (kernelRun0_A.sl.HS4_1 (F := Ideal) c arg2 harg2 arg3 harg3 arg4 harg4 arg5 harg5 arg6 harg6 arg9 x0 x1 x2 x3 x4) (D.S 1) := by
  unfold kernelRun0_A.sl.HS4_1
  exact RowsOf.whole (R := 4096) (M := 256) _ (is_v288 H)

/-- Masked diagonal scores of query block 1. -/
theorem is_v338 (H : Inputs x0 x1 x2 x3 x4 D) : Is2 (n := 256) (m := 256) (kernelRun0_A.sl.v338 (F := Ideal) c arg2 harg2 arg3 harg3 arg4 harg4 arg5 harg5 arg6 harg6 arg8 arg9 arg12 x0 x1 x2 x3 x4) (fun a b => D.S 1 (256 + a) b + Data.M a b) := by
  unfold kernelRun0_A.sl.v338 kernelRun0_A.sl.v335 kernelRun0_A.sl.v333
  exact maskedI (RowsOf.read (rows_HS4_1 H) (by norm_num)) is2_mask

/-- The buffer with the masked scores of query block 1. -/
theorem rows_HS4_2 (H : Inputs x0 x1 x2 x3 x4 D) : RowsOf 512 (kernelRun0_A.sl.HS4_2 (F := Ideal) c arg2 harg2 arg3 harg3 arg4 harg4 arg5 harg5 arg6 harg6 arg8 arg9 arg12 x0 x1 x2 x3 x4) (D.T 1) := by
  unfold kernelRun0_A.sl.HS4_2
  exact RowsOf.patch (R := 4096) (M := 256) (rows_HS4_1 H) (is_v338 H) (by norm_num)

/-- Maxima of query block 1. -/
theorem is_v341 (H : Inputs x0 x1 x2 x3 x4 D) : Is2 (n := 1) (m := 256) (kernelRun0_A.sl.v341 (F := Ideal) c arg2 harg2 arg3 harg3 arg4 harg4 arg5 harg5 arg6 harg6 arg8 arg9 arg12 x0 x1 x2 x3 x4) (fun _ b => D.mx 1 b) := by
  unfold kernelRun0_A.sl.v341 kernelRun0_A.sl.v340 kernelRun0_A.sl.v
  exact maxI (RowsOf.read (rows_HS4_2 H) (by norm_num)) rfl

/-- Value block 1, read back. -/
theorem is_v345 (H : Inputs x0 x1 x2 x3 x4 D) : Is2 (n := 128) (m := 256) (kernelRun0_A.sl.v345 (F := Ideal) c arg3 harg3 arg4 harg4 arg10 x1 x2) (fun d k => D.A (256 + k) (128 + d)) := by
  unfold kernelRun0_A.sl.v345 kernelRun0_A.sl.v344
  exact valueBlock (values H) rfl

/-- Values of the 512 keys from 0 on, with ones below. -/
theorem is_v348 (H : Inputs x0 x1 x2 x3 x4 D) : Is2 (n := 144) (m := 512) (kernelRun0_A.sl.v348 (F := Ideal) c arg3 harg3 arg4 harg4 arg10 x1 x2) (fun d k => D.V d (0 + k)) := by
  unfold kernelRun0_A.sl.v348 kernelRun0_A.sl.v346 kernelRun0_A.sl.v347 kernelRun0_A.sl.cst_176
  refine valuesI (is2_catCols (n := 128) (m := 256) (N := 2) (f := fun a b => D.A (0 + b) (128 + a)) rfl ?_ rfl _)
  intro i hi; interval_cases i
  · exact ⟨_, rfl, colAt (is_v307 H) rfl⟩
  · exact ⟨_, rfl, colAt (is_v345 H) rfl⟩

/-- Query block 1 over 512 keys. -/
theorem is_v354 (H : Inputs x0 x1 x2 x3 x4 D) : Is2 (n := 144) (m := 256) (kernelRun0_A.sl.v354 (F := Ideal) c arg2 harg2 arg3 harg3 arg4 harg4 arg5 harg5 arg6 harg6 arg8 arg9 arg10 arg12 x0 x1 x2 x3 x4) (D.acc 1 512) := by
  unfold kernelRun0_A.sl.v354 kernelRun0_A.sl.v353 kernelRun0_A.sl.v352 kernelRun0_A.sl.v351 kernelRun0_A.sl.v kernelRun0_A.sl.v350 kernelRun0_A.sl.cst_179
  exact groupFirst (groupI (is_v348 H) (RowsOf.read (rows_HS4_2 H) (by norm_num)) (is_v341 H) rfl)

/-- Result block 1. -/
theorem is_v363 (H : Inputs x0 x1 x2 x3 x4 D) : Is3 (n := 256) (m := 128) (kernelRun0_A.sl.v363 (F := Ideal) c arg2 harg2 arg3 harg3 arg4 harg4 arg5 harg5 arg6 harg6 arg8 arg9 arg10 arg12 x0 x1 x2 x3 x4) (D.outB 1) := by
  unfold kernelRun0_A.sl.v363 kernelRun0_A.sl.v360 kernelRun0_A.sl.v359 kernelRun0_A.sl.v358 kernelRun0_A.sl.v355 kernelRun0_A.sl.v357 kernelRun0_A.sl.v356
  exact outI (is_v354 H) rfl

/-- Scores of query block 2. -/
theorem is_v296 (H : Inputs x0 x1 x2 x3 x4 D) : Is2 (n := 768) (m := 256) (kernelRun0_A.sl.v296 (F := Ideal) c arg2 harg2 arg3 harg3 arg4 harg4 arg5 harg5 arg6 harg6 arg9 x0 x1 x2 x3 x4) (D.S 2) := by
  unfold kernelRun0_A.sl.v296 kernelRun0_A.sl.v293 kernelRun0_A.sl.v290 kernelRun0_A.sl.v289 kernelRun0_A.sl.v292 kernelRun0_A.sl.cst_160
  exact scoreI (keyRows (keys H)) (queryRows (i := 2) (o := 512) harg2 H.q rfl) rfl

/-- The buffer with the scores of query block 2. -/
theorem rows_HS5_1 (H : Inputs x0 x1 x2 x3 x4 D) : RowsOf 768 (kernelRun0_A.sl.HS5_1 (F := Ideal) c arg2 harg2 arg3 harg3 arg4 harg4 arg5 harg5 arg6 harg6 arg9 x0 x1 x2 x3 x4) (D.S 2) := by
  unfold kernelRun0_A.sl.HS5_1
  exact RowsOf.whole (R := 4096) (M := 256) _ (is_v296 H)

/-- Masked diagonal scores of query block 2. -/
theorem is_v377 (H : Inputs x0 x1 x2 x3 x4 D) : Is2 (n := 256) (m := 256) (kernelRun0_A.sl.v377 (F := Ideal) c arg2 harg2 arg3 harg3 arg4 harg4 arg5 harg5 arg6 harg6 arg8 arg9 arg13 x0 x1 x2 x3 x4) (fun a b => D.S 2 (512 + a) b + Data.M a b) := by
  unfold kernelRun0_A.sl.v377 kernelRun0_A.sl.v374 kernelRun0_A.sl.v372
  exact maskedI (RowsOf.read (rows_HS5_1 H) (by norm_num)) is2_mask

/-- The buffer with the masked scores of query block 2. -/
theorem rows_HS5_2 (H : Inputs x0 x1 x2 x3 x4 D) : RowsOf 768 (kernelRun0_A.sl.HS5_2 (F := Ideal) c arg2 harg2 arg3 harg3 arg4 harg4 arg5 harg5 arg6 harg6 arg8 arg9 arg13 x0 x1 x2 x3 x4) (D.T 2) := by
  unfold kernelRun0_A.sl.HS5_2
  exact RowsOf.patch (R := 4096) (M := 256) (rows_HS5_1 H) (is_v377 H) (by norm_num)

/-- Maxima of query block 2. -/
theorem is_v380 (H : Inputs x0 x1 x2 x3 x4 D) : Is2 (n := 1) (m := 256) (kernelRun0_A.sl.v380 (F := Ideal) c arg2 harg2 arg3 harg3 arg4 harg4 arg5 harg5 arg6 harg6 arg8 arg9 arg13 x0 x1 x2 x3 x4) (fun _ b => D.mx 2 b) := by
  unfold kernelRun0_A.sl.v380 kernelRun0_A.sl.v379 kernelRun0_A.sl.v378
  exact maxI (RowsOf.read (rows_HS5_2 H) (by norm_num)) rfl

/-- Value block 2, read back. -/
theorem is_v386 (H : Inputs x0 x1 x2 x3 x4 D) : Is2 (n := 128) (m := 256) (kernelRun0_A.sl.v386 (F := Ideal) c arg3 harg3 arg4 harg4 arg10 x1 x2) (fun d k => D.A (512 + k) (128 + d)) := by
  unfold kernelRun0_A.sl.v386 kernelRun0_A.sl.v385
  exact valueBlock (values H) rfl

/-- Values of the 768 keys from 0 on, with ones below. -/
theorem is_v389 (H : Inputs x0 x1 x2 x3 x4 D) : Is2 (n := 144) (m := 768) (kernelRun0_A.sl.v389 (F := Ideal) c arg3 harg3 arg4 harg4 arg10 x1 x2) (fun d k => D.V d (0 + k)) := by
  unfold kernelRun0_A.sl.v389 kernelRun0_A.sl.v387 kernelRun0_A.sl.v388 kernelRun0_A.sl.cst_176
  refine valuesI (is2_catCols (n := 128) (m := 256) (N := 3) (f := fun a b => D.A (0 + b) (128 + a)) rfl ?_ rfl _)
  intro i hi; interval_cases i
  · exact ⟨_, rfl, colAt (is_v307 H) rfl⟩
  · exact ⟨_, rfl, colAt (is_v345 H) rfl⟩
  · exact ⟨_, rfl, colAt (is_v386 H) rfl⟩

/-- Query block 2 over 768 keys. -/
theorem is_v395 (H : Inputs x0 x1 x2 x3 x4 D) : Is2 (n := 144) (m := 256) (kernelRun0_A.sl.v395 (F := Ideal) c arg2 harg2 arg3 harg3 arg4 harg4 arg5 harg5 arg6 harg6 arg8 arg9 arg10 arg13 x0 x1 x2 x3 x4) (D.acc 2 768) := by
  unfold kernelRun0_A.sl.v395 kernelRun0_A.sl.v394 kernelRun0_A.sl.v393 kernelRun0_A.sl.v392 kernelRun0_A.sl.v378 kernelRun0_A.sl.v391 kernelRun0_A.sl.cst_179
  exact groupFirst (groupI (is_v389 H) (RowsOf.read (rows_HS5_2 H) (by norm_num)) (is_v380 H) rfl)

/-- Result block 2. -/
theorem is_v404 (H : Inputs x0 x1 x2 x3 x4 D) : Is3 (n := 256) (m := 128) (kernelRun0_A.sl.v404 (F := Ideal) c arg2 harg2 arg3 harg3 arg4 harg4 arg5 harg5 arg6 harg6 arg8 arg9 arg10 arg13 x0 x1 x2 x3 x4) (D.outB 2) := by
  unfold kernelRun0_A.sl.v404 kernelRun0_A.sl.v401 kernelRun0_A.sl.v400 kernelRun0_A.sl.v399 kernelRun0_A.sl.v396 kernelRun0_A.sl.v398 kernelRun0_A.sl.v397
  exact outI (is_v395 H) rfl

/-- Scores of query block 3. -/
theorem is_v332 (H : Inputs x0 x1 x2 x3 x4 D) : Is2 (n := 1024) (m := 256) (kernelRun0_A.sl.v332 (F := Ideal) c arg2 harg2 arg3 harg3 arg4 harg4 arg5 harg5 arg6 harg6 arg9 x0 x1 x2 x3 x4) (D.S 3) := by
  unfold kernelRun0_A.sl.v332 kernelRun0_A.sl.v329 kernelRun0_A.sl.v326 kernelRun0_A.sl.v325 kernelRun0_A.sl.v328 kernelRun0_A.sl.cst
  exact scoreI (keyRows (keys H)) (queryRows (i := 3) (o := 768) harg2 H.q rfl) rfl

/-- The buffer with the scores of query block 3. -/
theorem rows_HS3_3 (H : Inputs x0 x1 x2 x3 x4 D) : RowsOf 1024 (kernelRun0_A.sl.HS3_3 (F := Ideal) c arg2 harg2 arg3 harg3 arg4 harg4 arg5 harg5 arg6 harg6 arg8 arg9 arg11 x0 x1 x2 x3 x4) (D.S 3) := by
  unfold kernelRun0_A.sl.HS3_3
  exact RowsOf.whole (R := 4096) (M := 256) _ (is_v332 H)

/-- Masked diagonal scores of query block 3. -/
theorem is_v418 (H : Inputs x0 x1 x2 x3 x4 D) : Is2 (n := 256) (m := 256) (kernelRun0_A.sl.v418 (F := Ideal) c arg2 harg2 arg3 harg3 arg4 harg4 arg5 harg5 arg6 harg6 arg8 arg9 arg11 x0 x1 x2 x3 x4) (fun a b => D.S 3 (768 + a) b + Data.M a b) := by
  unfold kernelRun0_A.sl.v418 kernelRun0_A.sl.v415 kernelRun0_A.sl.v413
  exact maskedI (RowsOf.read (rows_HS3_3 H) (by norm_num)) is2_mask

/-- The buffer with the masked scores of query block 3. -/
theorem rows_HS3_4 (H : Inputs x0 x1 x2 x3 x4 D) : RowsOf 1024 (kernelRun0_A.sl.HS3_4 (F := Ideal) c arg2 harg2 arg3 harg3 arg4 harg4 arg5 harg5 arg6 harg6 arg8 arg9 arg11 x0 x1 x2 x3 x4) (D.T 3) := by
  unfold kernelRun0_A.sl.HS3_4
  exact RowsOf.patch (R := 4096) (M := 256) (rows_HS3_3 H) (is_v418 H) (by norm_num)

/-- Maxima of query block 3. -/
theorem is_v421 (H : Inputs x0 x1 x2 x3 x4 D) : Is2 (n := 1) (m := 256) (kernelRun0_A.sl.v421 (F := Ideal) c arg2 harg2 arg3 harg3 arg4 harg4 arg5 harg5 arg6 harg6 arg8 arg9 arg11 x0 x1 x2 x3 x4) (fun _ b => D.mx 3 b) := by
  unfold kernelRun0_A.sl.v421 kernelRun0_A.sl.v420 kernelRun0_A.sl.v419
  exact maxI (RowsOf.read (rows_HS3_4 H) (by norm_num)) rfl

/-- Value block 3, read back. -/
theorem is_v429 (H : Inputs x0 x1 x2 x3 x4 D) : Is2 (n := 128) (m := 256) (kernelRun0_A.sl.v429 (F := Ideal) c arg3 harg3 arg4 harg4 arg10 x1 x2) (fun d k => D.A (768 + k) (128 + d)) := by
  unfold kernelRun0_A.sl.v429 kernelRun0_A.sl.v428
  exact valueBlock (values H) rfl

/-- Values of the 1024 keys from 0 on, with ones below. -/
theorem is_v432 (H : Inputs x0 x1 x2 x3 x4 D) : Is2 (n := 144) (m := 1024) (kernelRun0_A.sl.v432 (F := Ideal) c arg3 harg3 arg4 harg4 arg10 x1 x2) (fun d k => D.V d (0 + k)) := by
  unfold kernelRun0_A.sl.v432 kernelRun0_A.sl.v430 kernelRun0_A.sl.v431 kernelRun0_A.sl.cst_176
  refine valuesI (is2_catCols (n := 128) (m := 256) (N := 4) (f := fun a b => D.A (0 + b) (128 + a)) rfl ?_ rfl _)
  intro i hi; interval_cases i
  · exact ⟨_, rfl, colAt (is_v307 H) rfl⟩
  · exact ⟨_, rfl, colAt (is_v345 H) rfl⟩
  · exact ⟨_, rfl, colAt (is_v386 H) rfl⟩
  · exact ⟨_, rfl, colAt (is_v429 H) rfl⟩

/-- Query block 3 over 1024 keys. -/
theorem is_v438 (H : Inputs x0 x1 x2 x3 x4 D) : Is2 (n := 144) (m := 256) (kernelRun0_A.sl.v438 (F := Ideal) c arg2 harg2 arg3 harg3 arg4 harg4 arg5 harg5 arg6 harg6 arg8 arg9 arg10 arg11 x0 x1 x2 x3 x4) (D.acc 3 1024) := by
  unfold kernelRun0_A.sl.v438 kernelRun0_A.sl.v437 kernelRun0_A.sl.v436 kernelRun0_A.sl.v435 kernelRun0_A.sl.v419 kernelRun0_A.sl.v434 kernelRun0_A.sl.cst_179
  exact groupFirst (groupI (is_v432 H) (RowsOf.read (rows_HS3_4 H) (by norm_num)) (is_v421 H) rfl)

/-- Result block 3. -/
theorem is_v447 (H : Inputs x0 x1 x2 x3 x4 D) : Is3 (n := 256) (m := 128) (kernelRun0_A.sl.v447 (F := Ideal) c arg2 harg2 arg3 harg3 arg4 harg4 arg5 harg5 arg6 harg6 arg8 arg9 arg10 arg11 x0 x1 x2 x3 x4) (D.outB 3) := by
  unfold kernelRun0_A.sl.v447 kernelRun0_A.sl.v444 kernelRun0_A.sl.v443 kernelRun0_A.sl.v442 kernelRun0_A.sl.v439 kernelRun0_A.sl.v441 kernelRun0_A.sl.v440
  exact outI (is_v438 H) rfl

/-- Scores of query block 4. -/
theorem is_v371 (H : Inputs x0 x1 x2 x3 x4 D) : Is2 (n := 1280) (m := 256) (kernelRun0_A.sl.v371 (F := Ideal) c arg2 harg2 arg3 harg3 arg4 harg4 arg5 harg5 arg6 harg6 arg9 x0 x1 x2 x3 x4) (D.S 4) := by
  unfold kernelRun0_A.sl.v371 kernelRun0_A.sl.v368 kernelRun0_A.sl.v365 kernelRun0_A.sl.v364 kernelRun0_A.sl.v367 kernelRun0_A.sl.cst_221
  exact scoreI (keyRows (keys H)) (queryRows (i := 4) (o := 1024) harg2 H.q rfl) rfl

/-- The buffer with the scores of query block 4. -/
theorem rows_HS4_3 (H : Inputs x0 x1 x2 x3 x4 D) : RowsOf 1280 (kernelRun0_A.sl.HS4_3 (F := Ideal) c arg2 harg2 arg3 harg3 arg4 harg4 arg5 harg5 arg6 harg6 arg8 arg9 arg12 x0 x1 x2 x3 x4) (D.S 4) := by
  unfold kernelRun0_A.sl.HS4_3
  exact RowsOf.whole (R := 4096) (M := 256) _ (is_v371 H)

/-- Masked diagonal scores of query block 4. -/
theorem is_v461 (H : Inputs x0 x1 x2 x3 x4 D) : Is2 (n := 256) (m := 256) (kernelRun0_A.sl.v461 (F := Ideal) c arg2 harg2 arg3 harg3 arg4 harg4 arg5 harg5 arg6 harg6 arg8 arg9 arg12 x0 x1 x2 x3 x4) (fun a b => D.S 4 (1024 + a) b + Data.M a b) := by
  unfold kernelRun0_A.sl.v461 kernelRun0_A.sl.v458 kernelRun0_A.sl.v456
  exact maskedI (RowsOf.read (rows_HS4_3 H) (by norm_num)) is2_mask

/-- The buffer with the masked scores of query block 4. -/
theorem rows_HS4_4 (H : Inputs x0 x1 x2 x3 x4 D) : RowsOf 1280 (kernelRun0_A.sl.HS4_4 (F := Ideal) c arg2 harg2 arg3 harg3 arg4 harg4 arg5 harg5 arg6 harg6 arg8 arg9 arg12 x0 x1 x2 x3 x4) (D.T 4) := by
  unfold kernelRun0_A.sl.HS4_4
  exact RowsOf.patch (R := 4096) (M := 256) (rows_HS4_3 H) (is_v461 H) (by norm_num)

/-- Maxima of query block 4. -/
theorem is_v464 (H : Inputs x0 x1 x2 x3 x4 D) : Is2 (n := 1) (m := 256) (kernelRun0_A.sl.v464 (F := Ideal) c arg2 harg2 arg3 harg3 arg4 harg4 arg5 harg5 arg6 harg6 arg8 arg9 arg12 x0 x1 x2 x3 x4) (fun _ b => D.mx 4 b) := by
  unfold kernelRun0_A.sl.v464 kernelRun0_A.sl.v463 kernelRun0_A.sl.v462
  exact maxI (RowsOf.read (rows_HS4_4 H) (by norm_num)) rfl

/-- Query block 4 over 1024 keys. -/
theorem is_v481 (H : Inputs x0 x1 x2 x3 x4 D) : Is2 (n := 144) (m := 256) (kernelRun0_A.sl.v481 (F := Ideal) c arg2 harg2 arg3 harg3 arg4 harg4 arg5 harg5 arg6 harg6 arg8 arg9 arg10 arg12 x0 x1 x2 x3 x4) (D.acc 4 1024) := by
  unfold kernelRun0_A.sl.v481 kernelRun0_A.sl.v480 kernelRun0_A.sl.v479 kernelRun0_A.sl.v478 kernelRun0_A.sl.v476 kernelRun0_A.sl.v477 kernelRun0_A.sl.cst_179
  exact groupFirst (groupI (is_v432 H) (RowsOf.read (rows_HS4_4 H) (by norm_num)) (is_v464 H) rfl)

/-- Value block 4, read back. -/
theorem is_v483 (H : Inputs x0 x1 x2 x3 x4 D) : Is2 (n := 128) (m := 256) (kernelRun0_A.sl.v483 (F := Ideal) c arg3 harg3 arg4 harg4 arg10 x1 x2) (fun d k => D.A (1024 + k) (128 + d)) := by
  unfold kernelRun0_A.sl.v483 kernelRun0_A.sl.v482
  exact valueBlock (values H) rfl

/-- Values of the 256 keys from 1024 on, with ones below. -/
theorem is_v485 (H : Inputs x0 x1 x2 x3 x4 D) : Is2 (n := 144) (m := 256) (kernelRun0_A.sl.v485 (F := Ideal) c arg3 harg3 arg4 harg4 arg10 x1 x2) (fun d k => D.V d (1024 + k)) := by
  unfold kernelRun0_A.sl.v485 kernelRun0_A.sl.v308 kernelRun0_A.sl.cst_176
  exact valuesI (is_v483 H)

/-- Query block 4 over 1280 keys. -/
theorem is_v492 (H : Inputs x0 x1 x2 x3 x4 D) : Is2 (n := 144) (m := 256) (kernelRun0_A.sl.v492 (F := Ideal) c arg2 harg2 arg3 harg3 arg4 harg4 arg5 harg5 arg6 harg6 arg8 arg9 arg10 arg12 x0 x1 x2 x3 x4) (D.acc 4 1280) := by
  unfold kernelRun0_A.sl.v492 kernelRun0_A.sl.v491 kernelRun0_A.sl.v490 kernelRun0_A.sl.v489 kernelRun0_A.sl.v488 kernelRun0_A.sl.v486 kernelRun0_A.sl.v487 kernelRun0_A.sl.cst_179
  exact groupNext (is_v481 H) (groupI (is_v485 H) (RowsOf.read (rows_HS4_4 H) (by norm_num)) (is_v464 H) rfl) rfl

/-- Result block 4. -/
theorem is_v501 (H : Inputs x0 x1 x2 x3 x4 D) : Is3 (n := 256) (m := 128) (kernelRun0_A.sl.v501 (F := Ideal) c arg2 harg2 arg3 harg3 arg4 harg4 arg5 harg5 arg6 harg6 arg8 arg9 arg10 arg12 x0 x1 x2 x3 x4) (D.outB 4) := by
  unfold kernelRun0_A.sl.v501 kernelRun0_A.sl.v498 kernelRun0_A.sl.v497 kernelRun0_A.sl.v496 kernelRun0_A.sl.v493 kernelRun0_A.sl.v495 kernelRun0_A.sl.v494
  exact outI (is_v492 H) rfl

/-- Scores of query block 5. -/
theorem is_v412 (H : Inputs x0 x1 x2 x3 x4 D) : Is2 (n := 1536) (m := 256) (kernelRun0_A.sl.v412 (F := Ideal) c arg2 harg2 arg3 harg3 arg4 harg4 arg5 harg5 arg6 harg6 arg9 x0 x1 x2 x3 x4) (D.S 5) := by
  unfold kernelRun0_A.sl.v412 kernelRun0_A.sl.v409 kernelRun0_A.sl.v406 kernelRun0_A.sl.v405 kernelRun0_A.sl.v408 kernelRun0_A.sl.cst_257
  exact scoreI (keyRows (keys H)) (queryRows (i := 5) (o := 1280) harg2 H.q rfl) rfl

/-- The buffer with the scores of query block 5. -/
theorem rows_HS5_3 (H : Inputs x0 x1 x2 x3 x4 D) : RowsOf 1536 (kernelRun0_A.sl.HS5_3 (F := Ideal) c arg2 harg2 arg3 harg3 arg4 harg4 arg5 harg5 arg6 harg6 arg8 arg9 arg13 x0 x1 x2 x3 x4) (D.S 5) := by
  unfold kernelRun0_A.sl.HS5_3
  exact RowsOf.whole (R := 4096) (M := 256) _ (is_v412 H)

/-- Masked diagonal scores of query block 5. -/
theorem is_v515 (H : Inputs x0 x1 x2 x3 x4 D) : Is2 (n := 256) (m := 256) (kernelRun0_A.sl.v515 (F := Ideal) c arg2 harg2 arg3 harg3 arg4 harg4 arg5 harg5 arg6 harg6 arg8 arg9 arg13 x0 x1 x2 x3 x4) (fun a b => D.S 5 (1280 + a) b + Data.M a b) := by
  unfold kernelRun0_A.sl.v515 kernelRun0_A.sl.v512 kernelRun0_A.sl.v510
  exact maskedI (RowsOf.read (rows_HS5_3 H) (by norm_num)) is2_mask

/-- The buffer with the masked scores of query block 5. -/
theorem rows_HS5_4 (H : Inputs x0 x1 x2 x3 x4 D) : RowsOf 1536 (kernelRun0_A.sl.HS5_4 (F := Ideal) c arg2 harg2 arg3 harg3 arg4 harg4 arg5 harg5 arg6 harg6 arg8 arg9 arg13 x0 x1 x2 x3 x4) (D.T 5) := by
  unfold kernelRun0_A.sl.HS5_4
  exact RowsOf.patch (R := 4096) (M := 256) (rows_HS5_3 H) (is_v515 H) (by norm_num)

/-- Maxima of query block 5. -/
theorem is_v518 (H : Inputs x0 x1 x2 x3 x4 D) : Is2 (n := 1) (m := 256) (kernelRun0_A.sl.v518 (F := Ideal) c arg2 harg2 arg3 harg3 arg4 harg4 arg5 harg5 arg6 harg6 arg8 arg9 arg13 x0 x1 x2 x3 x4) (fun _ b => D.mx 5 b) := by
  unfold kernelRun0_A.sl.v518 kernelRun0_A.sl.v517 kernelRun0_A.sl.v516
  exact maxI (RowsOf.read (rows_HS5_4 H) (by norm_num)) rfl

/-- Query block 5 over 1024 keys. -/
theorem is_v535 (H : Inputs x0 x1 x2 x3 x4 D) : Is2 (n := 144) (m := 256) (kernelRun0_A.sl.v535 (F := Ideal) c arg2 harg2 arg3 harg3 arg4 harg4 arg5 harg5 arg6 harg6 arg8 arg9 arg10 arg13 x0 x1 x2 x3 x4) (D.acc 5 1024) := by
  unfold kernelRun0_A.sl.v535 kernelRun0_A.sl.v534 kernelRun0_A.sl.v533 kernelRun0_A.sl.v532 kernelRun0_A.sl.v530 kernelRun0_A.sl.v531 kernelRun0_A.sl.cst_179
  exact groupFirst (groupI (is_v432 H) (RowsOf.read (rows_HS5_4 H) (by norm_num)) (is_v518 H) rfl)

/-- Value block 5, read back. -/
theorem is_v539 (H : Inputs x0 x1 x2 x3 x4 D) : Is2 (n := 128) (m := 256) (kernelRun0_A.sl.v539 (F := Ideal) c arg3 harg3 arg4 harg4 arg10 x1 x2) (fun d k => D.A (1280 + k) (128 + d)) := by
  unfold kernelRun0_A.sl.v539 kernelRun0_A.sl.v538
  exact valueBlock (values H) rfl

/-- Values of the 512 keys from 1024 on, with ones below. -/
theorem is_v542 (H : Inputs x0 x1 x2 x3 x4 D) : Is2 (n := 144) (m := 512) (kernelRun0_A.sl.v542 (F := Ideal) c arg3 harg3 arg4 harg4 arg10 x1 x2) (fun d k => D.V d (1024 + k)) := by
  unfold kernelRun0_A.sl.v542 kernelRun0_A.sl.v540 kernelRun0_A.sl.v347 kernelRun0_A.sl.cst_176
  refine valuesI (is2_catCols (n := 128) (m := 256) (N := 2) (f := fun a b => D.A (1024 + b) (128 + a)) rfl ?_ rfl _)
  intro i hi; interval_cases i
  · exact ⟨_, rfl, colAt (is_v483 H) rfl⟩
  · exact ⟨_, rfl, colAt (is_v539 H) rfl⟩

/-- Query block 5 over 1536 keys. -/
theorem is_v549 (H : Inputs x0 x1 x2 x3 x4 D) : Is2 (n := 144) (m := 256) (kernelRun0_A.sl.v549 (F := Ideal) c arg2 harg2 arg3 harg3 arg4 harg4 arg5 harg5 arg6 harg6 arg8 arg9 arg10 arg13 x0 x1 x2 x3 x4) (D.acc 5 1536) := by
  unfold kernelRun0_A.sl.v549 kernelRun0_A.sl.v548 kernelRun0_A.sl.v547 kernelRun0_A.sl.v546 kernelRun0_A.sl.v545 kernelRun0_A.sl.v543 kernelRun0_A.sl.v544 kernelRun0_A.sl.cst_179
  exact groupNext (is_v535 H) (groupI (is_v542 H) (RowsOf.read (rows_HS5_4 H) (by norm_num)) (is_v518 H) rfl) rfl

/-- Result block 5. -/
theorem is_v558 (H : Inputs x0 x1 x2 x3 x4 D) : Is3 (n := 256) (m := 128) (kernelRun0_A.sl.v558 (F := Ideal) c arg2 harg2 arg3 harg3 arg4 harg4 arg5 harg5 arg6 harg6 arg8 arg9 arg10 arg13 x0 x1 x2 x3 x4) (D.outB 5) := by
  unfold kernelRun0_A.sl.v558 kernelRun0_A.sl.v555 kernelRun0_A.sl.v554 kernelRun0_A.sl.v553 kernelRun0_A.sl.v550 kernelRun0_A.sl.v552 kernelRun0_A.sl.v551
  exact outI (is_v549 H) rfl

/-- Scores of query block 6. -/
theorem is_v455 (H : Inputs x0 x1 x2 x3 x4 D) : Is2 (n := 1792) (m := 256) (kernelRun0_A.sl.v455 (F := Ideal) c arg2 harg2 arg3 harg3 arg4 harg4 arg5 harg5 arg6 harg6 arg9 x0 x1 x2 x3 x4) (D.S 6) := by
  unfold kernelRun0_A.sl.v455 kernelRun0_A.sl.v452 kernelRun0_A.sl.v449 kernelRun0_A.sl.v448 kernelRun0_A.sl.v451 kernelRun0_A.sl.cst_297
  exact scoreI (keyRows (keys H)) (queryRows (i := 6) (o := 1536) harg2 H.q rfl) rfl

/-- The buffer with the scores of query block 6. -/
theorem rows_HS3_5 (H : Inputs x0 x1 x2 x3 x4 D) : RowsOf 1792 (kernelRun0_A.sl.HS3_5 (F := Ideal) c arg2 harg2 arg3 harg3 arg4 harg4 arg5 harg5 arg6 harg6 arg8 arg9 arg11 x0 x1 x2 x3 x4) (D.S 6) := by
  unfold kernelRun0_A.sl.HS3_5
  exact RowsOf.whole (R := 4096) (M := 256) _ (is_v455 H)

/-- Masked diagonal scores of query block 6. -/
theorem is_v572 (H : Inputs x0 x1 x2 x3 x4 D) : Is2 (n := 256) (m := 256) (kernelRun0_A.sl.v572 (F := Ideal) c arg2 harg2 arg3 harg3 arg4 harg4 arg5 harg5 arg6 harg6 arg8 arg9 arg11 x0 x1 x2 x3 x4) (fun a b => D.S 6 (1536 + a) b + Data.M a b) := by
  unfold kernelRun0_A.sl.v572 kernelRun0_A.sl.v569 kernelRun0_A.sl.v567
  exact maskedI (RowsOf.read (rows_HS3_5 H) (by norm_num)) is2_mask

/-- The buffer with the masked scores of query block 6. -/
theorem rows_HS3_6 (H : Inputs x0 x1 x2 x3 x4 D) : RowsOf 1792 (kernelRun0_A.sl.HS3_6 (F := Ideal) c arg2 harg2 arg3 harg3 arg4 harg4 arg5 harg5 arg6 harg6 arg8 arg9 arg11 x0 x1 x2 x3 x4) (D.T 6) := by
  unfold kernelRun0_A.sl.HS3_6
  exact RowsOf.patch (R := 4096) (M := 256) (rows_HS3_5 H) (is_v572 H) (by norm_num)

/-- Maxima of query block 6. -/
theorem is_v575 (H : Inputs x0 x1 x2 x3 x4 D) : Is2 (n := 1) (m := 256) (kernelRun0_A.sl.v575 (F := Ideal) c arg2 harg2 arg3 harg3 arg4 harg4 arg5 harg5 arg6 harg6 arg8 arg9 arg11 x0 x1 x2 x3 x4) (fun _ b => D.mx 6 b) := by
  unfold kernelRun0_A.sl.v575 kernelRun0_A.sl.v574 kernelRun0_A.sl.v573
  exact maxI (RowsOf.read (rows_HS3_6 H) (by norm_num)) rfl

/-- Query block 6 over 1024 keys. -/
theorem is_v592 (H : Inputs x0 x1 x2 x3 x4 D) : Is2 (n := 144) (m := 256) (kernelRun0_A.sl.v592 (F := Ideal) c arg2 harg2 arg3 harg3 arg4 harg4 arg5 harg5 arg6 harg6 arg8 arg9 arg10 arg11 x0 x1 x2 x3 x4) (D.acc 6 1024) := by
  unfold kernelRun0_A.sl.v592 kernelRun0_A.sl.v591 kernelRun0_A.sl.v590 kernelRun0_A.sl.v589 kernelRun0_A.sl.v587 kernelRun0_A.sl.v588 kernelRun0_A.sl.cst_179
  exact groupFirst (groupI (is_v432 H) (RowsOf.read (rows_HS3_6 H) (by norm_num)) (is_v575 H) rfl)

/-- Value block 6, read back. -/
theorem is_v598 (H : Inputs x0 x1 x2 x3 x4 D) : Is2 (n := 128) (m := 256) (kernelRun0_A.sl.v598 (F := Ideal) c arg3 harg3 arg4 harg4 arg10 x1 x2) (fun d k => D.A (1536 + k) (128 + d)) := by
  unfold kernelRun0_A.sl.v598 kernelRun0_A.sl.v597
  exact valueBlock (values H) rfl

/-- Values of the 768 keys from 1024 on, with ones below. -/
theorem is_v601 (H : Inputs x0 x1 x2 x3 x4 D) : Is2 (n := 144) (m := 768) (kernelRun0_A.sl.v601 (F := Ideal) c arg3 harg3 arg4 harg4 arg10 x1 x2) (fun d k => D.V d (1024 + k)) := by
  unfold kernelRun0_A.sl.v601 kernelRun0_A.sl.v599 kernelRun0_A.sl.v388 kernelRun0_A.sl.cst_176
  refine valuesI (is2_catCols (n := 128) (m := 256) (N := 3) (f := fun a b => D.A (1024 + b) (128 + a)) rfl ?_ rfl _)
  intro i hi; interval_cases i
  · exact ⟨_, rfl, colAt (is_v483 H) rfl⟩
  · exact ⟨_, rfl, colAt (is_v539 H) rfl⟩
  · exact ⟨_, rfl, colAt (is_v598 H) rfl⟩

/-- Query block 6 over 1792 keys. -/
theorem is_v608 (H : Inputs x0 x1 x2 x3 x4 D) : Is2 (n := 144) (m := 256) (kernelRun0_A.sl.v608 (F := Ideal) c arg2 harg2 arg3 harg3 arg4 harg4 arg5 harg5 arg6 harg6 arg8 arg9 arg10 arg11 x0 x1 x2 x3 x4) (D.acc 6 1792) := by
  unfold kernelRun0_A.sl.v608 kernelRun0_A.sl.v607 kernelRun0_A.sl.v606 kernelRun0_A.sl.v605 kernelRun0_A.sl.v604 kernelRun0_A.sl.v602 kernelRun0_A.sl.v603 kernelRun0_A.sl.cst_179
  exact groupNext (is_v592 H) (groupI (is_v601 H) (RowsOf.read (rows_HS3_6 H) (by norm_num)) (is_v575 H) rfl) rfl

/-- Result block 6. -/
theorem is_v617 (H : Inputs x0 x1 x2 x3 x4 D) : Is3 (n := 256) (m := 128) (kernelRun0_A.sl.v617 (F := Ideal) c arg2 harg2 arg3 harg3 arg4 harg4 arg5 harg5 arg6 harg6 arg8 arg9 arg10 arg11 x0 x1 x2 x3 x4) (D.outB 6) := by
  unfold kernelRun0_A.sl.v617 kernelRun0_A.sl.v614 kernelRun0_A.sl.v613 kernelRun0_A.sl.v612 kernelRun0_A.sl.v609 kernelRun0_A.sl.v611 kernelRun0_A.sl.v610
  exact outI (is_v608 H) rfl

/-- Scores of query block 7. -/
theorem is_v509 (H : Inputs x0 x1 x2 x3 x4 D) : Is2 (n := 2048) (m := 256) (kernelRun0_A.sl.v509 (F := Ideal) c arg2 harg2 arg3 harg3 arg4 harg4 arg5 harg5 arg6 harg6 arg9 x0 x1 x2 x3 x4) (D.S 7) := by
  unfold kernelRun0_A.sl.v509 kernelRun0_A.sl.v506 kernelRun0_A.sl.v503 kernelRun0_A.sl.v502 kernelRun0_A.sl.v505 kernelRun0_A.sl.cst_345
  exact scoreI (keyRows (keys H)) (queryRows (i := 7) (o := 1792) harg2 H.q rfl) rfl

/-- The buffer with the scores of query block 7. -/
theorem rows_HS4_5 (H : Inputs x0 x1 x2 x3 x4 D) : RowsOf 2048 (kernelRun0_A.sl.HS4_5 (F := Ideal) c arg2 harg2 arg3 harg3 arg4 harg4 arg5 harg5 arg6 harg6 arg8 arg9 arg12 x0 x1 x2 x3 x4) (D.S 7) := by
  unfold kernelRun0_A.sl.HS4_5
  exact RowsOf.whole (R := 4096) (M := 256) _ (is_v509 H)

/-- Masked diagonal scores of query block 7. -/
theorem is_v631 (H : Inputs x0 x1 x2 x3 x4 D) : Is2 (n := 256) (m := 256) (kernelRun0_A.sl.v631 (F := Ideal) c arg2 harg2 arg3 harg3 arg4 harg4 arg5 harg5 arg6 harg6 arg8 arg9 arg12 x0 x1 x2 x3 x4) (fun a b => D.S 7 (1792 + a) b + Data.M a b) := by
  unfold kernelRun0_A.sl.v631 kernelRun0_A.sl.v628 kernelRun0_A.sl.v626
  exact maskedI (RowsOf.read (rows_HS4_5 H) (by norm_num)) is2_mask

/-- The buffer with the masked scores of query block 7. -/
theorem rows_HS4_6 (H : Inputs x0 x1 x2 x3 x4 D) : RowsOf 2048 (kernelRun0_A.sl.HS4_6 (F := Ideal) c arg2 harg2 arg3 harg3 arg4 harg4 arg5 harg5 arg6 harg6 arg8 arg9 arg12 x0 x1 x2 x3 x4) (D.T 7) := by
  unfold kernelRun0_A.sl.HS4_6
  exact RowsOf.patch (R := 4096) (M := 256) (rows_HS4_5 H) (is_v631 H) (by norm_num)

/-- Maxima of query block 7. -/
theorem is_v634 (H : Inputs x0 x1 x2 x3 x4 D) : Is2 (n := 1) (m := 256) (kernelRun0_A.sl.v634 (F := Ideal) c arg2 harg2 arg3 harg3 arg4 harg4 arg5 harg5 arg6 harg6 arg8 arg9 arg12 x0 x1 x2 x3 x4) (fun _ b => D.mx 7 b) := by
  unfold kernelRun0_A.sl.v634 kernelRun0_A.sl.v633 kernelRun0_A.sl.v632
  exact maxI (RowsOf.read (rows_HS4_6 H) (by norm_num)) rfl

/-- Query block 7 over 1024 keys. -/
theorem is_v651 (H : Inputs x0 x1 x2 x3 x4 D) : Is2 (n := 144) (m := 256) (kernelRun0_A.sl.v651 (F := Ideal) c arg2 harg2 arg3 harg3 arg4 harg4 arg5 harg5 arg6 harg6 arg8 arg9 arg10 arg12 x0 x1 x2 x3 x4) (D.acc 7 1024) := by
  unfold kernelRun0_A.sl.v651 kernelRun0_A.sl.v650 kernelRun0_A.sl.v649 kernelRun0_A.sl.v648 kernelRun0_A.sl.v646 kernelRun0_A.sl.v647 kernelRun0_A.sl.cst_179
  exact groupFirst (groupI (is_v432 H) (RowsOf.read (rows_HS4_6 H) (by norm_num)) (is_v634 H) rfl)

/-- Value block 7, read back. -/
theorem is_v659 (H : Inputs x0 x1 x2 x3 x4 D) : Is2 (n := 128) (m := 256) (kernelRun0_A.sl.v659 (F := Ideal) c arg3 harg3 arg4 harg4 arg10 x1 x2) (fun d k => D.A (1792 + k) (128 + d)) := by
  unfold kernelRun0_A.sl.v659 kernelRun0_A.sl.v658
  exact valueBlock (values H) rfl

/-- Values of the 1024 keys from 1024 on, with ones below. -/
theorem is_v662 (H : Inputs x0 x1 x2 x3 x4 D) : Is2 (n := 144) (m := 1024) (kernelRun0_A.sl.v662 (F := Ideal) c arg3 harg3 arg4 harg4 arg10 x1 x2) (fun d k => D.V d (1024 + k)) := by
  unfold kernelRun0_A.sl.v662 kernelRun0_A.sl.v660 kernelRun0_A.sl.v431 kernelRun0_A.sl.cst_176
  refine valuesI (is2_catCols (n := 128) (m := 256) (N := 4) (f := fun a b => D.A (1024 + b) (128 + a)) rfl ?_ rfl _)
  intro i hi; interval_cases i
  · exact ⟨_, rfl, colAt (is_v483 H) rfl⟩
  · exact ⟨_, rfl, colAt (is_v539 H) rfl⟩
  · exact ⟨_, rfl, colAt (is_v598 H) rfl⟩
  · exact ⟨_, rfl, colAt (is_v659 H) rfl⟩

/-- Query block 7 over 2048 keys. -/
theorem is_v669 (H : Inputs x0 x1 x2 x3 x4 D) : Is2 (n := 144) (m := 256) (kernelRun0_A.sl.v669 (F := Ideal) c arg2 harg2 arg3 harg3 arg4 harg4 arg5 harg5 arg6 harg6 arg8 arg9 arg10 arg12 x0 x1 x2 x3 x4) (D.acc 7 2048) := by
  unfold kernelRun0_A.sl.v669 kernelRun0_A.sl.v668 kernelRun0_A.sl.v667 kernelRun0_A.sl.v666 kernelRun0_A.sl.v665 kernelRun0_A.sl.v663 kernelRun0_A.sl.v647 kernelRun0_A.sl.cst_179
  exact groupNext (is_v651 H) (groupI (is_v662 H) (RowsOf.read (rows_HS4_6 H) (by norm_num)) (is_v634 H) rfl) rfl

/-- Result block 7. -/
theorem is_v678 (H : Inputs x0 x1 x2 x3 x4 D) : Is3 (n := 256) (m := 128) (kernelRun0_A.sl.v678 (F := Ideal) c arg2 harg2 arg3 harg3 arg4 harg4 arg5 harg5 arg6 harg6 arg8 arg9 arg10 arg12 x0 x1 x2 x3 x4) (D.outB 7) := by
  unfold kernelRun0_A.sl.v678 kernelRun0_A.sl.v675 kernelRun0_A.sl.v674 kernelRun0_A.sl.v673 kernelRun0_A.sl.v670 kernelRun0_A.sl.v672 kernelRun0_A.sl.v671
  exact outI (is_v669 H) rfl

/-- Scores of query block 8. -/
theorem is_v566 (H : Inputs x0 x1 x2 x3 x4 D) : Is2 (n := 2304) (m := 256) (kernelRun0_A.sl.v566 (F := Ideal) c arg2 harg2 arg3 harg3 arg4 harg4 arg5 harg5 arg6 harg6 arg9 x0 x1 x2 x3 x4) (D.S 8) := by
  unfold kernelRun0_A.sl.v566 kernelRun0_A.sl.v563 kernelRun0_A.sl.v560 kernelRun0_A.sl.v559 kernelRun0_A.sl.v562 kernelRun0_A.sl.cst_398
  exact scoreI (keyRows (keys H)) (queryRows (i := 8) (o := 2048) harg2 H.q rfl) rfl

/-- The buffer with the scores of query block 8. -/
theorem rows_HS5_5 (H : Inputs x0 x1 x2 x3 x4 D) : RowsOf 2304 (kernelRun0_A.sl.HS5_5 (F := Ideal) c arg2 harg2 arg3 harg3 arg4 harg4 arg5 harg5 arg6 harg6 arg8 arg9 arg13 x0 x1 x2 x3 x4) (D.S 8) := by
  unfold kernelRun0_A.sl.HS5_5
  exact RowsOf.whole (R := 4096) (M := 256) _ (is_v566 H)

/-- Masked diagonal scores of query block 8. -/
theorem is_v692 (H : Inputs x0 x1 x2 x3 x4 D) : Is2 (n := 256) (m := 256) (kernelRun0_A.sl.v692 (F := Ideal) c arg2 harg2 arg3 harg3 arg4 harg4 arg5 harg5 arg6 harg6 arg8 arg9 arg13 x0 x1 x2 x3 x4) (fun a b => D.S 8 (2048 + a) b + Data.M a b) := by
  unfold kernelRun0_A.sl.v692 kernelRun0_A.sl.v689 kernelRun0_A.sl.v687
  exact maskedI (RowsOf.read (rows_HS5_5 H) (by norm_num)) is2_mask

/-- The buffer with the masked scores of query block 8. -/
theorem rows_HS5_6 (H : Inputs x0 x1 x2 x3 x4 D) : RowsOf 2304 (kernelRun0_A.sl.HS5_6 (F := Ideal) c arg2 harg2 arg3 harg3 arg4 harg4 arg5 harg5 arg6 harg6 arg8 arg9 arg13 x0 x1 x2 x3 x4) (D.T 8) := by
  unfold kernelRun0_A.sl.HS5_6
  exact RowsOf.patch (R := 4096) (M := 256) (rows_HS5_5 H) (is_v692 H) (by norm_num)

/-- Maxima of query block 8. -/
theorem is_v695 (H : Inputs x0 x1 x2 x3 x4 D) : Is2 (n := 1) (m := 256) (kernelRun0_A.sl.v695 (F := Ideal) c arg2 harg2 arg3 harg3 arg4 harg4 arg5 harg5 arg6 harg6 arg8 arg9 arg13 x0 x1 x2 x3 x4) (fun _ b => D.mx 8 b) := by
  unfold kernelRun0_A.sl.v695 kernelRun0_A.sl.v694 kernelRun0_A.sl.v693
  exact maxI (RowsOf.read (rows_HS5_6 H) (by norm_num)) rfl

/-- Query block 8 over 1024 keys. -/
theorem is_v712 (H : Inputs x0 x1 x2 x3 x4 D) : Is2 (n := 144) (m := 256) (kernelRun0_A.sl.v712 (F := Ideal) c arg2 harg2 arg3 harg3 arg4 harg4 arg5 harg5 arg6 harg6 arg8 arg9 arg10 arg13 x0 x1 x2 x3 x4) (D.acc 8 1024) := by
  unfold kernelRun0_A.sl.v712 kernelRun0_A.sl.v711 kernelRun0_A.sl.v710 kernelRun0_A.sl.v709 kernelRun0_A.sl.v707 kernelRun0_A.sl.v708 kernelRun0_A.sl.cst_179
  exact groupFirst (groupI (is_v432 H) (RowsOf.read (rows_HS5_6 H) (by norm_num)) (is_v695 H) rfl)

/-- Query block 8 over 2048 keys. -/
theorem is_v730 (H : Inputs x0 x1 x2 x3 x4 D) : Is2 (n := 144) (m := 256) (kernelRun0_A.sl.v730 (F := Ideal) c arg2 harg2 arg3 harg3 arg4 harg4 arg5 harg5 arg6 harg6 arg8 arg9 arg10 arg13 x0 x1 x2 x3 x4) (D.acc 8 2048) := by
  unfold kernelRun0_A.sl.v730 kernelRun0_A.sl.v729 kernelRun0_A.sl.v728 kernelRun0_A.sl.v727 kernelRun0_A.sl.v726 kernelRun0_A.sl.v724 kernelRun0_A.sl.v708 kernelRun0_A.sl.cst_179
  exact groupNext (is_v712 H) (groupI (is_v662 H) (RowsOf.read (rows_HS5_6 H) (by norm_num)) (is_v695 H) rfl) rfl

/-- Value block 8, read back. -/
theorem is_v732 (H : Inputs x0 x1 x2 x3 x4 D) : Is2 (n := 128) (m := 256) (kernelRun0_A.sl.v732 (F := Ideal) c arg3 harg3 arg4 harg4 arg10 x1 x2) (fun d k => D.A (2048 + k) (128 + d)) := by
  unfold kernelRun0_A.sl.v732 kernelRun0_A.sl.v731
  exact valueBlock (values H) rfl

/-- Values of the 256 keys from 2048 on, with ones below. -/
theorem is_v734 (H : Inputs x0 x1 x2 x3 x4 D) : Is2 (n := 144) (m := 256) (kernelRun0_A.sl.v734 (F := Ideal) c arg3 harg3 arg4 harg4 arg10 x1 x2) (fun d k => D.V d (2048 + k)) := by
  unfold kernelRun0_A.sl.v734 kernelRun0_A.sl.v308 kernelRun0_A.sl.cst_176
  exact valuesI (is_v732 H)

/-- Query block 8 over 2304 keys. -/
theorem is_v741 (H : Inputs x0 x1 x2 x3 x4 D) : Is2 (n := 144) (m := 256) (kernelRun0_A.sl.v741 (F := Ideal) c arg2 harg2 arg3 harg3 arg4 harg4 arg5 harg5 arg6 harg6 arg8 arg9 arg10 arg13 x0 x1 x2 x3 x4) (D.acc 8 2304) := by
  unfold kernelRun0_A.sl.v741 kernelRun0_A.sl.v740 kernelRun0_A.sl.v739 kernelRun0_A.sl.v738 kernelRun0_A.sl.v737 kernelRun0_A.sl.v735 kernelRun0_A.sl.v736 kernelRun0_A.sl.cst_179
  exact groupNext (is_v730 H) (groupI (is_v734 H) (RowsOf.read (rows_HS5_6 H) (by norm_num)) (is_v695 H) rfl) rfl

/-- Result block 8. -/
theorem is_v750 (H : Inputs x0 x1 x2 x3 x4 D) : Is3 (n := 256) (m := 128) (kernelRun0_A.sl.v750 (F := Ideal) c arg2 harg2 arg3 harg3 arg4 harg4 arg5 harg5 arg6 harg6 arg8 arg9 arg10 arg13 x0 x1 x2 x3 x4) (D.outB 8) := by
  unfold kernelRun0_A.sl.v750 kernelRun0_A.sl.v747 kernelRun0_A.sl.v746 kernelRun0_A.sl.v745 kernelRun0_A.sl.v742 kernelRun0_A.sl.v744 kernelRun0_A.sl.v743
  exact outI (is_v741 H) rfl

/-- Scores of query block 9. -/
theorem is_v625 (H : Inputs x0 x1 x2 x3 x4 D) : Is2 (n := 2560) (m := 256) (kernelRun0_A.sl.v625 (F := Ideal) c arg2 harg2 arg3 harg3 arg4 harg4 arg5 harg5 arg6 harg6 arg9 x0 x1 x2 x3 x4) (D.S 9) := by
  unfold kernelRun0_A.sl.v625 kernelRun0_A.sl.v622 kernelRun0_A.sl.v619 kernelRun0_A.sl.v618 kernelRun0_A.sl.v621 kernelRun0_A.sl.cst_454
  exact scoreI (keyRows (keys H)) (queryRows (i := 9) (o := 2304) harg2 H.q rfl) rfl

/-- The buffer with the scores of query block 9. -/
theorem rows_HS3_7 (H : Inputs x0 x1 x2 x3 x4 D) : RowsOf 2560 (kernelRun0_A.sl.HS3_7 (F := Ideal) c arg2 harg2 arg3 harg3 arg4 harg4 arg5 harg5 arg6 harg6 arg8 arg9 arg11 x0 x1 x2 x3 x4) (D.S 9) := by
  unfold kernelRun0_A.sl.HS3_7
  exact RowsOf.whole (R := 4096) (M := 256) _ (is_v625 H)

/-- Masked diagonal scores of query block 9. -/
theorem is_v764 (H : Inputs x0 x1 x2 x3 x4 D) : Is2 (n := 256) (m := 256) (kernelRun0_A.sl.v764 (F := Ideal) c arg2 harg2 arg3 harg3 arg4 harg4 arg5 harg5 arg6 harg6 arg8 arg9 arg11 x0 x1 x2 x3 x4) (fun a b => D.S 9 (2304 + a) b + Data.M a b) := by
  unfold kernelRun0_A.sl.v764 kernelRun0_A.sl.v761 kernelRun0_A.sl.v759
  exact maskedI (RowsOf.read (rows_HS3_7 H) (by norm_num)) is2_mask

/-- The buffer with the masked scores of query block 9. -/
theorem rows_HS3_8 (H : Inputs x0 x1 x2 x3 x4 D) : RowsOf 2560 (kernelRun0_A.sl.HS3_8 (F := Ideal) c arg2 harg2 arg3 harg3 arg4 harg4 arg5 harg5 arg6 harg6 arg8 arg9 arg11 x0 x1 x2 x3 x4) (D.T 9) := by
  unfold kernelRun0_A.sl.HS3_8
  exact RowsOf.patch (R := 4096) (M := 256) (rows_HS3_7 H) (is_v764 H) (by norm_num)

/-- Maxima of query block 9. -/
theorem is_v767 (H : Inputs x0 x1 x2 x3 x4 D) : Is2 (n := 1) (m := 256) (kernelRun0_A.sl.v767 (F := Ideal) c arg2 harg2 arg3 harg3 arg4 harg4 arg5 harg5 arg6 harg6 arg8 arg9 arg11 x0 x1 x2 x3 x4) (fun _ b => D.mx 9 b) := by
  unfold kernelRun0_A.sl.v767 kernelRun0_A.sl.v766 kernelRun0_A.sl.v765
  exact maxI (RowsOf.read (rows_HS3_8 H) (by norm_num)) rfl

/-- Query block 9 over 1024 keys. -/
theorem is_v784 (H : Inputs x0 x1 x2 x3 x4 D) : Is2 (n := 144) (m := 256) (kernelRun0_A.sl.v784 (F := Ideal) c arg2 harg2 arg3 harg3 arg4 harg4 arg5 harg5 arg6 harg6 arg8 arg9 arg10 arg11 x0 x1 x2 x3 x4) (D.acc 9 1024) := by
  unfold kernelRun0_A.sl.v784 kernelRun0_A.sl.v783 kernelRun0_A.sl.v782 kernelRun0_A.sl.v781 kernelRun0_A.sl.v779 kernelRun0_A.sl.v780 kernelRun0_A.sl.cst_179
  exact groupFirst (groupI (is_v432 H) (RowsOf.read (rows_HS3_8 H) (by norm_num)) (is_v767 H) rfl)

/-- Query block 9 over 2048 keys. -/
theorem is_v802 (H : Inputs x0 x1 x2 x3 x4 D) : Is2 (n := 144) (m := 256) (kernelRun0_A.sl.v802 (F := Ideal) c arg2 harg2 arg3 harg3 arg4 harg4 arg5 harg5 arg6 harg6 arg8 arg9 arg10 arg11 x0 x1 x2 x3 x4) (D.acc 9 2048) := by
  unfold kernelRun0_A.sl.v802 kernelRun0_A.sl.v801 kernelRun0_A.sl.v800 kernelRun0_A.sl.v799 kernelRun0_A.sl.v798 kernelRun0_A.sl.v796 kernelRun0_A.sl.v780 kernelRun0_A.sl.cst_179
  exact groupNext (is_v784 H) (groupI (is_v662 H) (RowsOf.read (rows_HS3_8 H) (by norm_num)) (is_v767 H) rfl) rfl

/-- Value block 9, read back. -/
theorem is_v806 (H : Inputs x0 x1 x2 x3 x4 D) : Is2 (n := 128) (m := 256) (kernelRun0_A.sl.v806 (F := Ideal) c arg3 harg3 arg4 harg4 arg10 x1 x2) (fun d k => D.A (2304 + k) (128 + d)) := by
  unfold kernelRun0_A.sl.v806 kernelRun0_A.sl.v805
  exact valueBlock (values H) rfl

/-- Values of the 512 keys from 2048 on, with ones below. -/
theorem is_v809 (H : Inputs x0 x1 x2 x3 x4 D) : Is2 (n := 144) (m := 512) (kernelRun0_A.sl.v809 (F := Ideal) c arg3 harg3 arg4 harg4 arg10 x1 x2) (fun d k => D.V d (2048 + k)) := by
  unfold kernelRun0_A.sl.v809 kernelRun0_A.sl.v807 kernelRun0_A.sl.v347 kernelRun0_A.sl.cst_176
  refine valuesI (is2_catCols (n := 128) (m := 256) (N := 2) (f := fun a b => D.A (2048 + b) (128 + a)) rfl ?_ rfl _)
  intro i hi; interval_cases i
  · exact ⟨_, rfl, colAt (is_v732 H) rfl⟩
  · exact ⟨_, rfl, colAt (is_v806 H) rfl⟩

/-- Query block 9 over 2560 keys. -/
theorem is_v816 (H : Inputs x0 x1 x2 x3 x4 D) : Is2 (n := 144) (m := 256) (kernelRun0_A.sl.v816 (F := Ideal) c arg2 harg2 arg3 harg3 arg4 harg4 arg5 harg5 arg6 harg6 arg8 arg9 arg10 arg11 x0 x1 x2 x3 x4) (D.acc 9 2560) := by
  unfold kernelRun0_A.sl.v816 kernelRun0_A.sl.v815 kernelRun0_A.sl.v814 kernelRun0_A.sl.v813 kernelRun0_A.sl.v812 kernelRun0_A.sl.v810 kernelRun0_A.sl.v811 kernelRun0_A.sl.cst_179
  exact groupNext (is_v802 H) (groupI (is_v809 H) (RowsOf.read (rows_HS3_8 H) (by norm_num)) (is_v767 H) rfl) rfl

/-- Result block 9. -/
theorem is_v825 (H : Inputs x0 x1 x2 x3 x4 D) : Is3 (n := 256) (m := 128) (kernelRun0_A.sl.v825 (F := Ideal) c arg2 harg2 arg3 harg3 arg4 harg4 arg5 harg5 arg6 harg6 arg8 arg9 arg10 arg11 x0 x1 x2 x3 x4) (D.outB 9) := by
  unfold kernelRun0_A.sl.v825 kernelRun0_A.sl.v822 kernelRun0_A.sl.v821 kernelRun0_A.sl.v820 kernelRun0_A.sl.v817 kernelRun0_A.sl.v819 kernelRun0_A.sl.v818
  exact outI (is_v816 H) rfl

/-- Scores of query block 10. -/
theorem is_v686 (H : Inputs x0 x1 x2 x3 x4 D) : Is2 (n := 2816) (m := 256) (kernelRun0_A.sl.v686 (F := Ideal) c arg2 harg2 arg3 harg3 arg4 harg4 arg5 harg5 arg6 harg6 arg9 x0 x1 x2 x3 x4) (D.S 10) := by
  unfold kernelRun0_A.sl.v686 kernelRun0_A.sl.v683 kernelRun0_A.sl.v680 kernelRun0_A.sl.v679 kernelRun0_A.sl.v682 kernelRun0_A.sl.cst_514
  exact scoreI (keyRows (keys H)) (queryRows (i := 10) (o := 2560) harg2 H.q rfl) rfl

/-- The buffer with the scores of query block 10. -/
theorem rows_HS4_7 (H : Inputs x0 x1 x2 x3 x4 D) : RowsOf 2816 (kernelRun0_A.sl.HS4_7 (F := Ideal) c arg2 harg2 arg3 harg3 arg4 harg4 arg5 harg5 arg6 harg6 arg8 arg9 arg12 x0 x1 x2 x3 x4) (D.S 10) := by
  unfold kernelRun0_A.sl.HS4_7
  exact RowsOf.whole (R := 4096) (M := 256) _ (is_v686 H)

/-- Masked diagonal scores of query block 10. -/
theorem is_v839 (H : Inputs x0 x1 x2 x3 x4 D) : Is2 (n := 256) (m := 256) (kernelRun0_A.sl.v839 (F := Ideal) c arg2 harg2 arg3 harg3 arg4 harg4 arg5 harg5 arg6 harg6 arg8 arg9 arg12 x0 x1 x2 x3 x4) (fun a b => D.S 10 (2560 + a) b + Data.M a b) := by
  unfold kernelRun0_A.sl.v839 kernelRun0_A.sl.v836 kernelRun0_A.sl.v834
  exact maskedI (RowsOf.read (rows_HS4_7 H) (by norm_num)) is2_mask

/-- The buffer with the masked scores of query block 10. -/
theorem rows_HS4_8 (H : Inputs x0 x1 x2 x3 x4 D) : RowsOf 2816 (kernelRun0_A.sl.HS4_8 (F := Ideal) c arg2 harg2 arg3 harg3 arg4 harg4 arg5 harg5 arg6 harg6 arg8 arg9 arg12 x0 x1 x2 x3 x4) (D.T 10) := by
  unfold kernelRun0_A.sl.HS4_8
  exact RowsOf.patch (R := 4096) (M := 256) (rows_HS4_7 H) (is_v839 H) (by norm_num)

/-- Maxima of query block 10. -/
theorem is_v842 (H : Inputs x0 x1 x2 x3 x4 D) : Is2 (n := 1) (m := 256) (kernelRun0_A.sl.v842 (F := Ideal) c arg2 harg2 arg3 harg3 arg4 harg4 arg5 harg5 arg6 harg6 arg8 arg9 arg12 x0 x1 x2 x3 x4) (fun _ b => D.mx 10 b) := by
  unfold kernelRun0_A.sl.v842 kernelRun0_A.sl.v841 kernelRun0_A.sl.v840
  exact maxI (RowsOf.read (rows_HS4_8 H) (by norm_num)) rfl

/-- Query block 10 over 1024 keys. -/
theorem is_v859 (H : Inputs x0 x1 x2 x3 x4 D) : Is2 (n := 144) (m := 256) (kernelRun0_A.sl.v859 (F := Ideal) c arg2 harg2 arg3 harg3 arg4 harg4 arg5 harg5 arg6 harg6 arg8 arg9 arg10 arg12 x0 x1 x2 x3 x4) (D.acc 10 1024) := by
  unfold kernelRun0_A.sl.v859 kernelRun0_A.sl.v858 kernelRun0_A.sl.v857 kernelRun0_A.sl.v856 kernelRun0_A.sl.v854 kernelRun0_A.sl.v855 kernelRun0_A.sl.cst_179
  exact groupFirst (groupI (is_v432 H) (RowsOf.read (rows_HS4_8 H) (by norm_num)) (is_v842 H) rfl)

/-- Query block 10 over 2048 keys. -/
theorem is_v877 (H : Inputs x0 x1 x2 x3 x4 D) : Is2 (n := 144) (m := 256) (kernelRun0_A.sl.v877 (F := Ideal) c arg2 harg2 arg3 harg3 arg4 harg4 arg5 harg5 arg6 harg6 arg8 arg9 arg10 arg12 x0 x1 x2 x3 x4) (D.acc 10 2048) := by
  unfold kernelRun0_A.sl.v877 kernelRun0_A.sl.v876 kernelRun0_A.sl.v875 kernelRun0_A.sl.v874 kernelRun0_A.sl.v873 kernelRun0_A.sl.v871 kernelRun0_A.sl.v855 kernelRun0_A.sl.cst_179
  exact groupNext (is_v859 H) (groupI (is_v662 H) (RowsOf.read (rows_HS4_8 H) (by norm_num)) (is_v842 H) rfl) rfl

/-- Value block 10, read back. -/
theorem is_v883 (H : Inputs x0 x1 x2 x3 x4 D) : Is2 (n := 128) (m := 256) (kernelRun0_A.sl.v883 (F := Ideal) c arg3 harg3 arg4 harg4 arg10 x1 x2) (fun d k => D.A (2560 + k) (128 + d)) := by
  unfold kernelRun0_A.sl.v883 kernelRun0_A.sl.v882
  exact valueBlock (values H) rfl

/-- Values of the 768 keys from 2048 on, with ones below. -/
theorem is_v886 (H : Inputs x0 x1 x2 x3 x4 D) : Is2 (n := 144) (m := 768) (kernelRun0_A.sl.v886 (F := Ideal) c arg3 harg3 arg4 harg4 arg10 x1 x2) (fun d k => D.V d (2048 + k)) := by
  unfold kernelRun0_A.sl.v886 kernelRun0_A.sl.v884 kernelRun0_A.sl.v388 kernelRun0_A.sl.cst_176
  refine valuesI (is2_catCols (n := 128) (m := 256) (N := 3) (f := fun a b => D.A (2048 + b) (128 + a)) rfl ?_ rfl _)
  intro i hi; interval_cases i
  · exact ⟨_, rfl, colAt (is_v732 H) rfl⟩
  · exact ⟨_, rfl, colAt (is_v806 H) rfl⟩
  · exact ⟨_, rfl, colAt (is_v883 H) rfl⟩

/-- Query block 10 over 2816 keys. -/
theorem is_v893 (H : Inputs x0 x1 x2 x3 x4 D) : Is2 (n := 144) (m := 256) (kernelRun0_A.sl.v893 (F := Ideal) c arg2 harg2 arg3 harg3 arg4 harg4 arg5 harg5 arg6 harg6 arg8 arg9 arg10 arg12 x0 x1 x2 x3 x4) (D.acc 10 2816) := by
  unfold kernelRun0_A.sl.v893 kernelRun0_A.sl.v892 kernelRun0_A.sl.v891 kernelRun0_A.sl.v890 kernelRun0_A.sl.v889 kernelRun0_A.sl.v887 kernelRun0_A.sl.v888 kernelRun0_A.sl.cst_179
  exact groupNext (is_v877 H) (groupI (is_v886 H) (RowsOf.read (rows_HS4_8 H) (by norm_num)) (is_v842 H) rfl) rfl

/-- Result block 10. -/
theorem is_v902 (H : Inputs x0 x1 x2 x3 x4 D) : Is3 (n := 256) (m := 128) (kernelRun0_A.sl.v902 (F := Ideal) c arg2 harg2 arg3 harg3 arg4 harg4 arg5 harg5 arg6 harg6 arg8 arg9 arg10 arg12 x0 x1 x2 x3 x4) (D.outB 10) := by
  unfold kernelRun0_A.sl.v902 kernelRun0_A.sl.v899 kernelRun0_A.sl.v898 kernelRun0_A.sl.v897 kernelRun0_A.sl.v894 kernelRun0_A.sl.v896 kernelRun0_A.sl.v895
  exact outI (is_v893 H) rfl

/-- Scores of query block 11. -/
theorem is_v758 (H : Inputs x0 x1 x2 x3 x4 D) : Is2 (n := 3072) (m := 256) (kernelRun0_A.sl.v758 (F := Ideal) c arg2 harg2 arg3 harg3 arg4 harg4 arg5 harg5 arg6 harg6 arg9 x0 x1 x2 x3 x4) (D.S 11) := by
  unfold kernelRun0_A.sl.v758 kernelRun0_A.sl.v755 kernelRun0_A.sl.v752 kernelRun0_A.sl.v751 kernelRun0_A.sl.v754 kernelRun0_A.sl.cst_582
  exact scoreI (keyRows (keys H)) (queryRows (i := 11) (o := 2816) harg2 H.q rfl) rfl

/-- The buffer with the scores of query block 11. -/
theorem rows_HS5_7 (H : Inputs x0 x1 x2 x3 x4 D) : RowsOf 3072 (kernelRun0_A.sl.HS5_7 (F := Ideal) c arg2 harg2 arg3 harg3 arg4 harg4 arg5 harg5 arg6 harg6 arg8 arg9 arg13 x0 x1 x2 x3 x4) (D.S 11) := by
  unfold kernelRun0_A.sl.HS5_7
  exact RowsOf.whole (R := 4096) (M := 256) _ (is_v758 H)

/-- Masked diagonal scores of query block 11. -/
theorem is_v916 (H : Inputs x0 x1 x2 x3 x4 D) : Is2 (n := 256) (m := 256) (kernelRun0_A.sl.v916 (F := Ideal) c arg2 harg2 arg3 harg3 arg4 harg4 arg5 harg5 arg6 harg6 arg8 arg9 arg13 x0 x1 x2 x3 x4) (fun a b => D.S 11 (2816 + a) b + Data.M a b) := by
  unfold kernelRun0_A.sl.v916 kernelRun0_A.sl.v913 kernelRun0_A.sl.v911
  exact maskedI (RowsOf.read (rows_HS5_7 H) (by norm_num)) is2_mask

/-- The buffer with the masked scores of query block 11. -/
theorem rows_HS5_8 (H : Inputs x0 x1 x2 x3 x4 D) : RowsOf 3072 (kernelRun0_A.sl.HS5_8 (F := Ideal) c arg2 harg2 arg3 harg3 arg4 harg4 arg5 harg5 arg6 harg6 arg8 arg9 arg13 x0 x1 x2 x3 x4) (D.T 11) := by
  unfold kernelRun0_A.sl.HS5_8
  exact RowsOf.patch (R := 4096) (M := 256) (rows_HS5_7 H) (is_v916 H) (by norm_num)

/-- Maxima of query block 11. -/
theorem is_v919 (H : Inputs x0 x1 x2 x3 x4 D) : Is2 (n := 1) (m := 256) (kernelRun0_A.sl.v919 (F := Ideal) c arg2 harg2 arg3 harg3 arg4 harg4 arg5 harg5 arg6 harg6 arg8 arg9 arg13 x0 x1 x2 x3 x4) (fun _ b => D.mx 11 b) := by
  unfold kernelRun0_A.sl.v919 kernelRun0_A.sl.v918 kernelRun0_A.sl.v917
  exact maxI (RowsOf.read (rows_HS5_8 H) (by norm_num)) rfl

/-- Query block 11 over 1024 keys. -/
theorem is_v936 (H : Inputs x0 x1 x2 x3 x4 D) : Is2 (n := 144) (m := 256) (kernelRun0_A.sl.v936 (F := Ideal) c arg2 harg2 arg3 harg3 arg4 harg4 arg5 harg5 arg6 harg6 arg8 arg9 arg10 arg13 x0 x1 x2 x3 x4) (D.acc 11 1024) := by
  unfold kernelRun0_A.sl.v936 kernelRun0_A.sl.v935 kernelRun0_A.sl.v934 kernelRun0_A.sl.v933 kernelRun0_A.sl.v931 kernelRun0_A.sl.v932 kernelRun0_A.sl.cst_179
  exact groupFirst (groupI (is_v432 H) (RowsOf.read (rows_HS5_8 H) (by norm_num)) (is_v919 H) rfl)

/-- Query block 11 over 2048 keys. -/
theorem is_v954 (H : Inputs x0 x1 x2 x3 x4 D) : Is2 (n := 144) (m := 256) (kernelRun0_A.sl.v954 (F := Ideal) c arg2 harg2 arg3 harg3 arg4 harg4 arg5 harg5 arg6 harg6 arg8 arg9 arg10 arg13 x0 x1 x2 x3 x4) (D.acc 11 2048) := by
  unfold kernelRun0_A.sl.v954 kernelRun0_A.sl.v953 kernelRun0_A.sl.v952 kernelRun0_A.sl.v951 kernelRun0_A.sl.v950 kernelRun0_A.sl.v948 kernelRun0_A.sl.v932 kernelRun0_A.sl.cst_179
  exact groupNext (is_v936 H) (groupI (is_v662 H) (RowsOf.read (rows_HS5_8 H) (by norm_num)) (is_v919 H) rfl) rfl

/-- Value block 11, read back. -/
theorem is_v962 (H : Inputs x0 x1 x2 x3 x4 D) : Is2 (n := 128) (m := 256) (kernelRun0_A.sl.v962 (F := Ideal) c arg3 harg3 arg4 harg4 arg10 x1 x2) (fun d k => D.A (2816 + k) (128 + d)) := by
  unfold kernelRun0_A.sl.v962 kernelRun0_A.sl.v961
  exact valueBlock (values H) rfl

/-- Values of the 1024 keys from 2048 on, with ones below. -/
theorem is_v965 (H : Inputs x0 x1 x2 x3 x4 D) : Is2 (n := 144) (m := 1024) (kernelRun0_A.sl.v965 (F := Ideal) c arg3 harg3 arg4 harg4 arg10 x1 x2) (fun d k => D.V d (2048 + k)) := by
  unfold kernelRun0_A.sl.v965 kernelRun0_A.sl.v963 kernelRun0_A.sl.v431 kernelRun0_A.sl.cst_176
  refine valuesI (is2_catCols (n := 128) (m := 256) (N := 4) (f := fun a b => D.A (2048 + b) (128 + a)) rfl ?_ rfl _)
  intro i hi; interval_cases i
  · exact ⟨_, rfl, colAt (is_v732 H) rfl⟩
  · exact ⟨_, rfl, colAt (is_v806 H) rfl⟩
  · exact ⟨_, rfl, colAt (is_v883 H) rfl⟩
  · exact ⟨_, rfl, colAt (is_v962 H) rfl⟩

/-- Query block 11 over 3072 keys. -/
theorem is_v972 (H : Inputs x0 x1 x2 x3 x4 D) : Is2 (n := 144) (m := 256) (kernelRun0_A.sl.v972 (F := Ideal) c arg2 harg2 arg3 harg3 arg4 harg4 arg5 harg5 arg6 harg6 arg8 arg9 arg10 arg13 x0 x1 x2 x3 x4) (D.acc 11 3072) := by
  unfold kernelRun0_A.sl.v972 kernelRun0_A.sl.v971 kernelRun0_A.sl.v970 kernelRun0_A.sl.v969 kernelRun0_A.sl.v968 kernelRun0_A.sl.v966 kernelRun0_A.sl.v932 kernelRun0_A.sl.cst_179
  exact groupNext (is_v954 H) (groupI (is_v965 H) (RowsOf.read (rows_HS5_8 H) (by norm_num)) (is_v919 H) rfl) rfl

/-- Result block 11. -/
theorem is_v981 (H : Inputs x0 x1 x2 x3 x4 D) : Is3 (n := 256) (m := 128) (kernelRun0_A.sl.v981 (F := Ideal) c arg2 harg2 arg3 harg3 arg4 harg4 arg5 harg5 arg6 harg6 arg8 arg9 arg10 arg13 x0 x1 x2 x3 x4) (D.outB 11) := by
  unfold kernelRun0_A.sl.v981 kernelRun0_A.sl.v978 kernelRun0_A.sl.v977 kernelRun0_A.sl.v976 kernelRun0_A.sl.v973 kernelRun0_A.sl.v975 kernelRun0_A.sl.v974
  exact outI (is_v972 H) rfl

/-- Scores of query block 12. -/
theorem is_v833 (H : Inputs x0 x1 x2 x3 x4 D) : Is2 (n := 3328) (m := 256) (kernelRun0_A.sl.v833 (F := Ideal) c arg2 harg2 arg3 harg3 arg4 harg4 arg5 harg5 arg6 harg6 arg9 x0 x1 x2 x3 x4) (D.S 12) := by
  unfold kernelRun0_A.sl.v833 kernelRun0_A.sl.v830 kernelRun0_A.sl.v827 kernelRun0_A.sl.v826 kernelRun0_A.sl.v829 kernelRun0_A.sl.cst_655
  exact scoreI (keyRows (keys H)) (queryRows (i := 12) (o := 3072) harg2 H.q rfl) rfl

/-- The buffer with the scores of query block 12. -/
theorem rows_HS3_9 (H : Inputs x0 x1 x2 x3 x4 D) : RowsOf 3328 (kernelRun0_A.sl.HS3_9 (F := Ideal) c arg2 harg2 arg3 harg3 arg4 harg4 arg5 harg5 arg6 harg6 arg8 arg9 arg11 x0 x1 x2 x3 x4) (D.S 12) := by
  unfold kernelRun0_A.sl.HS3_9
  exact RowsOf.whole (R := 4096) (M := 256) _ (is_v833 H)

/-- Masked diagonal scores of query block 12. -/
theorem is_v995 (H : Inputs x0 x1 x2 x3 x4 D) : Is2 (n := 256) (m := 256) (kernelRun0_A.sl.v995 (F := Ideal) c arg2 harg2 arg3 harg3 arg4 harg4 arg5 harg5 arg6 harg6 arg8 arg9 arg11 x0 x1 x2 x3 x4) (fun a b => D.S 12 (3072 + a) b + Data.M a b) := by
  unfold kernelRun0_A.sl.v995 kernelRun0_A.sl.v992 kernelRun0_A.sl.v990
  exact maskedI (RowsOf.read (rows_HS3_9 H) (by norm_num)) is2_mask

/-- The buffer with the masked scores of query block 12. -/
theorem rows_HS3_10 (H : Inputs x0 x1 x2 x3 x4 D) : RowsOf 3328 (kernelRun0_A.sl.HS3_10 (F := Ideal) c arg2 harg2 arg3 harg3 arg4 harg4 arg5 harg5 arg6 harg6 arg8 arg9 arg11 x0 x1 x2 x3 x4) (D.T 12) := by
  unfold kernelRun0_A.sl.HS3_10
  exact RowsOf.patch (R := 4096) (M := 256) (rows_HS3_9 H) (is_v995 H) (by norm_num)

/-- Maxima of query block 12. -/
theorem is_v998 (H : Inputs x0 x1 x2 x3 x4 D) : Is2 (n := 1) (m := 256) (kernelRun0_A.sl.v998 (F := Ideal) c arg2 harg2 arg3 harg3 arg4 harg4 arg5 harg5 arg6 harg6 arg8 arg9 arg11 x0 x1 x2 x3 x4) (fun _ b => D.mx 12 b) := by
  unfold kernelRun0_A.sl.v998 kernelRun0_A.sl.v997 kernelRun0_A.sl.v996
  exact maxI (RowsOf.read (rows_HS3_10 H) (by norm_num)) rfl

/-- Query block 12 over 1024 keys. -/
theorem is_v1015 (H : Inputs x0 x1 x2 x3 x4 D) : Is2 (n := 144) (m := 256) (kernelRun0_A.sl.v1015 (F := Ideal) c arg2 harg2 arg3 harg3 arg4 harg4 arg5 harg5 arg6 harg6 arg8 arg9 arg10 arg11 x0 x1 x2 x3 x4) (D.acc 12 1024) := by
  unfold kernelRun0_A.sl.v1015 kernelRun0_A.sl.v1014 kernelRun0_A.sl.v1013 kernelRun0_A.sl.v1012 kernelRun0_A.sl.v1010 kernelRun0_A.sl.v1011 kernelRun0_A.sl.cst_179
  exact groupFirst (groupI (is_v432 H) (RowsOf.read (rows_HS3_10 H) (by norm_num)) (is_v998 H) rfl)

/-- Query block 12 over 2048 keys. -/
theorem is_v1033 (H : Inputs x0 x1 x2 x3 x4 D) : Is2 (n := 144) (m := 256) (kernelRun0_A.sl.v1033 (F := Ideal) c arg2 harg2 arg3 harg3 arg4 harg4 arg5 harg5 arg6 harg6 arg8 arg9 arg10 arg11 x0 x1 x2 x3 x4) (D.acc 12 2048) := by
  unfold kernelRun0_A.sl.v1033 kernelRun0_A.sl.v1032 kernelRun0_A.sl.v1031 kernelRun0_A.sl.v1030 kernelRun0_A.sl.v1029 kernelRun0_A.sl.v1027 kernelRun0_A.sl.v1011 kernelRun0_A.sl.cst_179
  exact groupNext (is_v1015 H) (groupI (is_v662 H) (RowsOf.read (rows_HS3_10 H) (by norm_num)) (is_v998 H) rfl) rfl

/-- Query block 12 over 3072 keys. -/
theorem is_v1051 (H : Inputs x0 x1 x2 x3 x4 D) : Is2 (n := 144) (m := 256) (kernelRun0_A.sl.v1051 (F := Ideal) c arg2 harg2 arg3 harg3 arg4 harg4 arg5 harg5 arg6 harg6 arg8 arg9 arg10 arg11 x0 x1 x2 x3 x4) (D.acc 12 3072) := by
  unfold kernelRun0_A.sl.v1051 kernelRun0_A.sl.v1050 kernelRun0_A.sl.v1049 kernelRun0_A.sl.v1048 kernelRun0_A.sl.v1047 kernelRun0_A.sl.v1045 kernelRun0_A.sl.v1011 kernelRun0_A.sl.cst_179
  exact groupNext (is_v1033 H) (groupI (is_v965 H) (RowsOf.read (rows_HS3_10 H) (by norm_num)) (is_v998 H) rfl) rfl

/-- Value block 12, read back. -/
theorem is_v1053 (H : Inputs x0 x1 x2 x3 x4 D) : Is2 (n := 128) (m := 256) (kernelRun0_A.sl.v1053 (F := Ideal) c arg3 harg3 arg4 harg4 arg10 x1 x2) (fun d k => D.A (3072 + k) (128 + d)) := by
  unfold kernelRun0_A.sl.v1053 kernelRun0_A.sl.v1052
  exact valueBlock (values H) rfl

/-- Values of the 256 keys from 3072 on, with ones below. -/
theorem is_v1055 (H : Inputs x0 x1 x2 x3 x4 D) : Is2 (n := 144) (m := 256) (kernelRun0_A.sl.v1055 (F := Ideal) c arg3 harg3 arg4 harg4 arg10 x1 x2) (fun d k => D.V d (3072 + k)) := by
  unfold kernelRun0_A.sl.v1055 kernelRun0_A.sl.v308 kernelRun0_A.sl.cst_176
  exact valuesI (is_v1053 H)

/-- Query block 12 over 3328 keys. -/
theorem is_v1062 (H : Inputs x0 x1 x2 x3 x4 D) : Is2 (n := 144) (m := 256) (kernelRun0_A.sl.v1062 (F := Ideal) c arg2 harg2 arg3 harg3 arg4 harg4 arg5 harg5 arg6 harg6 arg8 arg9 arg10 arg11 x0 x1 x2 x3 x4) (D.acc 12 3328) := by
  unfold kernelRun0_A.sl.v1062 kernelRun0_A.sl.v1061 kernelRun0_A.sl.v1060 kernelRun0_A.sl.v1059 kernelRun0_A.sl.v1058 kernelRun0_A.sl.v1056 kernelRun0_A.sl.v1057 kernelRun0_A.sl.cst_179
  exact groupNext (is_v1051 H) (groupI (is_v1055 H) (RowsOf.read (rows_HS3_10 H) (by norm_num)) (is_v998 H) rfl) rfl

/-- Result block 12. -/
theorem is_v1071 (H : Inputs x0 x1 x2 x3 x4 D) : Is3 (n := 256) (m := 128) (kernelRun0_A.sl.v1071 (F := Ideal) c arg2 harg2 arg3 harg3 arg4 harg4 arg5 harg5 arg6 harg6 arg8 arg9 arg10 arg11 x0 x1 x2 x3 x4) (D.outB 12) := by
  unfold kernelRun0_A.sl.v1071 kernelRun0_A.sl.v1068 kernelRun0_A.sl.v1067 kernelRun0_A.sl.v1066 kernelRun0_A.sl.v1063 kernelRun0_A.sl.v1065 kernelRun0_A.sl.v1064
  exact outI (is_v1062 H) rfl

/-- Scores of query block 13. -/
theorem is_v910 (H : Inputs x0 x1 x2 x3 x4 D) : Is2 (n := 3584) (m := 256) (kernelRun0_A.sl.v910 (F := Ideal) c arg2 harg2 arg3 harg3 arg4 harg4 arg5 harg5 arg6 harg6 arg9 x0 x1 x2 x3 x4) (D.S 13) := by
  unfold kernelRun0_A.sl.v910 kernelRun0_A.sl.v907 kernelRun0_A.sl.v904 kernelRun0_A.sl.v903 kernelRun0_A.sl.v906 kernelRun0_A.sl.cst_731
  exact scoreI (keyRows (keys H)) (queryRows (i := 13) (o := 3328) harg2 H.q rfl) rfl

/-- The buffer with the scores of query block 13. -/
theorem rows_HS4_9 (H : Inputs x0 x1 x2 x3 x4 D) : RowsOf 3584 (kernelRun0_A.sl.HS4_9 (F := Ideal) c arg2 harg2 arg3 harg3 arg4 harg4 arg5 harg5 arg6 harg6 arg8 arg9 arg12 x0 x1 x2 x3 x4) (D.S 13) := by
  unfold kernelRun0_A.sl.HS4_9
  exact RowsOf.whole (R := 4096) (M := 256) _ (is_v910 H)

/-- Masked diagonal scores of query block 13. -/
theorem is_v1085 (H : Inputs x0 x1 x2 x3 x4 D) : Is2 (n := 256) (m := 256) (kernelRun0_A.sl.v1085 (F := Ideal) c arg2 harg2 arg3 harg3 arg4 harg4 arg5 harg5 arg6 harg6 arg8 arg9 arg12 x0 x1 x2 x3 x4) (fun a b => D.S 13 (3328 + a) b + Data.M a b) := by
  unfold kernelRun0_A.sl.v1085 kernelRun0_A.sl.v1082 kernelRun0_A.sl.v1080
  exact maskedI (RowsOf.read (rows_HS4_9 H) (by norm_num)) is2_mask

/-- The buffer with the masked scores of query block 13. -/
theorem rows_HS4_10 (H : Inputs x0 x1 x2 x3 x4 D) : RowsOf 3584 (kernelRun0_A.sl.HS4_10 (F := Ideal) c arg2 harg2 arg3 harg3 arg4 harg4 arg5 harg5 arg6 harg6 arg8 arg9 arg12 x0 x1 x2 x3 x4) (D.T 13) := by
  unfold kernelRun0_A.sl.HS4_10
  exact RowsOf.patch (R := 4096) (M := 256) (rows_HS4_9 H) (is_v1085 H) (by norm_num)

/-- Maxima of query block 13. -/
theorem is_v1088 (H : Inputs x0 x1 x2 x3 x4 D) : Is2 (n := 1) (m := 256) (kernelRun0_A.sl.v1088 (F := Ideal) c arg2 harg2 arg3 harg3 arg4 harg4 arg5 harg5 arg6 harg6 arg8 arg9 arg12 x0 x1 x2 x3 x4) (fun _ b => D.mx 13 b) := by
  unfold kernelRun0_A.sl.v1088 kernelRun0_A.sl.v1087 kernelRun0_A.sl.v1086
  exact maxI (RowsOf.read (rows_HS4_10 H) (by norm_num)) rfl

/-- Query block 13 over 1024 keys. -/
theorem is_v1105 (H : Inputs x0 x1 x2 x3 x4 D) : Is2 (n := 144) (m := 256) (kernelRun0_A.sl.v1105 (F := Ideal) c arg2 harg2 arg3 harg3 arg4 harg4 arg5 harg5 arg6 harg6 arg8 arg9 arg10 arg12 x0 x1 x2 x3 x4) (D.acc 13 1024) := by
  unfold kernelRun0_A.sl.v1105 kernelRun0_A.sl.v1104 kernelRun0_A.sl.v1103 kernelRun0_A.sl.v1102 kernelRun0_A.sl.v1100 kernelRun0_A.sl.v1101 kernelRun0_A.sl.cst_179
  exact groupFirst (groupI (is_v432 H) (RowsOf.read (rows_HS4_10 H) (by norm_num)) (is_v1088 H) rfl)

/-- Query block 13 over 2048 keys. -/
theorem is_v1123 (H : Inputs x0 x1 x2 x3 x4 D) : Is2 (n := 144) (m := 256) (kernelRun0_A.sl.v1123 (F := Ideal) c arg2 harg2 arg3 harg3 arg4 harg4 arg5 harg5 arg6 harg6 arg8 arg9 arg10 arg12 x0 x1 x2 x3 x4) (D.acc 13 2048) := by
  unfold kernelRun0_A.sl.v1123 kernelRun0_A.sl.v1122 kernelRun0_A.sl.v1121 kernelRun0_A.sl.v1120 kernelRun0_A.sl.v1119 kernelRun0_A.sl.v1117 kernelRun0_A.sl.v1101 kernelRun0_A.sl.cst_179
  exact groupNext (is_v1105 H) (groupI (is_v662 H) (RowsOf.read (rows_HS4_10 H) (by norm_num)) (is_v1088 H) rfl) rfl

/-- Query block 13 over 3072 keys. -/
theorem is_v1141 (H : Inputs x0 x1 x2 x3 x4 D) : Is2 (n := 144) (m := 256) (kernelRun0_A.sl.v1141 (F := Ideal) c arg2 harg2 arg3 harg3 arg4 harg4 arg5 harg5 arg6 harg6 arg8 arg9 arg10 arg12 x0 x1 x2 x3 x4) (D.acc 13 3072) := by
  unfold kernelRun0_A.sl.v1141 kernelRun0_A.sl.v1140 kernelRun0_A.sl.v1139 kernelRun0_A.sl.v1138 kernelRun0_A.sl.v1137 kernelRun0_A.sl.v1135 kernelRun0_A.sl.v1101 kernelRun0_A.sl.cst_179
  exact groupNext (is_v1123 H) (groupI (is_v965 H) (RowsOf.read (rows_HS4_10 H) (by norm_num)) (is_v1088 H) rfl) rfl

/-- Value block 13, read back. -/
theorem is_v1145 (H : Inputs x0 x1 x2 x3 x4 D) : Is2 (n := 128) (m := 256) (kernelRun0_A.sl.v1145 (F := Ideal) c arg3 harg3 arg4 harg4 arg10 x1 x2) (fun d k => D.A (3328 + k) (128 + d)) := by
  unfold kernelRun0_A.sl.v1145 kernelRun0_A.sl.v1144
  exact valueBlock (values H) rfl

/-- Values of the 512 keys from 3072 on, with ones below. -/
theorem is_v1148 (H : Inputs x0 x1 x2 x3 x4 D) : Is2 (n := 144) (m := 512) (kernelRun0_A.sl.v1148 (F := Ideal) c arg3 harg3 arg4 harg4 arg10 x1 x2) (fun d k => D.V d (3072 + k)) := by
  unfold kernelRun0_A.sl.v1148 kernelRun0_A.sl.v1146 kernelRun0_A.sl.v347 kernelRun0_A.sl.cst_176
  refine valuesI (is2_catCols (n := 128) (m := 256) (N := 2) (f := fun a b => D.A (3072 + b) (128 + a)) rfl ?_ rfl _)
  intro i hi; interval_cases i
  · exact ⟨_, rfl, colAt (is_v1053 H) rfl⟩
  · exact ⟨_, rfl, colAt (is_v1145 H) rfl⟩

/-- Query block 13 over 3584 keys. -/
theorem is_v1155 (H : Inputs x0 x1 x2 x3 x4 D) : Is2 (n := 144) (m := 256) (kernelRun0_A.sl.v1155 (F := Ideal) c arg2 harg2 arg3 harg3 arg4 harg4 arg5 harg5 arg6 harg6 arg8 arg9 arg10 arg12 x0 x1 x2 x3 x4) (D.acc 13 3584) := by
  unfold kernelRun0_A.sl.v1155 kernelRun0_A.sl.v1154 kernelRun0_A.sl.v1153 kernelRun0_A.sl.v1152 kernelRun0_A.sl.v1151 kernelRun0_A.sl.v1149 kernelRun0_A.sl.v1150 kernelRun0_A.sl.cst_179
  exact groupNext (is_v1141 H) (groupI (is_v1148 H) (RowsOf.read (rows_HS4_10 H) (by norm_num)) (is_v1088 H) rfl) rfl

/-- Result block 13. -/
theorem is_v1164 (H : Inputs x0 x1 x2 x3 x4 D) : Is3 (n := 256) (m := 128) (kernelRun0_A.sl.v1164 (F := Ideal) c arg2 harg2 arg3 harg3 arg4 harg4 arg5 harg5 arg6 harg6 arg8 arg9 arg10 arg12 x0 x1 x2 x3 x4) (D.outB 13) := by
  unfold kernelRun0_A.sl.v1164 kernelRun0_A.sl.v1161 kernelRun0_A.sl.v1160 kernelRun0_A.sl.v1159 kernelRun0_A.sl.v1156 kernelRun0_A.sl.v1158 kernelRun0_A.sl.v1157
  exact outI (is_v1155 H) rfl

/-- Scores of query block 14. -/
theorem is_v989 (H : Inputs x0 x1 x2 x3 x4 D) : Is2 (n := 3840) (m := 256) (kernelRun0_A.sl.v989 (F := Ideal) c arg2 harg2 arg3 harg3 arg4 harg4 arg5 harg5 arg6 harg6 arg9 x0 x1 x2 x3 x4) (D.S 14) := by
  unfold kernelRun0_A.sl.v989 kernelRun0_A.sl.v986 kernelRun0_A.sl.v983 kernelRun0_A.sl.v982 kernelRun0_A.sl.v985 kernelRun0_A.sl.cst_811
  exact scoreI (keyRows (keys H)) (queryRows (i := 14) (o := 3584) harg2 H.q rfl) rfl

/-- The buffer with the scores of query block 14. -/
theorem rows_HS5_9 (H : Inputs x0 x1 x2 x3 x4 D) : RowsOf 3840 (kernelRun0_A.sl.HS5_9 (F := Ideal) c arg2 harg2 arg3 harg3 arg4 harg4 arg5 harg5 arg6 harg6 arg8 arg9 arg13 x0 x1 x2 x3 x4) (D.S 14) := by
  unfold kernelRun0_A.sl.HS5_9
  exact RowsOf.whole (R := 4096) (M := 256) _ (is_v989 H)

/-- Masked diagonal scores of query block 14. -/
theorem is_v1170 (H : Inputs x0 x1 x2 x3 x4 D) : Is2 (n := 256) (m := 256) (kernelRun0_A.sl.v1170 (F := Ideal) c arg2 harg2 arg3 harg3 arg4 harg4 arg5 harg5 arg6 harg6 arg8 arg9 arg13 x0 x1 x2 x3 x4) (fun a b => D.S 14 (3584 + a) b + Data.M a b) := by
  unfold kernelRun0_A.sl.v1170 kernelRun0_A.sl.v1167 kernelRun0_A.sl.v1165
  exact maskedI (RowsOf.read (rows_HS5_9 H) (by norm_num)) is2_mask

/-- The buffer with the masked scores of query block 14. -/
theorem rows_HS5_10 (H : Inputs x0 x1 x2 x3 x4 D) : RowsOf 3840 (kernelRun0_A.sl.HS5_10 (F := Ideal) c arg2 harg2 arg3 harg3 arg4 harg4 arg5 harg5 arg6 harg6 arg8 arg9 arg13 x0 x1 x2 x3 x4) (D.T 14) := by
  unfold kernelRun0_A.sl.HS5_10
  exact RowsOf.patch (R := 4096) (M := 256) (rows_HS5_9 H) (is_v1170 H) (by norm_num)

/-- Maxima of query block 14. -/
theorem is_v1173 (H : Inputs x0 x1 x2 x3 x4 D) : Is2 (n := 1) (m := 256) (kernelRun0_A.sl.v1173 (F := Ideal) c arg2 harg2 arg3 harg3 arg4 harg4 arg5 harg5 arg6 harg6 arg8 arg9 arg13 x0 x1 x2 x3 x4) (fun _ b => D.mx 14 b) := by
  unfold kernelRun0_A.sl.v1173 kernelRun0_A.sl.v1172 kernelRun0_A.sl.v1171
  exact maxI (RowsOf.read (rows_HS5_10 H) (by norm_num)) rfl

/-- Query block 14 over 1024 keys. -/
theorem is_v1190 (H : Inputs x0 x1 x2 x3 x4 D) : Is2 (n := 144) (m := 256) (kernelRun0_A.sl.v1190 (F := Ideal) c arg2 harg2 arg3 harg3 arg4 harg4 arg5 harg5 arg6 harg6 arg8 arg9 arg10 arg13 x0 x1 x2 x3 x4) (D.acc 14 1024) := by
  unfold kernelRun0_A.sl.v1190 kernelRun0_A.sl.v1189 kernelRun0_A.sl.v1188 kernelRun0_A.sl.v1187 kernelRun0_A.sl.v1185 kernelRun0_A.sl.v1186 kernelRun0_A.sl.cst_179
  exact groupFirst (groupI (is_v432 H) (RowsOf.read (rows_HS5_10 H) (by norm_num)) (is_v1173 H) rfl)

/-- Query block 14 over 2048 keys. -/
theorem is_v1208 (H : Inputs x0 x1 x2 x3 x4 D) : Is2 (n := 144) (m := 256) (kernelRun0_A.sl.v1208 (F := Ideal) c arg2 harg2 arg3 harg3 arg4 harg4 arg5 harg5 arg6 harg6 arg8 arg9 arg10 arg13 x0 x1 x2 x3 x4) (D.acc 14 2048) := by
  unfold kernelRun0_A.sl.v1208 kernelRun0_A.sl.v1207 kernelRun0_A.sl.v1206 kernelRun0_A.sl.v1205 kernelRun0_A.sl.v1204 kernelRun0_A.sl.v1202 kernelRun0_A.sl.v1186 kernelRun0_A.sl.cst_179
  exact groupNext (is_v1190 H) (groupI (is_v662 H) (RowsOf.read (rows_HS5_10 H) (by norm_num)) (is_v1173 H) rfl) rfl

/-- Query block 14 over 3072 keys. -/
theorem is_v1226 (H : Inputs x0 x1 x2 x3 x4 D) : Is2 (n := 144) (m := 256) (kernelRun0_A.sl.v1226 (F := Ideal) c arg2 harg2 arg3 harg3 arg4 harg4 arg5 harg5 arg6 harg6 arg8 arg9 arg10 arg13 x0 x1 x2 x3 x4) (D.acc 14 3072) := by
  unfold kernelRun0_A.sl.v1226 kernelRun0_A.sl.v1225 kernelRun0_A.sl.v1224 kernelRun0_A.sl.v1223 kernelRun0_A.sl.v1222 kernelRun0_A.sl.v1220 kernelRun0_A.sl.v1186 kernelRun0_A.sl.cst_179
  exact groupNext (is_v1208 H) (groupI (is_v965 H) (RowsOf.read (rows_HS5_10 H) (by norm_num)) (is_v1173 H) rfl) rfl

/-- Value block 14, read back. -/
theorem is_v1232 (H : Inputs x0 x1 x2 x3 x4 D) : Is2 (n := 128) (m := 256) (kernelRun0_A.sl.v1232 (F := Ideal) c arg3 harg3 arg4 harg4 arg10 x1 x2) (fun d k => D.A (3584 + k) (128 + d)) := by
  unfold kernelRun0_A.sl.v1232 kernelRun0_A.sl.v1231
  exact valueBlock (values H) rfl

/-- Values of the 768 keys from 3072 on, with ones below. -/
theorem is_v1235 (H : Inputs x0 x1 x2 x3 x4 D) : Is2 (n := 144) (m := 768) (kernelRun0_A.sl.v1235 (F := Ideal) c arg3 harg3 arg4 harg4 arg10 x1 x2) (fun d k => D.V d (3072 + k)) := by
  unfold kernelRun0_A.sl.v1235 kernelRun0_A.sl.v1233 kernelRun0_A.sl.v388 kernelRun0_A.sl.cst_176
  refine valuesI (is2_catCols (n := 128) (m := 256) (N := 3) (f := fun a b => D.A (3072 + b) (128 + a)) rfl ?_ rfl _)
  intro i hi; interval_cases i
  · exact ⟨_, rfl, colAt (is_v1053 H) rfl⟩
  · exact ⟨_, rfl, colAt (is_v1145 H) rfl⟩
  · exact ⟨_, rfl, colAt (is_v1232 H) rfl⟩

/-- Query block 14 over 3840 keys. -/
theorem is_v1242 (H : Inputs x0 x1 x2 x3 x4 D) : Is2 (n := 144) (m := 256) (kernelRun0_A.sl.v1242 (F := Ideal) c arg2 harg2 arg3 harg3 arg4 harg4 arg5 harg5 arg6 harg6 arg8 arg9 arg10 arg13 x0 x1 x2 x3 x4) (D.acc 14 3840) := by
  unfold kernelRun0_A.sl.v1242 kernelRun0_A.sl.v1241 kernelRun0_A.sl.v1240 kernelRun0_A.sl.v1239 kernelRun0_A.sl.v1238 kernelRun0_A.sl.v1236 kernelRun0_A.sl.v1237 kernelRun0_A.sl.cst_179
  exact groupNext (is_v1226 H) (groupI (is_v1235 H) (RowsOf.read (rows_HS5_10 H) (by norm_num)) (is_v1173 H) rfl) rfl

/-- Result block 14. -/
theorem is_v1251 (H : Inputs x0 x1 x2 x3 x4 D) : Is3 (n := 256) (m := 128) (kernelRun0_A.sl.v1251 (F := Ideal) c arg2 harg2 arg3 harg3 arg4 harg4 arg5 harg5 arg6 harg6 arg8 arg9 arg10 arg13 x0 x1 x2 x3 x4) (D.outB 14) := by
  unfold kernelRun0_A.sl.v1251 kernelRun0_A.sl.v1248 kernelRun0_A.sl.v1247 kernelRun0_A.sl.v1246 kernelRun0_A.sl.v1243 kernelRun0_A.sl.v1245 kernelRun0_A.sl.v1244
  exact outI (is_v1242 H) rfl

/-- Scores of query block 15. -/
theorem is_v1079 (H : Inputs x0 x1 x2 x3 x4 D) : Is2 (n := 4096) (m := 256) (kernelRun0_A.sl.v1079 (F := Ideal) c arg2 harg2 arg3 harg3 arg4 harg4 arg5 harg5 arg6 harg6 arg9 x0 x1 x2 x3 x4) (D.S 15) := by
  unfold kernelRun0_A.sl.v1079 kernelRun0_A.sl.v1076 kernelRun0_A.sl.v1073 kernelRun0_A.sl.v1072 kernelRun0_A.sl.v1075 kernelRun0_A.sl.cst_899
  exact scoreI (keyRows (keys H)) (queryRows (i := 15) (o := 3840) harg2 H.q rfl) rfl

/-- The buffer with the scores of query block 15. -/
theorem rows_HS3_11 (H : Inputs x0 x1 x2 x3 x4 D) : RowsOf 4096 (kernelRun0_A.sl.HS3_11 (F := Ideal) c arg2 harg2 arg3 harg3 arg4 harg4 arg5 harg5 arg6 harg6 arg8 arg9 arg11 x0 x1 x2 x3 x4) (D.S 15) := by
  unfold kernelRun0_A.sl.HS3_11
  exact RowsOf.whole (R := 4096) (M := 256) _ (is_v1079 H)

/-- Masked diagonal scores of query block 15. -/
theorem is_v1257 (H : Inputs x0 x1 x2 x3 x4 D) : Is2 (n := 256) (m := 256) (kernelRun0_A.sl.v1257 (F := Ideal) c arg2 harg2 arg3 harg3 arg4 harg4 arg5 harg5 arg6 harg6 arg8 arg9 arg11 x0 x1 x2 x3 x4) (fun a b => D.S 15 (3840 + a) b + Data.M a b) := by
  unfold kernelRun0_A.sl.v1257 kernelRun0_A.sl.v1254 kernelRun0_A.sl.v1252
  exact maskedI (RowsOf.read (rows_HS3_11 H) (by norm_num)) is2_mask

/-- The buffer with the masked scores of query block 15. -/
theorem rows_HS3_12 (H : Inputs x0 x1 x2 x3 x4 D) : RowsOf 4096 (kernelRun0_A.sl.HS3_12 (F := Ideal) c arg2 harg2 arg3 harg3 arg4 harg4 arg5 harg5 arg6 harg6 arg8 arg9 arg11 x0 x1 x2 x3 x4) (D.T 15) := by
  unfold kernelRun0_A.sl.HS3_12
  exact RowsOf.patch (R := 4096) (M := 256) (rows_HS3_11 H) (is_v1257 H) (by norm_num)

/-- Maxima of query block 15. -/
theorem is_v1260 (H : Inputs x0 x1 x2 x3 x4 D) : Is2 (n := 1) (m := 256) (kernelRun0_A.sl.v1260 (F := Ideal) c arg2 harg2 arg3 harg3 arg4 harg4 arg5 harg5 arg6 harg6 arg8 arg9 arg11 x0 x1 x2 x3 x4) (fun _ b => D.mx 15 b) := by
  unfold kernelRun0_A.sl.v1260 kernelRun0_A.sl.v1259 kernelRun0_A.sl.v1258
  exact maxI (RowsOf.read (rows_HS3_12 H) (by norm_num)) rfl

/-- Query block 15 over 1024 keys. -/
theorem is_v1277 (H : Inputs x0 x1 x2 x3 x4 D) : Is2 (n := 144) (m := 256) (kernelRun0_A.sl.v1277 (F := Ideal) c arg2 harg2 arg3 harg3 arg4 harg4 arg5 harg5 arg6 harg6 arg8 arg9 arg10 arg11 x0 x1 x2 x3 x4) (D.acc 15 1024) := by
  unfold kernelRun0_A.sl.v1277 kernelRun0_A.sl.v1276 kernelRun0_A.sl.v1275 kernelRun0_A.sl.v1274 kernelRun0_A.sl.v1272 kernelRun0_A.sl.v1273 kernelRun0_A.sl.cst_179
  exact groupFirst (groupI (is_v432 H) (RowsOf.read (rows_HS3_12 H) (by norm_num)) (is_v1260 H) rfl)

/-- Query block 15 over 2048 keys. -/
theorem is_v1295 (H : Inputs x0 x1 x2 x3 x4 D) : Is2 (n := 144) (m := 256) (kernelRun0_A.sl.v1295 (F := Ideal) c arg2 harg2 arg3 harg3 arg4 harg4 arg5 harg5 arg6 harg6 arg8 arg9 arg10 arg11 x0 x1 x2 x3 x4) (D.acc 15 2048) := by
  unfold kernelRun0_A.sl.v1295 kernelRun0_A.sl.v1294 kernelRun0_A.sl.v1293 kernelRun0_A.sl.v1292 kernelRun0_A.sl.v1291 kernelRun0_A.sl.v1289 kernelRun0_A.sl.v1273 kernelRun0_A.sl.cst_179
  exact groupNext (is_v1277 H) (groupI (is_v662 H) (RowsOf.read (rows_HS3_12 H) (by norm_num)) (is_v1260 H) rfl) rfl

/-- Query block 15 over 3072 keys. -/
theorem is_v1313 (H : Inputs x0 x1 x2 x3 x4 D) : Is2 (n := 144) (m := 256) (kernelRun0_A.sl.v1313 (F := Ideal) c arg2 harg2 arg3 harg3 arg4 harg4 arg5 harg5 arg6 harg6 arg8 arg9 arg10 arg11 x0 x1 x2 x3 x4) (D.acc 15 3072) := by
  unfold kernelRun0_A.sl.v1313 kernelRun0_A.sl.v1312 kernelRun0_A.sl.v1311 kernelRun0_A.sl.v1310 kernelRun0_A.sl.v1309 kernelRun0_A.sl.v1307 kernelRun0_A.sl.v1273 kernelRun0_A.sl.cst_179
  exact groupNext (is_v1295 H) (groupI (is_v965 H) (RowsOf.read (rows_HS3_12 H) (by norm_num)) (is_v1260 H) rfl) rfl

end Cert.Words
-- ==== Proof.Point.lean ====
module

public import proofs.«01_k».proof.Proof.Blocks

@[expose] public section

set_option maxRecDepth 16384

noncomputable section

namespace Cert.Words

open Idealize.ShloMosaic hiding ix0 ix1 ix2 ix3 ix4 ix5 eq_ix1 eq_ix2 eq_ix3 eq_ix4 eq_ix5
open Idealize.ShloMosaic.ValueIdx
open Cert.KernelIdeal Cert.KernelIdeal.Gen

/-! One grid point: its result block. -/

variable {D : Data} {c : Dev nD} {arg2 : Memref sig .tc .vmem S1x4096x256 .bf16} {harg2 : arg2.IsWhole} {arg3 : Memref sig .tc .vmem S1x4096x512 .bf16} {harg3 : arg3.IsWhole}
  {arg4 : Memref sig .tc .vmem S512x256 .bf16} {harg4 : arg4.IsWhole} {arg5 : Memref sig .tc .vmem S1x128 .f32} {harg5 : arg5.IsWhole}
  {arg6 : Memref sig .tc .vmem S1x4096x128 .f32} {harg6 : arg6.IsWhole} {arg8 : Memref sig .tc .vmem S256x256 .f32}
  {arg9 : Memref sig .tc .vmem S1x4096x256 .bf16} {arg10 : Memref sig .tc .vmem S1x16x128x256 .bf16}
  {arg11 arg12 arg13 : Memref sig .tc .vmem S4096x256 .f32}
  {x0 : Vec Ideal S1x4096x256 .bf16} {x1 : Vec Ideal S1x4096x512 .bf16} {x2 : Vec Ideal S512x256 .bf16} {x3 : Vec Ideal S1x128 .f32} {x4 : Vec Ideal S1x4096x128 .f32}
  {arg7 : Memref sig .tc .vmem S1x4096x128 .bf16} {harg7 : arg7.IsWhole} {harg8 : arg8.IsWhole} {harg9 : arg9.IsWhole} {harg10 : arg10.IsWhole}
  {harg11 : arg11.IsWhole} {harg12 : arg12.IsWhole} {harg13 : arg13.IsWhole} {i : grid0.Coords}

/-- Values of the last 1024 keys, with ones below. -/
theorem is_r (H : Inputs x0 x1 x2 x3 x4 D) : Is2 (n := 144) (m := 1024) (kernelRun0_A.sl.r (F := Ideal) c arg3 harg3 arg4 harg4 arg10 x1 x2) (fun d k => D.V d (3072 + k)) := by
  unfold kernelRun0_A.sl.r kernelRun0_A.sl.v1318 kernelRun0_A.sl.v1320
  unfold k0_pay155
  refine valuesI (is2_catCols (n := 128) (m := 256) (N := 4) (f := fun a b => D.A (3072 + b) (128 + a)) rfl ?_ rfl _)
  intro i hi; interval_cases i
  · exact ⟨_, rfl, colAt (is_v1053 H) rfl⟩
  · exact ⟨_, rfl, colAt (is_v1145 H) rfl⟩
  · exact ⟨_, rfl, colAt (s := 3584) (valueBlock (values H) rfl) rfl⟩
  · exact ⟨_, rfl, colAt (s := 3840) (valueBlock (values H) rfl) rfl⟩

/-- Result block 15. -/
theorem is_last (H : Inputs x0 x1 x2 x3 x4 D) : Is3 (n := 256) (m := 128)
    (k0_pay1 (kernelRun0_A.sl.v1260 (F := Ideal) c arg2 harg2 arg3 harg3 arg4 harg4 arg5 harg5 arg6 harg6 arg8 arg9 arg11 x0 x1 x2 x3 x4) (kernelRun0_A.sl.v1313 (F := Ideal) c arg2 harg2 arg3 harg3 arg4 harg4 arg5 harg5 arg6 harg6 arg8 arg9 arg10 arg11 x0 x1 x2 x3 x4)
      (kernelRun0_A.sl.r (F := Ideal) c arg3 harg3 arg4 harg4 arg10 x1 x2) (kernelRun0_A.sl.v1325 (F := Ideal) c arg2 harg2 arg3 harg3 arg4 harg4 arg5 harg5 arg6 harg6 arg8 arg9 arg11 x0 x1 x2 x3 x4)) (D.outB 15) := by
  unfold kernelRun0_A.sl.v1325
  unfold k0_pay1
  exact outI (groupNext (is_v1313 H) (groupI (is_r H) (RowsOf.read (rows_HS3_12 H) (by norm_num)) (is_v1260 H) rfl) rfl) rfl

/-- What a grid point leaves in its result window. -/
theorem is_out (H : Inputs x0 x1 x2 x3 x4 D) : Is3 (n := 4096) (m := 128)
    (out0_A_5 (F := Ideal) c i arg2 harg2 arg3 harg3 arg4 harg4 arg5 harg5 arg6 harg6 arg7 harg7 arg8 harg8 arg9 harg9 arg10 harg10 arg11 harg11 arg12 harg12 arg13 harg13 x0 x1 x2 x3 x4) D.out := by
  unfold out0_A_5
  rw [View.read_writes_eq_canon _ _ _ (cover0_A_5 c _ _ _ _ _ _ _ _ _ _ _ _ _ _ _ _ _ _ _ _ _ _ _ _ _ _ _ _ _ _ )]
  unfold kernelRun0_A
  intro y
  refine canon_of_pieces (s := S1x4096x128) (e := .bf16) (fun y => (D.out (y 1).val (y 2).val : EReal)) ?_
    ⟨pieceOut (inb := by decide) (is_last H) rfl,
      pieceOut (inb := by decide) (is_v1251 H) rfl,
      pieceOut (inb := by decide) (is_v1164 H) rfl,
      pieceOut (inb := by decide) (is_v1071 H) rfl,
      pieceOut (inb := by decide) (is_v981 H) rfl,
      pieceOut (inb := by decide) (is_v902 H) rfl,
      pieceOut (inb := by decide) (is_v825 H) rfl,
      pieceOut (inb := by decide) (is_v750 H) rfl,
      pieceOut (inb := by decide) (is_v678 H) rfl,
      pieceOut (inb := by decide) (is_v617 H) rfl,
      pieceOut (inb := by decide) (is_v558 H) rfl,
      pieceOut (inb := by decide) (is_v501 H) rfl,
      pieceOut (inb := by decide) (is_v447 H) rfl,
      pieceOut (inb := by decide) (is_v404 H) rfl,
      pieceOut (inb := by decide) (is_v363 H) rfl,
      pieceOut (inb := by decide) (is_v324 H) rfl, trivial⟩
  have h1 : (y 1).val < 4096 := (y 1).isLt
  have h2 : (y 2).val < 128 := (y 2).isLt
  obtain ⟨s, hs⟩ : ∃ s, s = (y 1).val / 256 := ⟨_, rfl⟩
  have h3 : s < 16 := by omega
  interval_cases s
  · exact ⟨_, .tail _ (.tail _ (.tail _ (.tail _ (.tail _ (.tail _ (.tail _ (.tail _ (.tail _ (.tail _ (.tail _ (.tail _ (.tail _ (.tail _ (.tail _ (.head _))))))))))))))), mem_block (R := 4096) (M := 128) (by decide) y (by omega) (by omega) (by omega) (by omega)⟩
  · exact ⟨_, .tail _ (.tail _ (.tail _ (.tail _ (.tail _ (.tail _ (.tail _ (.tail _ (.tail _ (.tail _ (.tail _ (.tail _ (.tail _ (.tail _ (.head _)))))))))))))), mem_block (R := 4096) (M := 128) (by decide) y (by omega) (by omega) (by omega) (by omega)⟩
  · exact ⟨_, .tail _ (.tail _ (.tail _ (.tail _ (.tail _ (.tail _ (.tail _ (.tail _ (.tail _ (.tail _ (.tail _ (.tail _ (.tail _ (.head _))))))))))))), mem_block (R := 4096) (M := 128) (by decide) y (by omega) (by omega) (by omega) (by omega)⟩
  · exact ⟨_, .tail _ (.tail _ (.tail _ (.tail _ (.tail _ (.tail _ (.tail _ (.tail _ (.tail _ (.tail _ (.tail _ (.tail _ (.head _)))))))))))), mem_block (R := 4096) (M := 128) (by decide) y (by omega) (by omega) (by omega) (by omega)⟩
  · exact ⟨_, .tail _ (.tail _ (.tail _ (.tail _ (.tail _ (.tail _ (.tail _ (.tail _ (.tail _ (.tail _ (.tail _ (.head _))))))))))), mem_block (R := 4096) (M := 128) (by decide) y (by omega) (by omega) (by omega) (by omega)⟩
  · exact ⟨_, .tail _ (.tail _ (.tail _ (.tail _ (.tail _ (.tail _ (.tail _ (.tail _ (.tail _ (.tail _ (.head _)))))))))), mem_block (R := 4096) (M := 128) (by decide) y (by omega) (by omega) (by omega) (by omega)⟩
  · exact ⟨_, .tail _ (.tail _ (.tail _ (.tail _ (.tail _ (.tail _ (.tail _ (.tail _ (.tail _ (.head _))))))))), mem_block (R := 4096) (M := 128) (by decide) y (by omega) (by omega) (by omega) (by omega)⟩
  · exact ⟨_, .tail _ (.tail _ (.tail _ (.tail _ (.tail _ (.tail _ (.tail _ (.tail _ (.head _)))))))), mem_block (R := 4096) (M := 128) (by decide) y (by omega) (by omega) (by omega) (by omega)⟩
  · exact ⟨_, .tail _ (.tail _ (.tail _ (.tail _ (.tail _ (.tail _ (.tail _ (.head _))))))), mem_block (R := 4096) (M := 128) (by decide) y (by omega) (by omega) (by omega) (by omega)⟩
  · exact ⟨_, .tail _ (.tail _ (.tail _ (.tail _ (.tail _ (.tail _ (.head _)))))), mem_block (R := 4096) (M := 128) (by decide) y (by omega) (by omega) (by omega) (by omega)⟩
  · exact ⟨_, .tail _ (.tail _ (.tail _ (.tail _ (.tail _ (.head _))))), mem_block (R := 4096) (M := 128) (by decide) y (by omega) (by omega) (by omega) (by omega)⟩
  · exact ⟨_, .tail _ (.tail _ (.tail _ (.tail _ (.head _)))), mem_block (R := 4096) (M := 128) (by decide) y (by omega) (by omega) (by omega) (by omega)⟩
  · exact ⟨_, .tail _ (.tail _ (.tail _ (.head _))), mem_block (R := 4096) (M := 128) (by decide) y (by omega) (by omega) (by omega) (by omega)⟩
  · exact ⟨_, .tail _ (.tail _ (.head _)), mem_block (R := 4096) (M := 128) (by decide) y (by omega) (by omega) (by omega) (by omega)⟩
  · exact ⟨_, .tail _ (.head _), mem_block (R := 4096) (M := 128) (by decide) y (by omega) (by omega) (by omega) (by omega)⟩
  · exact ⟨_, .head _, mem_block (R := 4096) (M := 128) (by decide) y (by omega) (by omega) (by omega) (by omega)⟩

end Cert.Words
-- ==== Proof.EntryAt.lean ====
module

public import proofs.«01_k».proof.Proof.Entry
public import proofs.«01_k».proof.Proof.Point

@[expose] public section

set_option maxRecDepth 16384

noncomputable section

/-! The host operations' arrays read at an index. -/

namespace Cert.Entry

open Idealize.ShloMosaic hiding ix0 ix1 ix2 ix3 ix4 ix5 eq_ix1 eq_ix2 eq_ix3 eq_ix4 eq_ix5
open Idealize.ShloMosaic.ValueIdx
open Idealize.ShloMosaic.TcCoe Cert.KernelIdeal Cert.KernelIdeal.Gen

variable (m : (ℓ : Loc nD τ sig) → Buf (Elt Ideal) ℓ) (c : Dev nD)

/-- The scale of the queries, with the change from powers of two to the exponential. -/
def qs : EReal := V m c main_v22 ix0

/-- The arguments of the call, as functions of natural indices, at one sequence and one head. -/
def qn (b : Fin 4) (h : Fin 8) (q d : ℕ) : EReal := (m ((c : Thread nD τ).loc main_arg0) : S4x4096x8x128.Idx → EReal) (ix4 b (Fin.ofNat 4096 q) h (Fin.ofNat 128 d))
def qr (b : Fin 4) (h : Fin 8) (q d : ℕ) : EReal := (m ((c : Thread nD τ).loc main_arg1) : S4x4096x8x64.Idx → EReal) (ix4 b (Fin.ofNat 4096 q) h (Fin.ofNat 64 d))
def ckv (b : Fin 4) (q d : ℕ) : EReal := (m ((c : Thread nD τ).loc main_arg2) : S4x4096x512.Idx → EReal) (ix3 b (Fin.ofNat 4096 q) (Fin.ofNat 512 d))
def kr (b : Fin 4) (q d : ℕ) : EReal := (m ((c : Thread nD τ).loc main_arg3) : S4x4096x64.Idx → EReal) (ix3 b (Fin.ofNat 4096 q) (Fin.ofNat 64 d))
def wkv (h : Fin 8) (j n : ℕ) : EReal := (m ((c : Thread nD τ).loc main_arg4) : S1x512x2048.Idx → EReal) (ix3 0 (Fin.ofNat 512 j) (Fin.ofNat 2048 (256 * h.val + n)))
def gkn (d : ℕ) : EReal := (m ((c : Thread nD τ).loc main_arg5) : S1x128.Idx → EReal) (ix2 0 (Fin.ofNat 128 d))

/-- The cosines and the sines of the rotation. -/
def co (q j : ℕ) : EReal := (V m c main_v13 : S4096x32.Idx → EReal) (ix2 (Fin.ofNat 4096 q) (Fin.ofNat 32 j))
def si (q j : ℕ) : EReal := (V m c main_v14 : S4096x32.Idx → EReal) (ix2 (Fin.ofNat 4096 q) (Fin.ofNat 32 j))

/-- The rotation's factors, four times thirty-two columns. -/
def fac (q j : ℕ) : EReal := if j < 32 then co m c q j else if j < 64 then co m c q (j - 32) else if j < 96 then -si m c q (j - 64) else si m c q (j - 96)

/-- The query's rope part beside its halves exchanged. -/
def par (b : Fin 4) (h : Fin 8) (q j : ℕ) : EReal := if j < 64 then qr m c b h q j else if j < 96 then qr m c b h q (j - 64 + 32) else qr m c b h q (j - 96)

/-- The query the call reads. -/
def qq (b : Fin 4) (h : Fin 8) (q j : ℕ) : EReal := if j < 128 then qn m c b h q j * qs m c else par m c b h q (j - 128) * fac m c q (j - 128) * qs m c

theorem ofNat_val {n : ℕ} [NeZero n] (i : Fin n) : Fin.ofNat n i.val = i := Fin.ext (Nat.mod_eq_of_lt i.isLt)
theorem ofNat_mk {n : ℕ} [NeZero n] {a : ℕ} (h : a < n) : (⟨a, h⟩ : Fin n) = Fin.ofNat n a := Fin.ext (Nat.mod_eq_of_lt h).symm

theorem v24_at (b : Fin 4) (q : Fin 4096) (h : Fin 8) (d : Fin 128) :
    (V m c main_v24 (ix4 b q h d) : EReal) = qn m c b h q.val d.val * qs m c := by
  unfold qn qs
  rw [ofNat_val, ofNat_val, E_v24, E_v23, V_main_arg0]
  pointwise
  rfl

theorem v27_at (b : Fin 4) (q : Fin 4096) (h : Fin 8) (d : Fin 128) :
    (V m c main_v27 (ix4 b q h d) : EReal) = par m c b h q.val d.val := by
  have hd := d.isLt
  unfold par qr
  rw [ofNat_val, E_v27, E_v26, E_v25, V_main_arg1]
  pointwise
  have h3 : (ix4 b q h d 3 : ℕ) = d.val := rfl
  simp only [h3]
  by_cases h1 : d.val < 64
  · rw [dif_pos h1, if_pos h1]
    exact congrArg _ (congrArg (ix4 b q h) (ofNat_mk h1))
  · rw [dif_neg h1, if_neg h1]
    by_cases h2 : d.val < 96
    · rw [dif_pos (by omega), if_pos h2]
      exact congrArg _ (congrArg (ix4 b q h) (Fin.ext (show 32 + (d.val - 64) = (d.val - 64 + 32) % 64 by omega)))
    · rw [dif_neg (by omega), if_neg h2]
      exact congrArg _ (congrArg (ix4 b q h) (Fin.ext (show d.val - 64 - 32 = (d.val - 96) % 64 by omega)))

theorem v16_at (q : Fin 4096) (d : Fin 128) : (V m c main_v16 (ix2 q d) : EReal) = fac m c q.val d.val := by
  have hd := d.isLt
  unfold fac co si
  rw [ofNat_val, E_v16, E_v15]
  pointwise
  have h3 : (ix2 q d 1 : ℕ) = d.val := rfl
  simp only [h3]
  by_cases h1 : d.val < 32
  · rw [dif_pos h1, if_pos h1]
    exact congrArg _ (congrArg (ix2 q) (ofNat_mk h1))
  · rw [dif_neg h1, if_neg h1]
    by_cases h2 : d.val < 64
    · rw [dif_pos (by omega), if_pos h2]
      exact congrArg _ (congrArg (ix2 q) (Fin.ext (show d.val - 32 = (d.val - 32) % 32 by omega)))
    · rw [dif_neg (by omega), if_neg h2]
      by_cases h4 : d.val < 96
      · rw [dif_pos (by omega), if_pos h4]
        exact congrArg _ (congrArg _ (congrArg (ix2 q) (Fin.ext (show d.val - 32 - 32 = (d.val - 64) % 32 by omega))))
      · rw [dif_neg (by omega), if_neg h4]
        exact congrArg _ (congrArg (ix2 q) (Fin.ext (show d.val - 32 - 32 - 32 = (d.val - 96) % 32 by omega)))

theorem v19_at (q : Fin 4096) (d : Fin 128) : (V m c main_v19 (ix2 q d) : EReal) = fac m c q.val d.val := by
  rw [E_v19, E_v18, E_v17, ← v16_at]
  generalize V m c main_v16 = x
  refine (shapeCast_apply _ _ _ (ix4 0 q 0 d) ?_).trans ?_
  · rw [Shape.rowMajor_val_two, Shape.rowMajor_val_four]
    show ((0 * 4096 + q.val) * 1 + 0) * 128 + d.val = q.val * 128 + d.val
    omega
  refine (broadcastInDim_apply _ _ _ _ (ix4 0 q 0 d) fun a => match a with
    | ⟨0, _⟩ => rfl
    | ⟨1, _⟩ => rfl
    | ⟨2, _⟩ => rfl
    | ⟨3, _⟩ => rfl).trans ?_
  refine (shapeCast_apply _ _ _ (ix2 q d) ?_)
  rw [Shape.rowMajor_val_two, Shape.rowMajor_val_four]
  show q.val * 128 + d.val = ((0 * 4096 + q.val) * 1 + 0) * 128 + d.val
  omega

theorem v32_at (b : Fin 4) (q : Fin 4096) (h : Fin 8) (d : Fin 128) :
    (V m c main_v32 (ix4 b q h d) : EReal) = par m c b h q.val d.val * fac m c q.val d.val * qs m c := by
  rw [E_v32, E_v30, E_v31, E_v29, E_v28, ← v27_at, ← v19_at]
  pointwise
  rfl

theorem v33_at (b : Fin 4) (q : Fin 4096) (h : Fin 8) (j : Fin 256) :
    (V m c main_v33 (ix4 b q h j) : EReal) = qq m c b h q.val j.val := by
  have hj := j.isLt
  unfold qq
  rw [E_v33]
  pointwise
  have h3 : (ix4 b q h j 3 : ℕ) = j.val := rfl
  simp only [h3]
  by_cases h1 : j.val < 128
  · rw [dif_pos h1, if_pos h1]
    exact v24_at m c b q h ⟨j.val, h1⟩
  · rw [dif_neg h1, if_neg h1]
    exact v32_at m c b q h ⟨j.val - 128, by omega⟩

theorem v36_at (b : Fin 4) (q : Fin 4096) (n : Fin 2048) :
    (V m c main_v36 (ix3 b q n) : EReal) = qq m c b (Fin.ofNat 8 (n.val / 256)) q.val (n.val % 256) := by
  rw [E_v36, E_v35]
  refine (shapeCast_apply _ _ _ (ix4 b q (Fin.ofNat 8 (n.val / 256)) (Fin.ofNat 256 n.val)) ?_).trans ?_
  · have := n.isLt
    rw [Shape.rowMajor_val_three, Shape.rowMajor_val_four]
    show ((b.val * 4096 + q.val) * 8 + n.val / 256 % 8) * 256 + n.val % 256 = (b.val * 4096 + q.val) * 2048 + n.val
    omega
  · pointwise
    exact v33_at m c b q _ _

theorem v37_at (b : Fin 4) (q : Fin 4096) (j : Fin 512) : (V m c main_v37 (ix3 b q j) : EReal) = ckv m c b q.val j.val := by
  unfold ckv
  rw [ofNat_val, ofNat_val, E_v37, V_main_arg2]
  pointwise

theorem v39_at (j : Fin 512) (n : Fin 2048) : (V m c main_v39 (ix2 j n) : EReal) = wkv m c (Fin.ofNat 8 (n.val / 256)) j.val (n.val % 256) := by
  unfold wkv
  have hn : Fin.ofNat 2048 (256 * (Fin.ofNat 8 (n.val / 256)).val + n.val % 256) = n := Fin.ext (by
    have := n.isLt
    show (256 * (n.val / 256 % 8) + n.val % 256) % 2048 = n.val
    omega)
  rw [ofNat_val, hn, E_v39, E_v38, V_main_arg4]
  refine (shapeCast_apply _ _ _ (ix3 0 j n) ?_)
  rw [Shape.rowMajor_val_two, Shape.rowMajor_val_three]
  show (0 * 512 + j.val) * 2048 + n.val = j.val * 2048 + n.val
  omega

theorem v41_at (z : Fin 1) (d : Fin 128) : (V m c main_v41 (ix2 z d) : EReal) = gkn m c d.val := by
  unfold gkn
  rw [ofNat_val, E_v41, E_v40, V_main_arg5, Subsingleton.elim z 0]
  pointwise

theorem v34_at (b : Fin 4) (q : Fin 4096) (d : Fin 128) :
    (V m c main_v34 (ix3 b q d) : EReal) = if d.val < 64 then kr m c b q.val d.val else kr m c b q.val (d.val - 64) := by
  unfold kr
  rw [ofNat_val, E_v34, V_main_arg3]
  pointwise
  have h3 : (ix3 b q d 2 : ℕ) = d.val := rfl
  simp only [h3]
  by_cases h1 : d.val < 64
  · rw [dif_pos h1, if_pos h1]
    exact congrArg _ (congrArg (ix3 b q) (ofNat_mk h1))
  · rw [dif_neg h1, if_neg h1]
    exact congrArg _ (congrArg (ix3 b q) (ofNat_mk _))

/-- What a grid point reads: the sequence `b` and the head `h` of the entry arrays. -/
def data (b : Fin 4) (h : Fin 8) : Words.Data where
  Q := qq m c b h
  C := ckv m c b
  W := wkv m c h
  G := fun _ d => gkn m c d
  R := fun q d => if d < 64 then kr m c b q d else kr m c b q (d - 64)

/-! The windows at a grid point. -/

theorem index0 : ∀ t : Fin cfg0.N, win0_0.index t = ![t.val / 8, 0, t.val % 8] := by decide +kernel

theorem read0 (A : S4x4096x2048.Idx → EReal) (t : Fin cfg0.N) (j : S1x4096x256.Idx) :
    ((cfg0.win 0).blk t).view.read (Elt Ideal) A j = A (ix3 (Fin.ofNat 4 (t.val / 8)) (Fin.ofNat 4096 ((j 1).val)) (Fin.ofNat 2048 (256 * (t.val % 8) + (j 2).val))) := by
  have ht : t.val < 32 := t.isLt
  have j0 : (j 0).val < 1 := (j 0).isLt
  have j1 : (j 1).val < 4096 := (j 1).isLt
  have j2 : (j 2).val < 256 := (j 2).isLt
  show A (((cfg0.win 0).blk t).view.emb j) = _
  refine congrArg A ?_
  funext a
  refine Fin.ext ?_
  refine (win0_0.rect_emb_val t j a rfl).trans ?_
  rw [index0 t]
  match a with
  | ⟨0, _⟩ =>
    show (t.val / 8) * 1 + (j 0).val = (t.val / 8) % 4
    omega
  | ⟨1, _⟩ =>
    show (0) * 4096 + (j 1).val = ((j 1).val) % 4096
    omega
  | ⟨2, _⟩ =>
    show (t.val % 8) * 256 + (j 2).val = (256 * (t.val % 8) + (j 2).val) % 2048
    omega

theorem iblk0 (t : Fin cfg0.N) : iblk m c 0 t = ((cfg0.win 0).blk t).view.read (Elt Ideal) (V m c main_v36) := rfl

theorem index1 : ∀ t : Fin cfg0.N, win0_1.index t = ![t.val / 8, 0, 0] := by decide +kernel

theorem read1 (A : S4x4096x512.Idx → EReal) (t : Fin cfg0.N) (j : S1x4096x512.Idx) :
    ((cfg0.win 1).blk t).view.read (Elt Ideal) A j = A (ix3 (Fin.ofNat 4 (t.val / 8)) (Fin.ofNat 4096 ((j 1).val)) (Fin.ofNat 512 ((j 2).val))) := by
  have ht : t.val < 32 := t.isLt
  have j0 : (j 0).val < 1 := (j 0).isLt
  have j1 : (j 1).val < 4096 := (j 1).isLt
  have j2 : (j 2).val < 512 := (j 2).isLt
  show A (((cfg0.win 1).blk t).view.emb j) = _
  refine congrArg A ?_
  funext a
  refine Fin.ext ?_
  refine (win0_1.rect_emb_val t j a rfl).trans ?_
  rw [index1 t]
  match a with
  | ⟨0, _⟩ =>
    show (t.val / 8) * 1 + (j 0).val = (t.val / 8) % 4
    omega
  | ⟨1, _⟩ =>
    show (0) * 4096 + (j 1).val = ((j 1).val) % 4096
    omega
  | ⟨2, _⟩ =>
    show (0) * 512 + (j 2).val = ((j 2).val) % 512
    omega

theorem iblk1 (t : Fin cfg0.N) : iblk m c 1 t = ((cfg0.win 1).blk t).view.read (Elt Ideal) (V m c main_v37) := rfl

theorem index2 : ∀ t : Fin cfg0.N, win0_2.index t = ![0, t.val % 8] := by decide +kernel

theorem read2 (A : S512x2048.Idx → EReal) (t : Fin cfg0.N) (j : S512x256.Idx) :
    ((cfg0.win 2).blk t).view.read (Elt Ideal) A j = A (ix2 (Fin.ofNat 512 ((j 0).val)) (Fin.ofNat 2048 (256 * (t.val % 8) + (j 1).val))) := by
  have ht : t.val < 32 := t.isLt
  have j0 : (j 0).val < 512 := (j 0).isLt
  have j1 : (j 1).val < 256 := (j 1).isLt
  show A (((cfg0.win 2).blk t).view.emb j) = _
  refine congrArg A ?_
  funext a
  refine Fin.ext ?_
  refine (win0_2.rect_emb_val t j a rfl).trans ?_
  rw [index2 t]
  match a with
  | ⟨0, _⟩ =>
    show (0) * 512 + (j 0).val = ((j 0).val) % 512
    omega
  | ⟨1, _⟩ =>
    show (t.val % 8) * 256 + (j 1).val = (256 * (t.val % 8) + (j 1).val) % 2048
    omega

theorem iblk2 (t : Fin cfg0.N) : iblk m c 2 t = ((cfg0.win 2).blk t).view.read (Elt Ideal) (V m c main_v39) := rfl

theorem index3 : ∀ t : Fin cfg0.N, win0_3.index t = ![0, 0] := by decide +kernel

theorem read3 (A : S1x128.Idx → EReal) (t : Fin cfg0.N) (j : S1x128.Idx) :
    ((cfg0.win 3).blk t).view.read (Elt Ideal) A j = A (ix2 (Fin.ofNat 1 ((j 0).val)) (Fin.ofNat 128 ((j 1).val))) := by
  have ht : t.val < 32 := t.isLt
  have j0 : (j 0).val < 1 := (j 0).isLt
  have j1 : (j 1).val < 128 := (j 1).isLt
  show A (((cfg0.win 3).blk t).view.emb j) = _
  refine congrArg A ?_
  funext a
  refine Fin.ext ?_
  refine (win0_3.rect_emb_val t j a rfl).trans ?_
  rw [index3 t]
  match a with
  | ⟨0, _⟩ =>
    show (0) * 1 + (j 0).val = ((j 0).val) % 1
    omega
  | ⟨1, _⟩ =>
    show (0) * 128 + (j 1).val = ((j 1).val) % 128
    omega

theorem iblk3 (t : Fin cfg0.N) : iblk m c 3 t = ((cfg0.win 3).blk t).view.read (Elt Ideal) (V m c main_v41) := rfl

theorem index4 : ∀ t : Fin cfg0.N, win0_4.index t = ![t.val / 8, 0, 0] := by decide +kernel

theorem read4 (A : S4x4096x128.Idx → EReal) (t : Fin cfg0.N) (j : S1x4096x128.Idx) :
    ((cfg0.win 4).blk t).view.read (Elt Ideal) A j = A (ix3 (Fin.ofNat 4 (t.val / 8)) (Fin.ofNat 4096 ((j 1).val)) (Fin.ofNat 128 ((j 2).val))) := by
  have ht : t.val < 32 := t.isLt
  have j0 : (j 0).val < 1 := (j 0).isLt
  have j1 : (j 1).val < 4096 := (j 1).isLt
  have j2 : (j 2).val < 128 := (j 2).isLt
  show A (((cfg0.win 4).blk t).view.emb j) = _
  refine congrArg A ?_
  funext a
  refine Fin.ext ?_
  refine (win0_4.rect_emb_val t j a rfl).trans ?_
  rw [index4 t]
  match a with
  | ⟨0, _⟩ =>
    show (t.val / 8) * 1 + (j 0).val = (t.val / 8) % 4
    omega
  | ⟨1, _⟩ =>
    show (0) * 4096 + (j 1).val = ((j 1).val) % 4096
    omega
  | ⟨2, _⟩ =>
    show (0) * 128 + (j 2).val = ((j 2).val) % 128
    omega

theorem iblk4 (t : Fin cfg0.N) : iblk m c 4 t = ((cfg0.win 4).blk t).view.read (Elt Ideal) (V m c main_v34) := rfl

theorem inputs (t : Fin cfg0.N) :
    Words.Inputs (iblk m c 0 t) (iblk m c 1 t) (iblk m c 2 t) (iblk m c 3 t) (iblk m c 4 t) (data m c (Fin.ofNat 4 (t.val / 8)) (Fin.ofNat 8 t.val)) where
  q := by
    rw [iblk0]
    generalize hA : V m c main_v36 = A
    intro j
    have j1 : (j 1).val < 4096 := (j 1).isLt
    have j2 : (j 2).val < 256 := (j 2).isLt
    refine (read0 A t j).trans ?_
    rw [← hA, v36_at]
    show qq m c _ (Fin.ofNat 8 ((256 * (t.val % 8) + (j 2).val) % 2048 / 256)) ((j 1).val % 4096) ((256 * (t.val % 8) + (j 2).val) % 2048 % 256) = qq m c _ _ (j 1).val (j 2).val
    congr 1
    · exact Fin.ext (show (256 * (t.val % 8) + (j 2).val) % 2048 / 256 % 8 = t.val % 8 by omega)
    · omega
    · omega
  c := by
    rw [iblk1]
    generalize hA : V m c main_v37 = A
    intro j
    have j1 : (j 1).val < 4096 := (j 1).isLt
    have j2 : (j 2).val < 512 := (j 2).isLt
    refine (read1 A t j).trans ?_
    rw [← hA, v37_at]
    show ckv m c _ ((j 1).val % 4096) ((j 2).val % 512) = ckv m c _ (j 1).val (j 2).val
    rw [Nat.mod_eq_of_lt j1, Nat.mod_eq_of_lt j2]
  w := by
    rw [iblk2]
    generalize hA : V m c main_v39 = A
    intro j
    have j1 : (j 0).val < 512 := (j 0).isLt
    have j2 : (j 1).val < 256 := (j 1).isLt
    refine (read2 A t j).trans ?_
    rw [← hA, v39_at]
    show wkv m c (Fin.ofNat 8 ((256 * (t.val % 8) + (j 1).val) % 2048 / 256)) ((j 0).val % 512) ((256 * (t.val % 8) + (j 1).val) % 2048 % 256) = wkv m c _ (j 0).val (j 1).val
    congr 1
    · exact Fin.ext (show (256 * (t.val % 8) + (j 1).val) % 2048 / 256 % 8 = t.val % 8 by omega)
    · omega
    · omega
  g := by
    rw [iblk3]
    generalize hA : V m c main_v41 = A
    intro j
    have j2 : (j 1).val < 128 := (j 1).isLt
    refine (read3 A t j).trans ?_
    rw [← hA, v41_at]
    show gkn m c ((j 1).val % 128) = gkn m c (j 1).val
    rw [Nat.mod_eq_of_lt j2]
  r := by
    rw [iblk4]
    generalize hA : V m c main_v34 = A
    intro j
    have j1 : (j 1).val < 4096 := (j 1).isLt
    have j2 : (j 2).val < 128 := (j 2).isLt
    refine (read4 A t j).trans ?_
    rw [← hA, v34_at]
    show (if (j 2).val % 128 < 64 then kr m c _ ((j 1).val % 4096) ((j 2).val % 128) else kr m c _ ((j 1).val % 4096) ((j 2).val % 128 - 64)) =
      if (j 2).val < 64 then kr m c _ (j 1).val (j 2).val else kr m c _ (j 1).val ((j 2).val - 64)
    rw [Nat.mod_eq_of_lt j1, Nat.mod_eq_of_lt j2]

end Cert.Entry
-- ==== Proof.Result.lean ====
module

public import proofs.«01_k».proof.Proof.EntryAt

@[expose] public section

set_option maxRecDepth 16384

noncomputable section

/-! The array the call leaves, read at an index. -/

namespace Cert.Entry

open Idealize.ShloMosaic hiding ix0 ix1 ix2 ix3 ix4 ix5 eq_ix1 eq_ix2 eq_ix3 eq_ix4 eq_ix5
open Idealize.ShloMosaic.ValueIdx
open Idealize.ShloMosaic.TcCoe Cert.KernelIdeal Cert.KernelIdeal.Gen

variable (m : (ℓ : Loc nD τ sig) → Buf (Elt Ideal) ℓ) (c : Dev nD)

theorem index5 : ∀ t : Fin cfg0.N, win0_5.index t = ![t.val / 8, 0, t.val % 8] := by decide +kernel

theorem read5 (A : S4x4096x1024.Idx → EReal) (t : Fin cfg0.N) (j : S1x4096x128.Idx) :
    ((cfg0.win 5).blk t).view.read (Elt Ideal) A j = A (ix3 (Fin.ofNat 4 (t.val / 8)) (Fin.ofNat 4096 ((j 1).val)) (Fin.ofNat 1024 (128 * (t.val % 8) + (j 2).val))) := by
  have ht : t.val < 32 := t.isLt
  have j0 : (j 0).val < 1 := (j 0).isLt
  have j1 : (j 1).val < 4096 := (j 1).isLt
  have j2 : (j 2).val < 128 := (j 2).isLt
  show A (((cfg0.win 5).blk t).view.emb j) = _
  refine congrArg A ?_
  funext a
  refine Fin.ext ?_
  refine (win0_5.rect_emb_val t j a rfl).trans ?_
  rw [index5 t]
  match a with
  | ⟨0, _⟩ =>
    show (t.val / 8) * 1 + (j 0).val = (t.val / 8) % 4
    omega
  | ⟨1, _⟩ =>
    show (0) * 4096 + (j 1).val = ((j 1).val) % 4096
    omega
  | ⟨2, _⟩ =>
    show (t.val % 8) * 128 + (j 2).val = (128 * (t.val % 8) + (j 2).val) % 1024
    omega

theorem cut5 (t : Fin cfg0.N) (X : S1x4096x128.Idx → EReal) (j : S1x4096x128.Idx) :
    (cfg0.win 5).cut (grid0.coords t) X j = X j := rfl

theorem block5 (t : Fin cfg0.N) (j : S1x4096x128.Idx) :
    ((dats m 0 c).flushed 5 t : S1x4096x128.Idx → EReal) j = (data m c (Fin.ofNat 4 (t.val / 8)) (Fin.ofNat 8 t.val)).out (j 1).val (j 2).val := by
  rw [Value.flushed5_A]
  have h := Words.is_out (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := scM0_0) (harg8 := Memref.isWhole_whole _) (arg9 := scM0_1) (harg9 := Memref.isWhole_whole _) (arg10 := scM0_2) (harg10 := Memref.isWhole_whole _) (arg11 := scM0_3) (harg11 := Memref.isWhole_whole _) (arg12 := scM0_4) (harg12 := Memref.isWhole_whole _) (arg13 := scM0_5) (harg13 := Memref.isWhole_whole _) (inputs m c t)
  exact (cut5 t _ j).trans (h j)

theorem result (b : Fin 4) (q : Fin 4096) (n : Fin 1024) :
    ((dats m 0 c).arrAt 5 cfg0.N : S4x4096x1024.Idx → EReal) (ix3 b q n) = (data m c b (Fin.ofNat 8 (n.val / 128))).out q.val (n.val % 128) := by
  have hb := b.isLt
  have hn := n.isLt
  obtain ⟨t, ht⟩ : ∃ t : Fin cfg0.N, t.val = 8 * b.val + n.val / 128 := ⟨⟨8 * b.val + n.val / 128, by show _ < 32; omega⟩, rfl⟩
  have h := congrFun (Value.blocks5 m c t (flush0_5 t)) (ix3 0 q (Fin.ofNat 128 n.val))
  have h1 := read5 ((dats m 0 c).arrAt 5 cfg0.N) t (ix3 0 q (Fin.ofNat 128 n.val))
  have h2 := block5 m c t (ix3 0 q (Fin.ofNat 128 n.val))
  have e : (ix3 (Fin.ofNat 4 (t.val / 8)) (Fin.ofNat 4096 q.val) (Fin.ofNat 1024 (128 * (t.val % 8) + n.val % 128)) : S4x4096x1024.Idx) = ix3 b q n := by
    rw [ofNat_val]
    have e1 : Fin.ofNat 4 (t.val / 8) = b := Fin.ext (show t.val / 8 % 4 = b.val by omega)
    have e2 : Fin.ofNat 1024 (128 * (t.val % 8) + n.val % 128) = n := Fin.ext (show (128 * (t.val % 8) + n.val % 128) % 1024 = n.val by omega)
    rw [e1, e2]
  have e1 : Fin.ofNat 4 (t.val / 8) = b := Fin.ext (show t.val / 8 % 4 = b.val by omega)
  have e2 : Fin.ofNat 8 t.val = Fin.ofNat 8 (n.val / 128) := Fin.ext (show t.val % 8 = n.val / 128 % 8 by omega)
  rw [e1, e2] at h2
  exact (congrArg ((dats m 0 c).arrAt 5 cfg0.N : S4x4096x1024.Idx → EReal) e).symm.trans (h1.symm.trans (h.trans h2))

end Cert.Entry
-- ==== Proof.Soft.lean ====
module

public import proofs.«01_k».proof.Proof.Spec

@[expose] public section

noncomputable section

/-! Two ways to weigh values by the exponentials of their scores agree on real numbers. -/

namespace Cert.Soft

open Idealize.ShloMosaic Finset

theorem coe_sum (s : Finset ℕ) (f : ℕ → ℝ) : ((∑ i ∈ s, f i : ℝ) : EReal) = ∑ i ∈ s, (f i : EReal) := by
  induction s using Finset.induction_on with
  | empty => simp
  | insert a s h ih => rw [sum_insert h, sum_insert h, EReal.coe_add, ih]

theorem sup_real (s : Finset ℕ) (f : ℕ → EReal) (k : ℕ) (hk : k ∈ s) (r : ℝ) (hr : f k = r) (ht : ∀ i ∈ s, f i ≠ ⊤) : ∃ x : ℝ, s.sup f = x := by
  have h1 : s.sup f ≠ ⊤ := ne_of_lt ((Finset.sup_lt_iff bot_lt_top).2 fun i hi => lt_top_iff_ne_top.2 (ht i hi))
  have h2 : s.sup f ≠ ⊥ := by
    intro h
    have := Finset.le_sup (f := f) hk
    rw [h, hr] at this
    exact absurd (le_bot_iff.1 this) (EReal.coe_ne_bot r)
  exact ⟨_, (EReal.coe_toReal h1 h2).symm⟩

theorem div_real (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

section
variable {p : ℕ → Prop} [DecidablePred p]

/-- The sum of the weighted values over the admitted keys. -/
def num (p : ℕ → Prop) [DecidablePred p] (N : ℕ) (s v : ℕ → ℝ) : ℝ := ∑ k ∈ range N with p k, v k * Real.exp (s k)

/-- The sum of the weights over the admitted keys. -/
def den (p : ℕ → Prop) [DecidablePred p] (N : ℕ) (s : ℕ → ℝ) : ℝ := ∑ k ∈ range N with p k, Real.exp (s k)

theorem den_pos {N k : ℕ} (hk : k < N) (h : p k) (s : ℕ → ℝ) : 0 < den p N s :=
  sum_pos (fun _ _ => Real.exp_pos _) ⟨k, mem_filter.2 ⟨mem_range.2 hk, h⟩⟩

theorem filter_eq {n N : ℕ} (hn : n ≤ N) (hp : ∀ k < N, p k → k < n) : (range n).filter p = (range N).filter p := by
  ext k
  simp only [mem_filter, mem_range]
  exact ⟨fun h => ⟨by omega, h.2⟩, fun h => ⟨hp k h.1 h.2, h.2⟩⟩

theorem sum_weights {n : ℕ} {s v : ℕ → ℝ} {e : ℝ} {V E : ℕ → EReal} (hV : ∀ k < n, V k = v k) (hE : ∀ k < n, E k = ((if p k then Real.exp (s k) * e else 0 : ℝ) : EReal)) :
    ∑ k ∈ range n, V k * E k = ((num p n s v * e : ℝ) : EReal) := by
  have : ∑ k ∈ range n, V k * E k = ∑ k ∈ range n, ((v k * (if p k then Real.exp (s k) * e else 0) : ℝ) : EReal) :=
    sum_congr rfl fun k hk => by rw [hV k (mem_range.1 hk), hE k (mem_range.1 hk), EReal.coe_mul]
  rw [this, ← coe_sum]
  congr 1
  unfold num
  rw [sum_filter, sum_mul]
  refine sum_congr rfl fun k _ => ?_
  split_ifs <;> ring

theorem exp2_real (s x : ℝ) : Ideal.exp2 (((s / Real.log 2 : ℝ) : EReal) - (x : EReal)) = ((Real.exp s * Real.exp (-(Real.log 2 * x)) : ℝ) : EReal) := by
  rw [← EReal.coe_sub]
  show ((Real.rpow 2 (s / Real.log 2 - x) : ℝ) : EReal) = _
  congr 1
  show (2 : ℝ) ^ (s / Real.log 2 - x) = _
  have hl : Real.log 2 ≠ 0 := (Real.log_pos (by norm_num)).ne'
  rw [Real.rpow_def_of_pos (by norm_num), ← Real.exp_add]
  congr 1
  field_simp
  ring

theorem exp_real (s x : ℝ) : Ideal.exp ((s : EReal) - (x : EReal)) = ((Real.exp s * Real.exp (-x) : ℝ) : EReal) := by
  rw [← EReal.coe_sub]
  show ((Real.exp (s - x) : ℝ) : EReal) = _
  congr 1
  rw [← Real.exp_add]
  congr 1

theorem kernel_side {n N k0 : ℕ} (hn : n ≤ N) (hp : ∀ k < N, p k → k < n) (hk : k0 < N) (h0 : p k0) {s v : ℕ → ℝ} {T V W : ℕ → EReal}
    (hT : ∀ k < n, T k = if p k then ((s k / Real.log 2 : ℝ) : EReal) else ⊥) (hV : ∀ k < n, V k = v k) (hW : ∀ k < n, W k = 1) :
    Ideal.div (∑ k ∈ range n, V k * Ideal.exp2 (T k - (range n).sup T)) (∑ k ∈ range n, W k * Ideal.exp2 (T k - (range n).sup T))
      = ((num p N s v / den p N s : ℝ) : EReal) := by
  have hk0 := hp k0 hk h0
  obtain ⟨x, hx⟩ := sup_real (range n) T k0 (mem_range.2 hk0) (s k0 / Real.log 2) (by rw [hT k0 hk0, if_pos h0]) (fun i hi => by
    rw [hT i (mem_range.1 hi)]
    split_ifs
    · exact EReal.coe_ne_top _
    · exact bot_ne_top)
  rw [hx]
  have hE : ∀ k < n, Ideal.exp2 (T k - (x : EReal)) = ((if p k then Real.exp (s k) * Real.exp (-(Real.log 2 * x)) else 0 : ℝ) : EReal) := by
    intro k hk
    rw [hT k hk]
    split_ifs
    · exact exp2_real _ _
    · rw [EReal.bot_sub]
      rfl
  rw [sum_weights hV hE, sum_weights (v := fun _ => 1) (fun k hk => by rw [hW k hk]; rfl) hE]
  have e1 : num p n s v = num p N s v := by unfold num; rw [filter_eq hn hp]
  have e2 : num p n s (fun _ => 1) = den p N s := by unfold num den; rw [filter_eq hn hp]; simp
  have hd := den_pos hk h0 s
  have he := Real.exp_pos (-(Real.log 2 * x))
  rw [e1, e2, div_real _ _ (mul_pos hd he).ne', mul_div_mul_right _ _ he.ne']

theorem reference_side {N k0 : ℕ} (hk : k0 < N) (h0 : p k0) {s v : ℕ → ℝ} {T V : ℕ → EReal}
    (hT : ∀ k < N, T k = if p k then (s k : EReal) else ⊥) (hV : ∀ k < N, V k = v k) :
    ∑ k ∈ range N, V k * Ideal.div (Ideal.exp (T k - (range N).sup T)) (∑ k ∈ range N, Ideal.exp (T k - (range N).sup T))
      = ((num p N s v / den p N s : ℝ) : EReal) := by
  obtain ⟨x, hx⟩ := sup_real (range N) T k0 (mem_range.2 hk) (s k0) (by rw [hT k0 hk, if_pos h0]) (fun i hi => by
    rw [hT i (mem_range.1 hi)]
    split_ifs
    · exact EReal.coe_ne_top _
    · exact bot_ne_top)
  rw [hx]
  have hE : ∀ k < N, Ideal.exp (T k - (x : EReal)) = ((if p k then Real.exp (s k) * Real.exp (-x) else 0 : ℝ) : EReal) := by
    intro k hk
    rw [hT k hk]
    split_ifs
    · exact exp_real _ _
    · rw [EReal.bot_sub]
      rfl
  have hd := den_pos hk h0 s
  have he := Real.exp_pos (-x)
  have hs : ∑ k ∈ range N, Ideal.exp (T k - (x : EReal)) = ((den p N s * Real.exp (-x) : ℝ) : EReal) := by
    have := sum_weights (p := p) (n := N) (s := s) (v := fun _ => 1) (e := Real.exp (-x)) (V := fun _ => 1) (fun k hk => rfl) hE
    simp only [one_mul] at this
    rw [this]
    unfold num den
    simp
  rw [hs]
  have hq : ∀ k < N, Ideal.div (Ideal.exp (T k - (x : EReal))) ((den p N s * Real.exp (-x) : ℝ) : EReal) = ((if p k then Real.exp (s k) * (den p N s)⁻¹ else 0 : ℝ) : EReal) := by
    intro k hk
    rw [hE k hk, div_real _ _ (mul_pos hd he).ne']
    congr 1
    split_ifs
    · rw [mul_div_mul_right _ _ he.ne', div_eq_mul_inv]
    · exact zero_div _
  rw [sum_weights hV hq, div_eq_mul_inv]

end

end Cert.Soft
-- ==== Proof.RefAt.lean ====
module

public import proofs.«01_k».proof.Proof.Spec
public import proofs.«01_k».proof.Proof.Gen.ReferenceIdeal.Read
public import Idealize.ShloMosaic.Lib.Pipeline.ValueKit

@[expose] public section

set_option maxRecDepth 16384

noncomputable section

/-! The reference read at an index. -/

namespace Cert.RefAt

open Idealize.ShloMosaic hiding ix0 ix1 ix2 ix3 ix4 ix5 eq_ix1 eq_ix2 eq_ix3 eq_ix4 eq_ix5
open Idealize.ShloMosaic.ValueIdx
open Cert.ReferenceIdeal Cert.ReferenceIdeal.Gen Cert.ReferenceIdeal.Read

/-- What the reference's arguments hold at one sequence `b` and one head `h`. -/
structure Args (x0 : S4x4096x8x128.Idx → EReal) (x1 : S4x4096x8x64.Idx → EReal) (x2 : S4x4096x512.Idx → EReal) (x3 : S4x4096x64.Idx → EReal)
    (x4 : S1x512x2048.Idx → EReal) (x5 : S1x128.Idx → EReal) (b : Fin 4) (h : Fin 8) (D : Words.Data) (q0 q1 r : ℕ → ℕ → EReal) : Prop where
  h0 : ∀ (q : Fin 4096) (d : Fin 128), x0 (ix4 b q h d) = q0 q.val d.val
  h1 : ∀ (q : Fin 4096) (d : Fin 64), x1 (ix4 b q h d) = q1 q.val d.val
  h2 : ∀ (q : Fin 4096) (j : Fin 512), x2 (ix3 b q j) = D.C q.val j.val
  h3 : ∀ (q : Fin 4096) (d : Fin 64), x3 (ix3 b q d) = r q.val d.val
  h4 : ∀ (j : Fin 512) (n : Fin 256), x4 (ix3 0 j ⟨256 * h.val + n.val, by omega⟩) = D.W j.val n.val
  h5 : ∀ d : Fin 128, x5 (ix2 0 d) = D.G 0 d.val

/-- The cosines and the sines of the rotation. -/
def co (q j : ℕ) : EReal := (val_main_v13 (F := Ideal) : S4096x32.Idx → EReal) (ix2 (Fin.ofNat 4096 q) (Fin.ofNat 32 j))
def si (q j : ℕ) : EReal := (val_main_v15 (F := Ideal) : S4096x32.Idx → EReal) (ix2 (Fin.ofNat 4096 q) (Fin.ofNat 32 j))

/-- The rotated query. -/
def rot (q1 : ℕ → ℕ → EReal) (q j : ℕ) : EReal :=
  if j < 32 then q1 q j * co q j - q1 q (j + 32) * si q j else q1 q j * co q (j - 32) + q1 q (j - 32) * si q (j - 32)

/-- The scale of the scores. -/
def sc : EReal := (val_main_v53 (F := Ideal) : S_.Idx → EReal) ix0

/-- The score of a query against a key, and the same where the mask admits it. -/
def score (D : Words.Data) (q0 q1 r : ℕ → ℕ → EReal) (q k : ℕ) : EReal :=
  (∑ d ∈ Finset.range 128, q0 q d * D.KN k d + ∑ j ∈ Finset.range 64, r k j * rot q1 q j) * sc
def masked (D : Words.Data) (q0 q1 r : ℕ → ℕ → EReal) (q k : ℕ) : EReal := if k / 64 ≤ q / 64 then score D q0 q1 r q k else ⊥
def weight (D : Words.Data) (q0 q1 r : ℕ → ℕ → EReal) (q k : ℕ) : EReal :=
  Ideal.exp (masked D q0 q1 r q k - (Finset.range 4096).sup (masked D q0 q1 r q))
def out (D : Words.Data) (q0 q1 r : ℕ → ℕ → EReal) (q d : ℕ) : EReal :=
  ∑ k ∈ Finset.range 4096, D.A k (128 + d) * Ideal.div (weight D q0 q1 r q k) (∑ k ∈ Finset.range 4096, weight D q0 q1 r q k)

variable {x0 : S4x4096x8x128.Idx → EReal} {x1 : S4x4096x8x64.Idx → EReal} {x2 : S4x4096x512.Idx → EReal} {x3 : S4x4096x64.Idx → EReal}
    {x4 : S1x512x2048.Idx → EReal} {x5 : S1x128.Idx → EReal} {b : Fin 4} {h : Fin 8} {D : Words.Data} {q0 q1 r : ℕ → ℕ → EReal}

theorem v33_at (H : Args x0 x1 x2 x3 x4 x5 b h D q0 q1 r) (k : Fin 4096) (n : Fin 256) :
    (val_main_v33 (F := Ideal) x2 x4 (ix4 b k h n) : EReal) = D.A k.val n.val := by
  have hb := b.isLt
  have hk := k.isLt
  have hh := h.isLt
  have hn := n.isLt
  have e : idx_main_v33 (ix4 b k h n) = ix3 b k ⟨256 * h.val + n.val, by omega⟩ := by
    funext a
    match a with
    | ⟨0, _⟩ => exact Fin.ext (show (((b.val * 4096 + k.val) * 8 + h.val) * 256 + n.val) / 8388608 = b.val by omega)
    | ⟨1, _⟩ => exact Fin.ext (show (((b.val * 4096 + k.val) * 8 + h.val) * 256 + n.val) / 2048 % 4096 = k.val by omega)
    | ⟨2, _⟩ => exact Fin.ext (show (((b.val * 4096 + k.val) * 8 + h.val) * 256 + n.val) % 2048 = 256 * h.val + n.val by omega)
  rw [val_main_v33_apply, e, val_main_v32_apply]
  unfold Words.Data.A
  rw [Finset.sum_range]
  refine Finset.sum_congr rfl fun j _ => ?_
  rw [← H.h2, ← H.h4]
  congr 1
  · refine congrArg x2 (funext fun a => ?_)
    match a with
    | ⟨0, _⟩ => rfl
    | ⟨1, _⟩ => rfl
    | ⟨2, _⟩ => rfl
  · rw [val_main_v30_apply]
    refine congrArg x4 (funext fun a => ?_)
    have hj := j.isLt
    match a with
    | ⟨0, _⟩ => rfl
    | ⟨1, _⟩ => exact Fin.ext (show (j.val * 2048 + (256 * h.val + n.val)) / 2048 % 512 = j.val by omega)
    | ⟨2, _⟩ => exact Fin.ext (show (j.val * 2048 + (256 * h.val + n.val)) % 2048 = 256 * h.val + n.val by omega)

theorem v34_at (H : Args x0 x1 x2 x3 x4 x5 b h D q0 q1 r) (k : Fin 4096) (n : Fin 128) :
    (val_main_v34 (F := Ideal) x2 x4 (ix4 b k h n) : EReal) = D.A k.val n.val := by
  rw [val_main_v34_apply]
  refine Eq.trans (congrArg _ (funext fun a => ?_)) (v33_at H k ⟨n.val, by omega⟩)
  match a with
  | ⟨0, _⟩ => exact Fin.ext (by simp [ix4])
  | ⟨1, _⟩ => exact Fin.ext (by simp [ix4])
  | ⟨2, _⟩ => exact Fin.ext (by simp [ix4])
  | ⟨3, _⟩ => exact Fin.ext (by simp [ix4])

theorem v48_at (H : Args x0 x1 x2 x3 x4 x5 b h D q0 q1 r) (k : Fin 4096) (n : Fin 128) :
    (val_main_v48 (F := Ideal) x2 x4 (ix4 b k h n) : EReal) = D.A k.val (128 + n.val) := by
  rw [val_main_v48_apply]
  refine Eq.trans (congrArg _ (funext fun a => ?_)) (v33_at H k ⟨128 + n.val, by omega⟩)
  match a with
  | ⟨0, _⟩ => exact Fin.ext (by simp [ix4])
  | ⟨1, _⟩ => exact Fin.ext (by simp [ix4])
  | ⟨2, _⟩ => exact Fin.ext (by simp [ix4])
  | ⟨3, _⟩ => exact Fin.ext (by simp [ix4])

theorem v36_at (H : Args x0 x1 x2 x3 x4 x5 b h D q0 q1 r) (k : Fin 4096) :
    (val_main_v36 (F := Ideal) x2 x4 (ix3 b k h) : EReal) = ∑ j ∈ Finset.range 128, D.A k.val j * D.A k.val j := by
  rw [val_main_v36_apply, Finset.sum_range]
  have hz : (val_main_cst_1 (F := Ideal) (Shape.Idx.first h_S_) : EReal) = 0 := by
    rw [val_main_cst_1_apply]
    exact Ideal.ofBits_zero_f32
  rw [hz, zero_add]
  refine Finset.sum_congr rfl fun j _ => ?_
  rw [val_main_v35_apply]
  have e : idx_main_v36 (ix3 b k h) j = ix4 b k h j := by
    funext a
    match a with
    | ⟨0, _⟩ => rfl
    | ⟨1, _⟩ => rfl
    | ⟨2, _⟩ => rfl
    | ⟨3, _⟩ => rfl
  rw [e, v34_at H]
  rfl

theorem v47_at (H : Args x0 x1 x2 x3 x4 x5 b h D q0 q1 r) (k : Fin 4096) (d : Fin 128) :
    (val_main_v47 (F := Ideal) x2 x4 x5 (ix4 b k h d) : EReal) = D.KN k.val d.val := by
  rw [val_main_v47_apply, val_main_v44_apply, v34_at H, val_main_v43_apply, val_main_v42_apply, val_main_v41_apply, val_main_v39_apply, val_main_v37_apply,
    val_main_v38_apply, val_main_v40_apply, val_main_v46_apply, val_main_v45_apply, val_main_v31_apply, val_main_cst_2_apply, val_main_cst_3_apply]
  unfold Words.Data.KN
  rw [← v36_at H, ← H.h5]
  have e1 : idx_main_v37 (idx_main_v43 (ix4 b k h d)) = ix3 b k h := by
    funext a
    match a with
    | ⟨0, _⟩ => rfl
    | ⟨1, _⟩ => rfl
    | ⟨2, _⟩ => rfl
  have e2 : idx_main_v31 (idx_main_v45 (idx_main_v46 (ix4 b k h d))) = ix2 0 d := by
    funext a
    match a with
    | ⟨0, _⟩ => rfl
    | ⟨1, _⟩ => exact Fin.ext (show d.val % 128 = d.val from Nat.mod_eq_of_lt d.isLt)
  rw [e1, e2]
  rfl

theorem v29_at (H : Args x0 x1 x2 x3 x4 x5 b h D q0 q1 r) (q : Fin 4096) (j : Fin 64) :
    (val_main_v29 (F := Ideal) x1 (ix4 b q h j) : EReal) = rot q1 q.val j.val := by
  have hq := q.isLt
  have c14 (j : Fin 32) : (val_main_v14 (F := Ideal) (ix4 0 q 0 j) : EReal) = co q.val j.val := by
    rw [val_main_v14_apply]
    refine congrArg _ (funext fun a => ?_)
    have hj := j.isLt
    match a with
    | ⟨0, _⟩ => exact Fin.ext (show _ / 32 = q.val % 4096 by simp [ix4]; omega)
    | ⟨1, _⟩ => exact Fin.ext (show _ % 32 = j.val % 32 by simp [ix4])
  have c16 (j : Fin 32) : (val_main_v16 (F := Ideal) (ix4 0 q 0 j) : EReal) = si q.val j.val := by
    rw [val_main_v16_apply]
    refine congrArg _ (funext fun a => ?_)
    have hj := j.isLt
    match a with
    | ⟨0, _⟩ => exact Fin.ext (show _ / 32 = q.val % 4096 by simp [ix4]; omega)
    | ⟨1, _⟩ => exact Fin.ext (show _ % 32 = j.val % 32 by simp [ix4])
  have c17 (j : Fin 32) : (val_main_v17 (F := Ideal) x1 (ix4 b q h j) : EReal) = q1 q.val j.val := by
    rw [val_main_v17_apply, ← H.h1 q ⟨j.val, by omega⟩]
    refine congrArg _ (funext fun a => ?_)
    match a with
    | ⟨0, _⟩ => exact Fin.ext (by simp [ix4])
    | ⟨1, _⟩ => exact Fin.ext (by simp [ix4])
    | ⟨2, _⟩ => exact Fin.ext (by simp [ix4])
    | ⟨3, _⟩ => exact Fin.ext (by simp [ix4])
  have c18 (j : Fin 32) : (val_main_v18 (F := Ideal) x1 (ix4 b q h j) : EReal) = q1 q.val (j.val + 32) := by
    rw [val_main_v18_apply, ← H.h1 q ⟨j.val + 32, by omega⟩]
    refine congrArg _ (funext fun a => ?_)
    match a with
    | ⟨0, _⟩ => exact Fin.ext (by simp [ix4])
    | ⟨1, _⟩ => exact Fin.ext (by simp [ix4])
    | ⟨2, _⟩ => exact Fin.ext (by simp [ix4])
    | ⟨3, _⟩ => exact Fin.ext (by simp [ix4]; omega)
  have e19 (j : Fin 32) : idx_main_v19 (ix4 b q h j) = ix4 0 q 0 j := by
    funext a
    match a with
    | ⟨0, _⟩ => rfl
    | ⟨1, _⟩ => rfl
    | ⟨2, _⟩ => rfl
    | ⟨3, _⟩ => rfl
  have c23 (j : Fin 32) : (val_main_v23 (F := Ideal) x1 (ix4 b q h j) : EReal) = q1 q.val j.val * co q.val j.val - q1 q.val (j.val + 32) * si q.val j.val := by
    rw [val_main_v23_apply, val_main_v20_apply, val_main_v22_apply, val_main_v19_apply, val_main_v21_apply, c17, c18, ← c14, ← c16, ← e19]
    rfl
  have c28 (j : Fin 32) : (val_main_v28 (F := Ideal) x1 (ix4 b q h j) : EReal) = q1 q.val (j.val + 32) * co q.val j.val + q1 q.val j.val * si q.val j.val := by
    rw [val_main_v28_apply, val_main_v25_apply, val_main_v27_apply, val_main_v24_apply, val_main_v26_apply, c17, c18, ← c14, ← c16, ← e19]
    rfl
  unfold val_main_v29 rot
  pointwise
  have h3 : (ix4 b q h j 3 : ℕ) = j.val := rfl
  simp only [h3]
  by_cases h1 : j.val < 32
  · rw [dif_pos h1, if_pos h1]
    exact c23 ⟨j.val, h1⟩
  · rw [dif_neg h1, if_neg h1]
    refine (c28 ⟨j.val - 32, by omega⟩).trans ?_
    show q1 q.val (j.val - 32 + 32) * _ + _ = _
    rw [Nat.sub_add_cancel (by omega)]

theorem v55_at (H : Args x0 x1 x2 x3 x4 x5 b h D q0 q1 r) (q k : Fin 4096) :
    (val_main_v55 (F := Ideal) x0 x1 x2 x3 x4 x5 (ix4 b h q k) : EReal) = score D q0 q1 r q.val k.val := by
  rw [val_main_v55_apply, val_main_v52_apply, val_main_v49_apply, val_main_v51_apply, val_main_v50_apply, val_main_v54_apply]
  unfold score sc
  rw [Finset.sum_range, Finset.sum_range]
  have e1 : ∑ d : Fin 128, x0 (lidx_main_v49 (ix4 b h q k) d) * val_main_v47 (F := Ideal) x2 x4 x5 (ridx_main_v49 (ix4 b h q k) d) = ∑ d : Fin 128, q0 q.val d.val * D.KN k.val d.val := by
    refine Finset.sum_congr rfl fun d _ => ?_
    rw [← H.h0, ← v47_at H]
    congr 2
    · funext a
      match a with
      | ⟨0, _⟩ => rfl
      | ⟨1, _⟩ => rfl
      | ⟨2, _⟩ => rfl
      | ⟨3, _⟩ => rfl
    · funext a
      match a with
      | ⟨0, _⟩ => rfl
      | ⟨1, _⟩ => rfl
      | ⟨2, _⟩ => rfl
      | ⟨3, _⟩ => rfl
  have e2 : ∑ j : Fin 64, x3 (lidx_main_v50 (idx_main_v51 (ix4 b h q k)) j) * val_main_v29 (F := Ideal) x1 (ridx_main_v50 (idx_main_v51 (ix4 b h q k)) j) = ∑ j : Fin 64, r k.val j.val * rot q1 q.val j.val := by
    refine Finset.sum_congr rfl fun d _ => ?_
    rw [← H.h3, ← v29_at H]
    congr 2
    · funext a
      match a with
      | ⟨0, _⟩ => rfl
      | ⟨1, _⟩ => rfl
      | ⟨2, _⟩ => rfl
    · funext a
      match a with
      | ⟨0, _⟩ => rfl
      | ⟨1, _⟩ => rfl
      | ⟨2, _⟩ => rfl
      | ⟨3, _⟩ => rfl
  rw [e1, e2]
  congr 1

end Cert.RefAt
-- ==== Proof.RefOut.lean ====
module

public import proofs.«01_k».proof.Proof.RefAt

@[expose] public section

set_option maxRecDepth 16384

noncomputable section

/-! The reference's mask, its softmax, and its result, read at an index. -/

namespace Cert.RefAt

open Idealize.ShloMosaic hiding ix0 ix1 ix2 ix3 ix4 ix5 eq_ix1 eq_ix2 eq_ix3 eq_ix4 eq_ix5
open Idealize.ShloMosaic.ValueIdx
open Cert.ReferenceIdeal Cert.ReferenceIdeal.Gen Cert.ReferenceIdeal.Read

/-- The quotient by 64 that rounds down, of a word, as the reference computes it. -/
def quot (x : BitVec 32) : BitVec 32 :=
  Scalar.select (IntOp.andi (IntOp.cmpi .ne (if x = 0 then (0 : BitVec 32) else if x.msb then -1 else 1) (if (64#32 : BitVec 32) = 0 then 0 else if (64#32 : BitVec 32).msb then -1 else 1))
    (IntOp.cmpi .ne (IntOp.remsi .host x 64#32) 0#32)) (IntOp.subi (IntOp.divsi .host x 64#32) 1#32) (IntOp.divsi .host x 64#32)

theorem quot_eq : ∀ i : Fin 4096, quot (BitVec.ofNat 32 i.val) = BitVec.ofNat 32 (i.val / 64) := by decide +kernel

theorem sle_eq : ∀ a b : Fin 64, IntOp.cmpi .sle (BitVec.ofNat 32 a.val) (BitVec.ofNat 32 b.val) = if a.val ≤ b.val then 1#1 else 0#1 := by decide +kernel

theorem v57_at (k : Fin 4096) : (val_main_v57 (F := Ideal) (ix2 0 k) : BitVec 32) = BitVec.ofNat 32 (k.val / 64) := by
  rw [← quot_eq k]
  rw [val_main_v57_apply, val_main_call0_v11_apply, val_main_call0_v13_apply, val_main_call0_v6_apply, val_main_call0_v10_apply, val_main_call0_v2_apply, val_main_call0_v8_apply, val_main_call0_v5_apply,
    val_main_call0_v1_apply, val_main_call0_v7_apply, val_main_call0_v9_apply, val_main_call0_v12_apply]
  unfold val_main_call0_v3 val_main_call0_v4 signi
  simp only [val_main_call0_v0_apply, val_main_c_apply, val_main_v56_apply, val_main_v0_apply, val_main_call0_c_apply, val_main_call0_c_0_apply]
  rfl

theorem v59_at (q : Fin 4096) : (val_main_v59 (F := Ideal) (ix2 q 0) : BitVec 32) = BitVec.ofNat 32 (q.val / 64) := by
  rw [← quot_eq q]
  rw [val_main_v59_apply, val_main_call1_v11_apply, val_main_call1_v13_apply, val_main_call1_v6_apply, val_main_call1_v10_apply, val_main_call1_v2_apply, val_main_call1_v8_apply, val_main_call1_v5_apply,
    val_main_call1_v1_apply, val_main_call1_v7_apply, val_main_call1_v9_apply, val_main_call1_v12_apply]
  unfold val_main_call1_v3 val_main_call1_v4 signi
  simp only [val_main_call1_v0_apply, val_main_c_6_apply, val_main_v58_apply, val_main_v0_apply, val_main_call1_c_apply, val_main_call1_c_0_apply]
  rfl

theorem mask_at (b : Fin 4) (h : Fin 8) (q k : Fin 4096) : (val_main_call2_v1 (F := Ideal) (ix4 b h q k) : BitVec 1) = if k.val / 64 ≤ q.val / 64 then 1#1 else 0#1 := by
  have hq := q.isLt
  have hk := k.isLt
  rw [val_main_call2_v1_apply, val_main_v63_apply, val_main_v62_apply, val_main_v60_apply, val_main_v61_apply]
  have e1 : idx_main_v60 (idx_main_v63 (idx_main_call2_v1 (ix4 b h q k))) = ix2 0 k := by
    funext a
    match a with
    | ⟨0, _⟩ => rfl
    | ⟨1, _⟩ => rfl
  have e2 : idx_main_v61 (idx_main_v63 (idx_main_call2_v1 (ix4 b h q k))) = ix2 q 0 := by
    funext a
    match a with
    | ⟨0, _⟩ => rfl
    | ⟨1, _⟩ => rfl
  rw [e1, e2, v57_at, v59_at]
  exact sle_eq ⟨k.val / 64, by omega⟩ ⟨q.val / 64, by omega⟩

theorem bot_eq : (FloatOps.ofBits (F := Ideal) .f32 0xFF800000#32 : EReal) = ⊥ := by
  show Ideal.ofBits .f32 0xFF800000#32 = ⊥
  simp [Ideal.ofBits, Ideal.ieee]

variable {x0 : S4x4096x8x128.Idx → EReal} {x1 : S4x4096x8x64.Idx → EReal} {x2 : S4x4096x512.Idx → EReal} {x3 : S4x4096x64.Idx → EReal}
    {x4 : S1x512x2048.Idx → EReal} {x5 : S1x128.Idx → EReal} {b : Fin 4} {h : Fin 8} {D : Words.Data} {q0 q1 r : ℕ → ℕ → EReal}

theorem v64_at (H : Args x0 x1 x2 x3 x4 x5 b h D q0 q1 r) (q k : Fin 4096) :
    (val_main_v64 (F := Ideal) x0 x1 x2 x3 x4 x5 (ix4 b h q k) : EReal) = masked D q0 q1 r q.val k.val := by
  rw [val_main_v64_apply, mask_at, v55_at H, val_main_call2_v2_apply, val_main_call2_v0_apply, val_main_cst_7_apply, bot_eq]
  unfold masked Scalar.select
  by_cases hm : k.val / 64 ≤ q.val / 64
  · rw [if_pos hm, if_pos hm, if_pos (by decide)]
  · rw [if_neg hm, if_neg hm, if_neg (by decide)]

theorem v65_at (H : Args x0 x1 x2 x3 x4 x5 b h D q0 q1 r) (q : Fin 4096) :
    (val_main_v65 (F := Ideal) x0 x1 x2 x3 x4 x5 (ix3 b h q) : EReal) = (Finset.range 4096).sup (masked D q0 q1 r q.val) := by
  unfold val_main_v65
  have hv := v64_at H q
  generalize val_main_v64 (F := Ideal) x0 x1 x2 x3 x4 x5 = v at hv
  have hc : (val_main_cst_8 (F := Ideal) (Shape.Idx.first h_S_) : EReal) = ⊥ := by rw [val_main_cst_8_apply, bot_eq]
  generalize val_main_cst_8 (F := Ideal) = w at hc
  pointwise
  rw [hc]
  have e (k : Fin 4096) : v (Idealize.ShloMosaic.ix4 (ix3 b h q 0) (ix3 b h q 1) (ix3 b h q 2) k) = masked D q0 q1 r q.val k.val := hv k
  show Finset.univ.sup (fun k : Fin 4096 => (v (Idealize.ShloMosaic.ix4 (ix3 b h q 0) (ix3 b h q 1) (ix3 b h q 2) k) : EReal)) = _
  refine le_antisymm (Finset.sup_le fun k _ => ?_) (Finset.sup_le fun k hk => ?_)
  · rw [e]
    exact Finset.le_sup (f := masked D q0 q1 r q.val) (Finset.mem_range.2 k.isLt)
  · have h2 := e ⟨k, Finset.mem_range.1 hk⟩
    rw [← h2]
    exact Finset.le_sup (f := fun k : Fin 4096 => (v (Idealize.ShloMosaic.ix4 (ix3 b h q 0) (ix3 b h q 1) (ix3 b h q 2) k) : EReal)) (Finset.mem_univ _)

theorem v67_at (H : Args x0 x1 x2 x3 x4 x5 b h D q0 q1 r) (q : Fin 4096) :
    (val_main_v67 (F := Ideal) x0 x1 x2 x3 x4 x5 (ix3 b h q) : EReal) = (Finset.range 4096).sup (masked D q0 q1 r q.val) := by
  rw [val_main_v67_apply, v65_at H, val_main_v66_apply, val_main_cst_9_apply, bot_eq]
  exact max_eq_right bot_le

theorem v71_at (H : Args x0 x1 x2 x3 x4 x5 b h D q0 q1 r) (q k : Fin 4096) :
    (val_main_v71 (F := Ideal) x0 x1 x2 x3 x4 x5 (ix4 b h q k) : EReal) = weight D q0 q1 r q.val k.val := by
  rw [val_main_v71_apply, val_main_v70_apply, v64_at H, val_main_v69_apply, val_main_v68_apply]
  have e : idx_main_v68 (idx_main_v69 (ix4 b h q k)) = ix3 b h q := by
    funext a
    match a with
    | ⟨0, _⟩ => rfl
    | ⟨1, _⟩ => rfl
    | ⟨2, _⟩ => rfl
  rw [e, v67_at H]
  rfl

theorem v72_at (H : Args x0 x1 x2 x3 x4 x5 b h D q0 q1 r) (q : Fin 4096) :
    (val_main_v72 (F := Ideal) x0 x1 x2 x3 x4 x5 (ix3 b h q) : EReal) = ∑ k ∈ Finset.range 4096, weight D q0 q1 r q.val k := by
  rw [val_main_v72_apply, Finset.sum_range]
  have hz : (val_main_cst_10 (F := Ideal) (Shape.Idx.first h_S_) : EReal) = 0 := by
    rw [val_main_cst_10_apply]
    exact Ideal.ofBits_zero_f32
  rw [hz, zero_add]
  refine Finset.sum_congr rfl fun k _ => ?_
  rw [← v71_at H]
  refine congrArg _ (funext fun a => ?_)
  match a with
  | ⟨0, _⟩ => rfl
  | ⟨1, _⟩ => rfl
  | ⟨2, _⟩ => rfl
  | ⟨3, _⟩ => rfl

theorem v75_at (H : Args x0 x1 x2 x3 x4 x5 b h D q0 q1 r) (q k : Fin 4096) :
    (val_main_v75 (F := Ideal) x0 x1 x2 x3 x4 x5 (ix4 b h q k) : EReal)
      = Ideal.div (weight D q0 q1 r q.val k.val) (∑ k ∈ Finset.range 4096, weight D q0 q1 r q.val k) := by
  rw [val_main_v75_apply, v71_at H, val_main_v74_apply, val_main_v73_apply]
  have e : idx_main_v73 (idx_main_v74 (ix4 b h q k)) = ix3 b h q := by
    funext a
    match a with
    | ⟨0, _⟩ => rfl
    | ⟨1, _⟩ => rfl
    | ⟨2, _⟩ => rfl
  rw [e, v72_at H]
  rfl

/-- The reference's result. -/
theorem v79_at (H : Args x0 x1 x2 x3 x4 x5 b h D q0 q1 r) (q : Fin 4096) (d : Fin 128) (n : Fin 1024) (hn : n.val = 128 * h.val + d.val) :
    (val_main_v79 (F := Ideal) x0 x1 x2 x3 x4 x5 (ix3 b q n) : EReal) = out D q0 q1 r q.val d.val := by
  have hb := b.isLt
  have hq := q.isLt
  have hh := h.isLt
  have hd := d.isLt
  have e : idx_main_v78 (ix3 b q n) = ix4 b q h d := by
    funext a
    match a with
    | ⟨0, _⟩ => exact Fin.ext (show ((b.val * 4096 + q.val) * 1024 + n.val) / 4194304 = b.val by omega)
    | ⟨1, _⟩ => exact Fin.ext (show ((b.val * 4096 + q.val) * 1024 + n.val) / 1024 % 4096 = q.val by omega)
    | ⟨2, _⟩ => exact Fin.ext (show ((b.val * 4096 + q.val) * 1024 + n.val) / 128 % 8 = h.val by omega)
    | ⟨3, _⟩ => exact Fin.ext (show ((b.val * 4096 + q.val) * 1024 + n.val) % 128 = d.val by omega)
  rw [val_main_v79_apply, val_main_v78_apply, e, val_main_v77_apply, val_main_v76_apply]
  unfold out
  rw [Finset.sum_range]
  refine Finset.sum_congr rfl fun k _ => ?_
  rw [← v75_at H, ← v48_at H]
  congr 2
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl

end Cert.RefAt
-- ==== Proof.Match.lean ====
module

public import proofs.«01_k».proof.Proof.Soft
public import proofs.«01_k».proof.Proof.RefOut

@[expose] public section

set_option maxRecDepth 16384

noncomputable section

/-! The kernel's words and the reference's, of finite arguments, are the same real numbers. -/

namespace Cert.Match

open Idealize.ShloMosaic
open Finset (range)

/-- The kernel's query and key agree with the reference's before the rotation, each of them a real number. -/
structure Agree (D : Words.Data) (q0 q1 r : ℕ → ℕ → EReal) (qs : EReal) : Prop where
  hC : ∀ k j, ∃ x : ℝ, D.C k j = x
  hW : ∀ k j, ∃ x : ℝ, D.W k j = x
  hG : ∀ k j, ∃ x : ℝ, D.G k j = x
  h0 : ∀ k j, ∃ x : ℝ, q0 k j = x
  h1 : ∀ k j, ∃ x : ℝ, q1 k j = x
  hr : ∀ k j, ∃ x : ℝ, r k j = x
  hco : ∀ k j, ∃ x : ℝ, RefAt.co k j = x
  hsi : ∀ k j, ∃ x : ℝ, RefAt.si k j = x
  hs : ∃ s : ℝ, RefAt.sc = s ∧ qs = ((s / Real.log 2 : ℝ) : EReal)
  hQ : ∀ q j, D.Q q j = if j < 128 then q0 q j * qs else
    (if j - 128 < 64 then q1 q (j - 128) else if j - 128 < 96 then q1 q (j - 128 - 64 + 32) else q1 q (j - 128 - 96))
      * (if j - 128 < 32 then RefAt.co q (j - 128) else if j - 128 < 64 then RefAt.co q (j - 128 - 32) else if j - 128 < 96 then -RefAt.si q (j - 128 - 64) else RefAt.si q (j - 128 - 96)) * qs
  hR : ∀ q d, D.R q d = if d < 64 then r q d else r q (d - 64)

theorem sum_256 (f : ℕ → ℝ) : ∑ j ∈ range 256, f j = ∑ j ∈ range 128, f j + ∑ j ∈ range 32, (f (128 + j) + (f (128 + (32 + j)) + (f (128 + (32 + (32 + j))) + f (128 + (32 + (32 + (32 + j))))))) := by
  rw [Finset.sum_add_distrib, Finset.sum_add_distrib, Finset.sum_add_distrib, ← Finset.sum_range_add (fun j => f (128 + (32 + (32 + j)))), ← Finset.sum_range_add (fun j => f (128 + (32 + j))),
    ← Finset.sum_range_add (fun j => f (128 + j)), ← Finset.sum_range_add f]

theorem sum_64 (f : ℕ → ℝ) : ∑ j ∈ range 64, f j = ∑ j ∈ range 32, (f j + f (32 + j)) := by
  rw [Finset.sum_add_distrib, ← Finset.sum_range_add f]

/-- The scaled product of a query and a key, the rotation done in the four quarters. -/
theorem dot_eq (kn rk q0 q1 co si : ℕ → ℝ) (t : ℝ) :
    (∑ j ∈ range 256, (if j < 128 then kn j else if j - 128 < 64 then rk (j - 128) else rk (j - 128 - 64)) * (if j < 128 then q0 j * t else
      (if j - 128 < 64 then q1 (j - 128) else if j - 128 < 96 then q1 (j - 128 - 64 + 32) else q1 (j - 128 - 96))
        * (if j - 128 < 32 then co (j - 128) else if j - 128 < 64 then co (j - 128 - 32) else if j - 128 < 96 then -si (j - 128 - 64) else si (j - 128 - 96)) * t))
    = (∑ d ∈ range 128, q0 d * kn d + ∑ j ∈ range 64, rk j * (if j < 32 then q1 j * co j - q1 (j + 32) * si j else q1 j * co (j - 32) + q1 (j - 32) * si (j - 32))) * t := by
  rw [sum_256, sum_64, add_mul, Finset.sum_mul, Finset.sum_mul]
  congr 1
  · refine Finset.sum_congr rfl fun j hj => ?_
    have := Finset.mem_range.1 hj
    rw [if_pos this, if_pos this]
    ring
  · refine Finset.sum_congr rfl fun j hj => ?_
    have := Finset.mem_range.1 hj
    have n1 : ¬ 128 + j < 128 := by omega
    have n2 : ¬ 128 + (32 + j) < 128 := by omega
    have n3 : ¬ 128 + (32 + (32 + j)) < 128 := by omega
    have n4 : ¬ 128 + (32 + (32 + (32 + j))) < 128 := by omega
    have s1 : 128 + j - 128 = j := by omega
    have s2 : 128 + (32 + j) - 128 = 32 + j := by omega
    have s3 : 128 + (32 + (32 + j)) - 128 = 64 + j := by omega
    have s4 : 128 + (32 + (32 + (32 + j))) - 128 = 96 + j := by omega
    have a1 : j < 64 := by omega
    have a2 : 32 + j < 64 := by omega
    have a3 : ¬ 64 + j < 64 := by omega
    have a4 : ¬ 96 + j < 64 := by omega
    have b2 : ¬ 32 + j < 32 := by omega
    have b3 : ¬ 64 + j < 32 := by omega
    have b4 : ¬ 96 + j < 32 := by omega
    have c3 : 64 + j < 96 := by omega
    have c4 : ¬ 96 + j < 96 := by omega
    have d3 : 64 + j - 64 = j := by omega
    have d4 : 96 + j - 64 = 32 + j := by omega
    have d5 : 96 + j - 96 = j := by omega
    have d6 : 32 + j - 32 = j := by omega
    have d7 : j + 32 = 32 + j := by omega
    simp only [n1, n2, n3, n4, s1, s2, s3, s4, this, a1, a2, a3, a4, b2, b3, b4, c3, c4, d3, d4, d5, d6, d7, if_true, if_false]
    ring

theorem eps_real : ∃ e : ℝ, 0 < e ∧ Ideal.ofBits .f32 897988541#32 = e := by
  refine ⟨8796093 * 2 ^ (-43 : ℤ), by positivity, ?_⟩
  simp [Ideal.ofBits, Ideal.ieee]

theorem n128_real : Ideal.ofBits .f32 1124073472#32 = ((128 : ℝ) : EReal) := by
  simp only [Ideal.ofBits, Ideal.ieee]
  simp
  rw [← EReal.coe_mul]
  norm_num

theorem one_real : Ideal.ofBits .bf16 16256#16 = 1 := by
  simp only [Ideal.ofBits, Ideal.ieee]
  simp
  rw [← EReal.coe_mul]
  norm_num

theorem rsqrt_real {x : ℝ} (h : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (not_lt.2 h.le), if_neg h.ne']

variable {D : Words.Data} {q0 q1 r : ℕ → ℕ → EReal} {qs : EReal}

theorem A_real (H : Agree D q0 q1 r qs) (k n : ℕ) : ∃ x : ℝ, D.A k n = x := by
  choose c hc using H.hC
  choose w hw using H.hW
  refine ⟨∑ j ∈ range 512, c k j * w j n, ?_⟩
  unfold Words.Data.A
  rw [Soft.coe_sum]
  refine Finset.sum_congr rfl fun j _ => ?_
  rw [hc, hw, EReal.coe_mul]

theorem KN_real (H : Agree D q0 q1 r qs) (k n : ℕ) : ∃ x : ℝ, D.KN k n = x := by
  choose a ha using A_real H
  obtain ⟨g, hg⟩ := H.hG 0 n
  obtain ⟨e, he, h⟩ := eps_real
  have hsum : ∑ j ∈ range 128, D.A k j * D.A k j = ((∑ j ∈ range 128, a k j * a k j : ℝ) : EReal) := by
    rw [Soft.coe_sum]
    refine Finset.sum_congr rfl fun j _ => ?_
    rw [ha, EReal.coe_mul]
  have hpos : 0 ≤ ∑ j ∈ range 128, a k j * a k j := Finset.sum_nonneg fun j _ => mul_self_nonneg _
  refine ⟨a k n * (Real.sqrt ((∑ j ∈ range 128, a k j * a k j) / 128 + e))⁻¹ * g, ?_⟩
  unfold Words.Data.KN
  rw [hsum, n128_real, Soft.div_real (∑ j ∈ range 128, a k j * a k j) 128 (by norm_num), h, ← EReal.coe_add, rsqrt_real (by positivity), ha, hg, ← EReal.coe_mul, ← EReal.coe_mul]

/-- One query's scores as the reference has them, and the kernel's after its change of base. -/
theorem scores (H : Agree D q0 q1 r qs) (Q : ℕ) : ∃ s : ℕ → ℝ, (∀ k, RefAt.score D q0 q1 r Q k = s k)
    ∧ ∀ k, ∑ j ∈ range 256, D.K k j * D.Q Q j = ((s k / Real.log 2 : ℝ) : EReal) := by
  choose kn hkn using KN_real H
  choose a0 h0 using H.h0
  choose a1 h1 using H.h1
  choose rk hr using H.hr
  choose co hco using H.hco
  choose si hsi using H.hsi
  obtain ⟨s, hs, hqs⟩ := H.hs
  refine ⟨fun k => (∑ d ∈ range 128, a0 Q d * kn k d + ∑ j ∈ range 64, rk k j * (if j < 32 then a1 Q j * co Q j - a1 Q (j + 32) * si Q j else a1 Q j * co Q (j - 32) + a1 Q (j - 32) * si Q (j - 32))) * s, fun k => ?_, fun k => ?_⟩
  · unfold RefAt.score RefAt.rot
    rw [hs, EReal.coe_mul, EReal.coe_add, Soft.coe_sum, Soft.coe_sum]
    congr 2
    · refine Finset.sum_congr rfl fun j _ => ?_
      rw [h0, hkn, EReal.coe_mul]
    · refine Finset.sum_congr rfl fun j _ => ?_
      rw [hr, h1, h1, h1, hco, hco, hsi, hsi, EReal.coe_mul]
      congr 1
      split_ifs <;> push_cast <;> rfl
  · rw [mul_div_assoc, ← dot_eq, Soft.coe_sum]
    refine Finset.sum_congr rfl fun j _ => ?_
    rw [H.hQ, EReal.coe_mul]
    congr 1
    · unfold Words.Data.K
      rw [H.hR, hkn, hr, hr]
      split_ifs <;> rfl
    · rw [hqs, h0, h1, h1, h1, hco, hco, hsi, hsi]
      split_ifs <;> push_cast <;> rfl

/-- The kernel's result is the reference's. -/
theorem same (H : Agree D q0 q1 r qs) (Q d : ℕ) (hQ : Q < 4096) (hd : d < 128) : D.out Q d = RefAt.out D q0 q1 r Q d := by
  obtain ⟨s, hs, hs2⟩ := scores H Q
  choose a ha using A_real H
  have hq : 256 * (Q / 256) + Q % 256 = Q := by omega
  have e1 : D.out Q d = ((Soft.num (fun k => k / 64 ≤ Q / 64) 4096 s (fun k => a k (128 + d)) / Soft.den (fun k => k / 64 ≤ Q / 64) 4096 s : ℝ) : EReal) := by
    unfold Words.Data.out Words.Data.outB Words.Data.acc Words.Data.E Words.Data.mx
    refine Soft.kernel_side (p := fun k => k / 64 ≤ Q / 64) (k0 := Q) (s := s) (v := fun k => a k (128 + d)) (by omega) (fun k _ (h : k / 64 ≤ Q / 64) => by omega) hQ le_rfl
      (fun k hk => ?_) (fun k _ => ?_) (fun k _ => ?_)
    · unfold Words.Data.T Words.Data.S
      rw [hq]
      by_cases h : 256 * (Q / 256) ≤ k
      · rw [if_pos h, show 256 * (Q / 256) + (k - 256 * (Q / 256)) = k by omega, hs2]
        unfold Words.Data.M
        by_cases hp : k / 64 ≤ Q / 64
        · rw [if_pos hp, if_pos (by omega), add_zero]
        · rw [if_neg hp, if_neg (by omega), EReal.add_bot]
      · rw [if_neg h, hs2, if_pos (by omega)]
    · unfold Words.Data.V
      rw [if_pos hd, ha]
    · unfold Words.Data.V
      rw [if_neg (by omega), one_real]
  rw [e1]
  symm
  unfold RefAt.out RefAt.weight
  refine Soft.reference_side (p := fun k => k / 64 ≤ Q / 64) (k0 := Q) (s := s) (v := fun k => a k (128 + d)) hQ le_rfl (fun k _ => ?_) (fun k _ => ha k (128 + d))
  unfold RefAt.masked
  rw [hs]

end Cert.Match
-- ==== Proof.Final.lean ====
module

public import proofs.«01_k».proof.Pre_finite
public import proofs.«01_k».proof.Proof.Result
public import proofs.«01_k».proof.Proof.Match

@[expose] public section

set_option maxRecDepth 16384

noncomputable section

/-! The kernel's result array is the reference's, of finite arguments. -/

namespace Cert.Final

open Idealize.ShloMosaic hiding ix0 ix1 ix2 ix3 ix4 ix5 eq_ix1 eq_ix2 eq_ix3 eq_ix4 eq_ix5
open Idealize.ShloMosaic.ValueIdx
open Idealize.ShloMosaic.TcCoe Cert.KernelIdeal Cert.KernelIdeal.Gen
open Cert.ReferenceIdeal.Read

/-! The rotation's angles, and the scale, are real numbers. -/

theorem top_eq : Ideal.ofBits .f32 0x7F800000#32 = ⊤ := by
  simp [Ideal.ofBits, Ideal.ieee]

theorem n32_real : Ideal.ofBits .f32 0x42000000#32 = ((32 : ℝ) : EReal) := by
  simp only [Ideal.ofBits, Ideal.ieee]
  simp
  rw [← EReal.coe_mul]
  norm_num

theorem n192_real : Ideal.ofBits .f32 0x43400000#32 = ((192 : ℝ) : EReal) := by
  simp only [Ideal.ofBits, Ideal.ieee]
  simp
  rw [← EReal.coe_mul]
  norm_num

theorem two_real : Ideal.ofBits .f32 0x40000000#32 = ((2 : ℝ) : EReal) := by
  simp only [Ideal.ofBits, Ideal.ieee]
  simp
  rw [← EReal.coe_mul]
  norm_num

theorem half_real : ∃ x : ℝ, Ideal.ofBits .f32 0xBF000000#32 = x := ⟨_, by simp only [Ideal.ofBits, Ideal.ieee]; rfl⟩

theorem base_real : ∃ x : ℝ, Ideal.ofBits .f32 0x461C4000#32 = x := ⟨_, by simp only [Ideal.ofBits, Ideal.ieee]; rfl⟩

theorem pow_real (x y : ℝ) : ∃ z : ℝ, Ideal.pow (x : EReal) (y : EReal) = z := ⟨_, rfl⟩

theorem v6_real (i) : ∃ x : ℝ, (val_main_v6 (F := Ideal) i : EReal) = x := by
  obtain ⟨b, hb⟩ := base_real
  have h1 : ∃ x : ℝ, (val_main_v1 (F := Ideal) i : EReal) = x := ⟨_, rfl⟩
  obtain ⟨n, hn⟩ := h1
  have h3 : (val_main_v3 (F := Ideal) i : EReal) = ((n / 32 : ℝ) : EReal) := by
    rw [val_main_v3_apply, val_main_v2_apply, val_main_cst_apply, hn]
    show Ideal.div (n : EReal) (Ideal.ofBits .f32 0x42000000#32) = _
    rw [n32_real, Soft.div_real n 32 (by norm_num)]
  have h4 : (val_main_v4 (F := Ideal) i : EReal) = ((-(n / 32) : ℝ) : EReal) := by
    rw [val_main_v4_apply, h3]
    rfl
  rw [val_main_v6_apply, val_main_v5_apply, val_main_cst_0_apply, h4]
  show ∃ x : ℝ, Ideal.pow (Ideal.ofBits .f32 0x461C4000#32) ((-(n / 32) : ℝ) : EReal) = x
  rw [hb]
  exact pow_real _ _

theorem v12_real (i) : ∃ x : ℝ, (val_main_v12 (F := Ideal) i : EReal) = x := by
  rw [val_main_v12_apply, val_main_v10_apply, val_main_v8_apply, val_main_v7_apply, val_main_v11_apply, val_main_v9_apply]
  obtain ⟨y, hy⟩ := v6_real (idx_main_v9 (idx_main_v11 i))
  have h7 : ∃ x : ℝ, (FloatOps.sitofp (F := Ideal) .f32 (val_main_v0 (F := Ideal) (idx_main_v8 (idx_main_v10 i))) : EReal) = x := ⟨_, rfl⟩
  obtain ⟨x, hx⟩ := h7
  rw [hx, hy]
  exact ⟨x * y, (EReal.coe_mul x y).symm⟩

theorem co_real (q j : ℕ) : ∃ x : ℝ, RefAt.co q j = x := by
  unfold RefAt.co
  rw [val_main_v13_apply]
  obtain ⟨x, hx⟩ := v12_real (ix2 (Fin.ofNat 4096 q) (Fin.ofNat 32 j))
  rw [hx]
  exact ⟨Real.cos x, rfl⟩

theorem si_real (q j : ℕ) : ∃ x : ℝ, RefAt.si q j = x := by
  unfold RefAt.si
  rw [val_main_v15_apply]
  obtain ⟨x, hx⟩ := v12_real (ix2 (Fin.ofNat 4096 q) (Fin.ofNat 32 j))
  rw [hx]
  exact ⟨Real.sin x, rfl⟩

theorem sc_real : ∃ x : ℝ, RefAt.sc = x := by
  obtain ⟨h, hh⟩ := half_real
  unfold RefAt.sc
  rw [val_main_v53_apply, val_main_cst_4_apply, val_main_cst_5_apply]
  show ∃ x : ℝ, Ideal.pow (Ideal.ofBits .f32 0x43400000#32) (Ideal.ofBits .f32 0xBF000000#32) = x
  rw [n192_real, hh]
  exact pow_real _ _

variable (m : (ℓ : Loc nD τ sig) → Buf (Elt Ideal) ℓ) (c : Dev nD)

theorem v12_eq : V m c main_v12 = val_main_v12 (F := Ideal) := by
  rw [Entry.E_v12, Entry.E_v11, Entry.E_v10, Entry.E_v9, Entry.E_v8, Entry.E_v7, Entry.E_v6, Entry.E_v5, Entry.E_cst_0, Entry.E_v4, Entry.E_v3, Entry.E_v2, Entry.E_cst, Entry.E_v1, Entry.E_v0]
  rfl

theorem co_eq : Entry.co m c = RefAt.co := by
  unfold Entry.co RefAt.co
  rw [Entry.E_v13, v12_eq]
  rfl

theorem si_eq : Entry.si m c = RefAt.si := by
  unfold Entry.si RefAt.si
  rw [Entry.E_v14, v12_eq]
  rfl

theorem qs_eq {s : ℝ} (hs : RefAt.sc = s) : Entry.qs m c = ((s / Real.log 2 : ℝ) : EReal) := by
  have h : Entry.qs m c = Ideal.div RefAt.sc (Ideal.log (Ideal.ofBits .f32 0x40000000#32)) := by
    unfold Entry.qs RefAt.sc
    rw [Entry.E_v22, Entry.E_v21, Entry.E_v20, Entry.E_cst_1, Entry.E_cst_2, Entry.E_cst_3]
    rfl
  have hl : Ideal.log ((2 : ℝ) : EReal) = ((Real.log 2 : ℝ) : EReal) := by
    show (if (2 : ℝ) ≤ 0 then ⊥ else ((Real.log 2 : ℝ) : EReal)) = _
    rw [if_neg (by norm_num)]
  rw [h, hs, two_real, hl, Soft.div_real s (Real.log 2) (Real.log_pos (by norm_num)).ne']

/-- What the precondition says of an argument's element. -/
theorem real_of {s : Shape} (x : FVec Ideal s .f32) (y : FVec Ideal s .f32) (hy : ∀ i, (y i : EReal) = ⊤) (h : cmpf .olt (Host.absf x) y = fun _ => 1#1) (i : s.Idx) :
    ∃ r : ℝ, (x i : EReal) = r := by
  have h1 : Ideal.cmp .olt (max (x i : EReal) (-(x i : EReal))) (y i) = 1#1 := congrFun h i
  rw [hy] at h1
  have h2 : max (x i : EReal) (-(x i : EReal)) < ⊤ := by
    by_contra hn
    simp [Ideal.cmp, hn] at h1
  refine ⟨(x i : EReal).toReal, (EReal.coe_toReal (fun e => ?_) (fun e => ?_)).symm⟩
  · rw [e] at h2
    simp at h2
  · rw [e] at h2
    simp at h2

/-- Every element of every argument is a real number. -/
structure Reals : Prop where
  r0 : ∀ i : S4x4096x8x128.Idx, ∃ r : ℝ, ((m ((c : Thread nD τ).loc main_arg0) : S4x4096x8x128.Idx → EReal) i : EReal) = (r : EReal)
  r1 : ∀ i : S4x4096x8x64.Idx, ∃ r : ℝ, ((m ((c : Thread nD τ).loc main_arg1) : S4x4096x8x64.Idx → EReal) i : EReal) = (r : EReal)
  r2 : ∀ i : S4x4096x512.Idx, ∃ r : ℝ, ((m ((c : Thread nD τ).loc main_arg2) : S4x4096x512.Idx → EReal) i : EReal) = (r : EReal)
  r3 : ∀ i : S4x4096x64.Idx, ∃ r : ℝ, ((m ((c : Thread nD τ).loc main_arg3) : S4x4096x64.Idx → EReal) i : EReal) = (r : EReal)
  r4 : ∀ i : S1x512x2048.Idx, ∃ r : ℝ, ((m ((c : Thread nD τ).loc main_arg4) : S1x512x2048.Idx → EReal) i : EReal) = (r : EReal)
  r5 : ∀ i : S1x128.Idx, ∃ r : ℝ, ((m ((c : Thread nD τ).loc main_arg5) : S1x128.Idx → EReal) i : EReal) = (r : EReal)

variable {m c}

theorem agree (H : Reals m c) (b : Fin 4) (h : Fin 8) : Match.Agree (Entry.data m c b h) (Entry.qn m c b h) (Entry.qr m c b h) (Entry.kr m c b) (Entry.qs m c) where
  hC k j := H.r2 _
  hW k j := H.r4 _
  hG k j := H.r5 _
  h0 k j := H.r0 _
  h1 k j := H.r1 _
  hr k j := H.r3 _
  hco := co_real
  hsi := si_real
  hs := by
    obtain ⟨s, hs⟩ := sc_real
    exact ⟨s, hs, qs_eq m c hs⟩
  hQ q j := by
    rw [← co_eq m c, ← si_eq m c]
    rfl
  hR q d := rfl

variable (m c)

theorem args (b : Fin 4) (h : Fin 8) : RefAt.Args (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) b h (Entry.data m c b h) (Entry.qn m c b h) (Entry.qr m c b h) (Entry.kr m c b) where
  h0 q d := by
    unfold Entry.qn
    rw [Entry.ofNat_val, Entry.ofNat_val]
  h1 q d := by
    unfold Entry.qr
    rw [Entry.ofNat_val, Entry.ofNat_val]
  h2 q d := by
    show _ = Entry.ckv m c b q.val d.val
    unfold Entry.ckv
    rw [Entry.ofNat_val, Entry.ofNat_val]
  h3 q d := by
    unfold Entry.kr
    rw [Entry.ofNat_val, Entry.ofNat_val]
  h4 j n := by
    show _ = Entry.wkv m c h j.val n.val
    unfold Entry.wkv
    rw [Entry.ofNat_val, Entry.ofNat_mk]
  h5 d := by
    show _ = Entry.gkn m c d.val
    unfold Entry.gkn
    rw [Entry.ofNat_val]

variable {m c}

theorem result_eq (H : Reals m c) : ((dats m 0 c).arrAt 5 cfg0.N : S4x4096x1024.Idx → EReal)
    = val_main_v79 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) := by
  funext i
  rw [eq_ix3 i]
  generalize hb : i 0 = b
  generalize hq : i 1 = q
  generalize hn : i 2 = n
  have hlt : (n : Fin 1024).val < 1024 := n.isLt
  refine (Entry.result m c b q n).trans ((Match.same (agree H b (Fin.ofNat 8 (n.val / 128))) q.val (n.val % 128) q.isLt (Nat.mod_lt _ (by norm_num))).trans
    (RefAt.v79_at (args m c b (Fin.ofNat 8 (n.val / 128))) q ⟨n.val % 128, Nat.mod_lt _ (by norm_num)⟩ n ?_).symm)
  show n.val = 128 * (n.val / 128 % 8) + n.val % 128
  omega

end Cert.Final
-- ==== Proof.FfnPoint.lean ====
module

public import proofs.«01_k».proof.Proof.Basic
public import proofs.«01_k».proof.Proof.Gen.FfnIdeal.Value

@[expose] public section

set_option maxRecDepth 16384

noncomputable section

/-! The feed-forward part as functions of natural coordinates, and what one grid point computes of it. -/

namespace Cert.Feed

open Idealize.ShloMosaic hiding ix0 ix1 ix2 ix3 ix4 ix5 eq_ix1 eq_ix2 eq_ix3 eq_ix4 eq_ix5
open Idealize.ShloMosaic.ValueIdx
open Cert.Words Cert.FfnIdeal Cert.FfnIdeal.Gen

/-- The operands: rows, gain of the norm, weights up, weights down. -/
structure Data where
  /-- rows -/
  H : ℕ → ℕ → EReal
  /-- gain -/
  G : ℕ → EReal
  /-- weights up -/
  U : ℕ → ℕ → EReal
  /-- weights down -/
  W : ℕ → ℕ → EReal

namespace Data

variable (D : Data)

/-- the normed rows -/
def N (r j : ℕ) : EReal :=
  D.H r j * Ideal.rsqrt (Ideal.div (∑ j ∈ Finset.range 2048, D.H r j * D.H r j) (Ideal.ofBits .f32 0x45000000#32) + Ideal.ofBits .f32 0x358637BD#32) * D.G j
/-- what the square is taken of -/
def R (r f : ℕ) : EReal := max (∑ j ∈ Finset.range 2048, D.N r j * D.U j f) (Ideal.ofBits .f32 0x00000000#32)
/-- the rows with the first `k` columns of the hidden layer added -/
def out (k r n : ℕ) : EReal := D.H r n + ∑ f ∈ Finset.range k, D.R r f * D.R r f * D.W f n

theorem out_add (k l r n : ℕ) : D.out k r n + ∑ f ∈ Finset.range l, D.R r (k + f) * D.R r (k + f) * D.W (k + f) n = D.out (k + l) r n := by
  unfold out
  rw [Finset.sum_range_add, add_assoc]

theorem out_zero (r n : ℕ) : D.out 0 r n = D.H r n := by
  unfold out
  rw [Finset.sum_range_zero, add_zero]

end Data

variable {D : Data} {n m : ℕ} {f g : ℕ → ℕ → EReal}

theorem is2_maximumf {φ : FTy} {v w : FVec Ideal ⟨2, ![n, m]⟩ φ} (hv : Is2 v f) (hw : Is2 w g) :
    Is2 (maximumf v w) (fun a b => max (f a b) (g a b)) := fun j => by
  show max (v j : EReal) (w j) = _; rw [hv j, hw j]

/-! ### The stages -/

/-- The normed rows of a block. -/
theorem normed {o : ℕ} {h : Vec Ideal S1024x2048 .f32} {w : Vec Ideal S1x2048 .f32} (hh : Is2 (n := 1024) (m := 2048) h fun a b => D.H (o + a) b)
    (hw : Is2 (n := 1) (m := 2048) w fun _ b => D.G b) : Is2 (n := 1024) (m := 2048) (k0_pay2 h w) fun a b => D.N (o + a) b := by
  have hs : Is2 (n := 1024) (m := 2048) (k0_pay1 h) fun a b => D.H (o + a) b := by
    unfold k0_pay1; exact is2_self hh _
  unfold k0_pay2
  exact is2_truncf (φ := .f32) (ψ := .bf16) (is2_mulf (φ := .f32) (is2_mulf (φ := .f32) hs (is2_bcastCol (is2_rsqrt (φ := .f32) (is2_addf (φ := .f32) (is2_divf (φ := .f32)
    (is2_col (is1_rowSum (is2_mulf (φ := .f32) hs hs) _ _ _) _) (is2_broadcast _)) (is2_broadcast _))) _)) (is2_bcastRow (is2_self hw _) _)) _

/-- One block of the hidden layer, times its weights down. -/
theorem hidden {o p : ℕ} {x : FVec Ideal S1024x2048 .bf16} {u : Vec Ideal S2048x1024 .bf16} {d : Vec Ideal S1024x2048 .bf16}
    (hx : Is2 (n := 1024) (m := 2048) x fun a b => D.N (o + a) b) (hu : Is2 (n := 2048) (m := 1024) u fun a b => D.U a (p + b))
    (hd : Is2 (n := 1024) (m := 2048) d fun a b => D.W (p + a) b) {h1 h2 h3} :
    Is2 (n := 1024) (m := 2048) (matmul dot_S1024x1024_S1024x2048_S1024x2048_1_0_0_1_n_n none
      (truncf .bf16 (mulf (maximumf (matmul dot_S1024x2048_S2048x1024_S1024x1024_1_0_0_1_n_n none x (shapeCast S2048x1024 u h1 : FVec Ideal S2048x1024 .bf16) (constant (F := Ideal) S1024x1024 .f32 0x00000000#32))
          (broadcast S1024x1024 (Scalar.ofBits (F := Ideal) .f32 0x00000000#32)))
        (maximumf (matmul dot_S1024x2048_S2048x1024_S1024x1024_1_0_0_1_n_n none x (shapeCast S2048x1024 u h1 : FVec Ideal S2048x1024 .bf16) (constant (F := Ideal) S1024x1024 .f32 0x00000000#32))
          (broadcast S1024x1024 (Scalar.ofBits (F := Ideal) .f32 0x00000000#32)))) h2)
      (shapeCast S1024x2048 d h3 : FVec Ideal S1024x2048 .bf16) (constant (F := Ideal) S1024x2048 .f32 0x00000000#32))
      fun a n => ∑ f ∈ Finset.range 1024, D.R (o + a) (p + f) * D.R (o + a) (p + f) * D.W (p + f) n := by
  have hm := is2_maximumf (φ := .f32) (is2_matmul (n := 1024) (k := 2048) (m := 1024) (prec := none) (φ₁ := .bf16) (φ₂ := .bf16) hx (is2_self hu h1) (rfl : constant (F := Ideal) S1024x1024 .f32 0x00000000#32 = _))
    (is2_broadcast (Ideal.ofBits .f32 0x00000000#32))
  exact is2_matmul (n := 1024) (k := 1024) (m := 2048) (prec := none) (φ₁ := .bf16) (φ₂ := .bf16) (is2_truncf (φ := .f32) (ψ := .bf16) (is2_mulf (φ := .f32) hm hm) _) (is2_self hd h3) rfl

theorem pay3 {o : ℕ} {h : Vec Ideal S1024x2048 .f32} {w : Vec Ideal S1x2048 .f32} (hh : Is2 (n := 1024) (m := 2048) h fun a b => D.H (o + a) b)
    (hw : Is2 (n := 1) (m := 2048) w fun _ b => D.G b) : Is2 (n := 1024) (m := 2048) (k0_pay3 h w) fun a b => D.N (o + a) b := by
  unfold k0_pay3; exact is2_self (normed hh hw) _

theorem pay4 {o p : ℕ} {h : Vec Ideal S1024x2048 .f32} {w : Vec Ideal S1x2048 .f32} {u : Vec Ideal S2048x1024 .bf16} {d : Vec Ideal S1024x2048 .bf16}
    (hh : Is2 (n := 1024) (m := 2048) h fun a b => D.H (o + a) b) (hw : Is2 (n := 1) (m := 2048) w fun _ b => D.G b)
    (hu : Is2 (n := 2048) (m := 1024) u fun a b => D.U a (p + b)) (hd : Is2 (n := 1024) (m := 2048) d fun a b => D.W (p + a) b) (hp : p = 0) :
    Is2 (n := 1024) (m := 2048) (k0_pay4 h w u d) fun a n => D.out 1024 (o + a) n := by
  unfold k0_pay4
  refine (is2_addf (φ := .f32) (by unfold k0_pay1; exact is2_self hh _ : Is2 (n := 1024) (m := 2048) (k0_pay1 h) fun a b => D.H (o + a) b) (hidden (normed hh hw) hu hd)).congr fun a _ b _ => ?_
  subst hp
  rw [← D.out_zero, D.out_add]

theorem pay5 {o p : ℕ} {acc : Vec Ideal S1024x2048 .f32} {x : Vec Ideal S1024x2048 .bf16} {u : Vec Ideal S2048x1024 .bf16} {d : Vec Ideal S1024x2048 .bf16}
    (ha : Is2 (n := 1024) (m := 2048) acc fun a n => D.out p (o + a) n) (hx : Is2 (n := 1024) (m := 2048) x fun a b => D.N (o + a) b)
    (hu : Is2 (n := 2048) (m := 1024) u fun a b => D.U a (p + b)) (hd : Is2 (n := 1024) (m := 2048) d fun a b => D.W (p + a) b) :
    Is2 (n := 1024) (m := 2048) (k0_pay5 acc x u d) fun a n => D.out (p + 1024) (o + a) n := by
  unfold k0_pay5
  refine (is2_addf (φ := .f32) (is2_self ha _) (hidden hx hu hd)).congr fun a _ b _ => ?_
  rw [D.out_add]

/-! ### The point -/

variable {c : Dev nD} {i : grid0.Coords} {arg2 : Memref sig .tc .vmem S1024x2048 .f32} {harg2 : arg2.IsWhole} {arg3 : Memref sig .tc .vmem S1x2048 .f32} {harg3 : arg3.IsWhole}
  {arg4 : Memref sig .tc .vmem S2048x1024 .bf16} {harg4 : arg4.IsWhole} {arg5 : Memref sig .tc .vmem S1024x2048 .bf16} {harg5 : arg5.IsWhole}
  {arg6 : Memref sig .tc .vmem S1024x2048 .f32} {harg6 : arg6.IsWhole} {arg7 : Memref sig .tc .vmem S1024x2048 .bf16} {harg7 : arg7.IsWhole}
  {x0 : Vec Ideal S1024x2048 .f32} {x1 : Vec Ideal S1x2048 .f32} {x2 : Vec Ideal S2048x1024 .bf16} {x3 : Vec Ideal S1024x2048 .bf16}
  {y : Vec Ideal S1024x2048 .f32} {z : Vec Ideal S1024x2048 .bf16}

theorem zero2 : (![0, 0] : Fin 2 → ℕ) = fun _ => 0 := by funext a; match a with | ⟨0, _⟩ => rfl | ⟨1, _⟩ => rfl

/-- The first point of a row block leaves the rows with the first block of the hidden layer. -/
theorem out_first (h0 h1) : out0_A_4 (F := Ideal) c i arg2 harg2 arg3 harg3 arg4 harg4 arg5 harg5 arg6 harg6 arg7 harg7 h0 h1 x0 x1 x2 x3 = k0_pay4 x0 x1 x2 x3 := by
  unfold out0_A_4
  rw [View.read_writes_eq_canon _ _ _ (cover0_A_4 c _ _ _ _ _ _ _ _ _ _ _ _ _ _ _ _ _ _ _)]
  unfold kernelRun0_A
  dsimp only
  sl_unfold_words
  rw [View.canon_unit_zero zero2]
  simp only [View.readAt_eq_ld, harg2.read_unread, harg3.read_unread, harg4.read_unread, harg5.read_unread, View.ld_unit_zero (S := S1024x2048) zero2, View.ld_unit_zero (S := S1x2048) zero2, View.ld_unit_zero (S := S2048x1024) zero2]

/-- It leaves the normed rows in the scratch. -/
theorem scratch_first (h0 h1) : sout0_A_0 (F := Ideal) c i arg2 harg2 arg3 harg3 arg4 harg4 arg5 harg5 arg6 harg6 arg7 harg7 h0 h1 x0 x1 x2 x3 = k0_pay3 x0 x1 := by
  unfold sout0_A_0
  rw [View.read_writes_eq_canon _ _ _ (scover0_A_0 c _ _ _ _ _ _ _ _ _ _ _ _ _ _ _ _ _ _ _)]
  unfold kernelRun0_A
  dsimp only
  sl_unfold_words
  rw [View.canon_unit_zero zero2]
  simp only [View.readAt_eq_ld, harg2.read_unread, harg3.read_unread, View.ld_unit_zero (S := S1024x2048) zero2, View.ld_unit_zero (S := S1x2048) zero2, View.ld_unit_zero (S := S2048x1024) zero2]

/-- A later point adds its block of the hidden layer. -/
theorem out_next (h0 h1) : out0_B_4 (F := Ideal) c i arg2 harg2 arg3 harg3 arg4 harg4 arg5 harg5 arg6 harg6 arg7 harg7 h0 h1 x0 x1 x2 x3 y z = k0_pay5 y z x2 x3 := by
  unfold out0_B_4
  rw [View.read_writes_eq_canon _ _ _ (cover0_B_4 c _ _ _ _ _ _ _ _ _ _ _ _ _ _ _ _ _ _ _ _ _)]
  unfold kernelRun0_B
  dsimp only
  sl_unfold_words
  rw [View.canon_unit_zero zero2]
  simp only [View.readAt_eq_ld, harg6.read_unread, harg7.read_unread, harg4.read_unread, harg5.read_unread, View.ld_unit_zero (S := S1024x2048) zero2, View.ld_unit_zero (S := S1x2048) zero2, View.ld_unit_zero (S := S2048x1024) zero2]

end Cert.Feed
-- ==== Proof.FfnFold.lean ====
module

public import proofs.«01_k».proof.Proof.Entry
public import proofs.«01_k».proof.Proof.FfnPoint

@[expose] public section

set_option maxRecDepth 16384

noncomputable section

/-! The feed-forward call's operands, the points of a row block one after another, and the array the call leaves. -/

namespace Cert.Feed

open Idealize.ShloMosaic hiding ix0 ix1 ix2 ix3 ix4 ix5 eq_ix1 eq_ix2 eq_ix3 eq_ix4 eq_ix5
open Idealize.ShloMosaic.ValueIdx
open Idealize.ShloMosaic.TcCoe Cert.Words Cert.Entry Cert.FfnIdeal Cert.FfnIdeal.Gen

/-- The operands that four argument arrays hold. -/
def ofArgs (x0 : S4x4096x2048.Idx → EReal) (x1 : S1x2048.Idx → EReal) (x2 : S1x2048x8192.Idx → EReal) (x3 : S1x8192x2048.Idx → EReal) : Data where
  H r j := x0 (ix3 (Fin.ofNat 4 (r / 4096)) (Fin.ofNat 4096 r) (Fin.ofNat 2048 j))
  G j := x1 (ix2 0 (Fin.ofNat 2048 j))
  U j f := x2 (ix3 0 (Fin.ofNat 2048 j) (Fin.ofNat 8192 f))
  W f n := x3 (ix3 0 (Fin.ofNat 8192 f) (Fin.ofNat 2048 n))

theorem val_ofNat {n : ℕ} [NeZero n] (i : Fin n) : Fin.ofNat n i.val = i := Fin.ext (Nat.mod_eq_of_lt i.isLt)

variable (m : (ℓ : Loc nD τ sig) → Buf (Elt Ideal) ℓ) (c : Dev nD)

/-- The call's operands. -/
def data : Data := ofArgs (m ((c : Thread nD τ).loc main_arg0)) (m ((c : Thread nD τ).loc main_arg1)) (m ((c : Thread nD τ).loc main_arg2)) (m ((c : Thread nD τ).loc main_arg3))

/-! ### The host operations before the call -/

/-- The buffers written, in order. -/
abbrev hostWritten : List (Ref sig .tc) := [main_v0, main_v1, main_v2, main_v3, main_v4, main_v5, main_v6]

theorem host_writes : (hostOps0 (F := Ideal)).map HloOp.writes = hostWritten.map fun w => {Proc.devRef (τ := τ) .tc w} := rfl

theorem F_v0 : V m c main_v0 = shapeCast _ (V m c main_arg0) shapeCasts_S4x4096x2048_S16384x2048 :=
  ssaR host_writes 0 rfl (by decide) (by decide) _

theorem F_v1 : V m c main_v1 = shapeCast _ (V m c main_arg1) shapeCasts_S1x2048_S2048 :=
  ssaR host_writes 1 rfl (by decide) (by decide) _

theorem F_v2 : V m c main_v2 = (broadcastInDim S1x2048 ![1] bcast_S2048_S1x2048_1 : (⟨S2048, .f32⟩ : BufTy).Contents (Elt Ideal) → (⟨S1x2048, .f32⟩ : BufTy).Contents (Elt Ideal)) (V m c main_v1) :=
  ssa1 host_writes 2 rfl (by decide) (by decide) _

theorem F_v3 : V m c main_v3 = shapeCast _ (V m c main_arg2) shapeCasts_S1x2048x8192_S2048x8192 :=
  ssaR host_writes 3 rfl (by decide) (by decide) _

theorem F_v4 : V m c main_v4 = ((truncf (F := Ideal) (φ := .f32) .bf16 · bitsLt_bf16_f32) : (⟨S2048x8192, .f32⟩ : BufTy).Contents (Elt Ideal) → (⟨S2048x8192, .bf16⟩ : BufTy).Contents (Elt Ideal)) (V m c main_v3) :=
  ssa1 host_writes 4 rfl (by decide) (by decide) _

theorem F_v5 : V m c main_v5 = shapeCast _ (V m c main_arg3) shapeCasts_S1x8192x2048_S8192x2048 :=
  ssaR host_writes 5 rfl (by decide) (by decide) _

theorem F_v6 : V m c main_v6 = ((truncf (F := Ideal) (φ := .f32) .bf16 · bitsLt_bf16_f32) : (⟨S8192x2048, .f32⟩ : BufTy).Contents (Elt Ideal) → (⟨S8192x2048, .bf16⟩ : BufTy).Contents (Elt Ideal)) (V m c main_v5) :=
  ssa1 host_writes 6 rfl (by decide) (by decide) _

theorem v0_at (r : Fin 16384) (j : Fin 2048) : (V m c main_v0 (ix2 r j) : EReal) = (data m c).H r.val j.val := by
  unfold data ofArgs
  dsimp only
  rw [val_ofNat, F_v0, V_main_arg0]
  refine (shapeCast_apply _ _ _ (ix3 (Fin.ofNat 4 (r.val / 4096)) (Fin.ofNat 4096 r.val) j) ?_)
  have hr := r.isLt
  have hj := j.isLt
  rw [Shape.rowMajor_val_two, Shape.rowMajor_val_three]
  show (r.val / 4096 % 4 * 4096 + r.val % 4096) * 2048 + j.val = r.val * 2048 + j.val
  omega

theorem v2_at (z : Fin 1) (j : Fin 2048) : (V m c main_v2 (ix2 z j) : EReal) = (data m c).G j.val := by
  unfold data ofArgs
  dsimp only
  rw [val_ofNat, F_v2, F_v1, V_main_arg1]
  pointwise
  rw [Subsingleton.elim z 0]

theorem v4_at (j : Fin 2048) (f : Fin 8192) : (V m c main_v4 (ix2 j f) : EReal) = (data m c).U j.val f.val := by
  unfold data ofArgs
  dsimp only
  rw [val_ofNat, val_ofNat, F_v4, F_v3, V_main_arg2]
  refine (shapeCast_apply _ _ _ (ix3 0 j f) ?_)
  rw [Shape.rowMajor_val_two, Shape.rowMajor_val_three]
  show (0 * 2048 + j.val) * 8192 + f.val = j.val * 8192 + f.val
  omega

theorem v6_at (f : Fin 8192) (n : Fin 2048) : (V m c main_v6 (ix2 f n) : EReal) = (data m c).W f.val n.val := by
  unfold data ofArgs
  dsimp only
  rw [val_ofNat, val_ofNat, F_v6, F_v5, V_main_arg3]
  refine (shapeCast_apply _ _ _ (ix3 0 f n) ?_)
  rw [Shape.rowMajor_val_two, Shape.rowMajor_val_three]
  show (0 * 8192 + f.val) * 2048 + n.val = f.val * 2048 + n.val
  omega

/-! ### The windows -/

theorem index0 : ∀ t : Fin cfg0.N, win0_0.index t = ![t.val / 8, 0] := by decide +kernel

theorem block0 (t : Fin cfg0.N) : Is2 (n := 1024) (m := 2048) (iblk m c 0 t : Vec Ideal S1024x2048 _) fun a b => (data m c).H (1024 * (t.val / 8) + a) b := fun j => by
  have ht : t.val < 128 := t.isLt
  have j0 : (j 0).val < 1024 := (j 0).isLt
  have j1 : (j 1).val < 2048 := (j 1).isLt
  obtain ⟨r, hr⟩ : ∃ r : Fin 16384, r.val = t.val / 8 * 1024 + (j 0).val := ⟨⟨t.val / 8 * 1024 + (j 0).val, by omega⟩, rfl⟩
  obtain ⟨s, hs⟩ : ∃ s : Fin 2048, s.val = 0 * 2048 + (j 1).val := ⟨⟨0 * 2048 + (j 1).val, by omega⟩, rfl⟩
  have e : ((cfg0.win 0).blk t).view.emb j = (ix2 r s : S16384x2048.Idx) := by
    funext a
    refine Fin.ext ((win0_0.rect_emb_val t j a rfl).trans ?_)
    rw [index0 t]
    match a with
    | ⟨0, _⟩ => exact hr.symm
    | ⟨1, _⟩ => exact hs.symm
  refine (congrArg (V m c main_v0 : S16384x2048.Idx → EReal) e).trans ((v0_at m c r s).trans ?_)
  show (data m c).H r.val s.val = (data m c).H (1024 * (t.val / 8) + (j 0).val) (j 1).val
  congr 1 <;> omega

theorem index1 : ∀ t : Fin cfg0.N, win0_1.index t = ![0, 0] := by decide +kernel

theorem block1 (t : Fin cfg0.N) : Is2 (n := 1) (m := 2048) (iblk m c 1 t : Vec Ideal S1x2048 _) fun a b => (data m c).G b := fun j => by
  have ht : t.val < 128 := t.isLt
  have j0 : (j 0).val < 1 := (j 0).isLt
  have j1 : (j 1).val < 2048 := (j 1).isLt
  obtain ⟨r, hr⟩ : ∃ r : Fin 1, r.val = 0 * 1 + (j 0).val := ⟨⟨0 * 1 + (j 0).val, by omega⟩, rfl⟩
  obtain ⟨s, hs⟩ : ∃ s : Fin 2048, s.val = 0 * 2048 + (j 1).val := ⟨⟨0 * 2048 + (j 1).val, by omega⟩, rfl⟩
  have e : ((cfg0.win 1).blk t).view.emb j = (ix2 r s : S1x2048.Idx) := by
    funext a
    refine Fin.ext ((win0_1.rect_emb_val t j a rfl).trans ?_)
    rw [index1 t]
    match a with
    | ⟨0, _⟩ => exact hr.symm
    | ⟨1, _⟩ => exact hs.symm
  refine (congrArg (V m c main_v2 : S1x2048.Idx → EReal) e).trans ((v2_at m c r s).trans ?_)
  show (data m c).G s.val = (data m c).G (j 1).val
  congr 1; omega

theorem index2 : ∀ t : Fin cfg0.N, win0_2.index t = ![0, t.val % 8] := by decide +kernel

theorem block2 (t : Fin cfg0.N) : Is2 (n := 2048) (m := 1024) (iblk m c 2 t : Vec Ideal S2048x1024 _) fun a b => (data m c).U a (1024 * (t.val % 8) + b) := fun j => by
  have ht : t.val < 128 := t.isLt
  have j0 : (j 0).val < 2048 := (j 0).isLt
  have j1 : (j 1).val < 1024 := (j 1).isLt
  obtain ⟨r, hr⟩ : ∃ r : Fin 2048, r.val = 0 * 2048 + (j 0).val := ⟨⟨0 * 2048 + (j 0).val, by omega⟩, rfl⟩
  obtain ⟨s, hs⟩ : ∃ s : Fin 8192, s.val = t.val % 8 * 1024 + (j 1).val := ⟨⟨t.val % 8 * 1024 + (j 1).val, by omega⟩, rfl⟩
  have e : ((cfg0.win 2).blk t).view.emb j = (ix2 r s : S2048x8192.Idx) := by
    funext a
    refine Fin.ext ((win0_2.rect_emb_val t j a rfl).trans ?_)
    rw [index2 t]
    match a with
    | ⟨0, _⟩ => exact hr.symm
    | ⟨1, _⟩ => exact hs.symm
  refine (congrArg (V m c main_v4 : S2048x8192.Idx → EReal) e).trans ((v4_at m c r s).trans ?_)
  show (data m c).U r.val s.val = (data m c).U (j 0).val (1024 * (t.val % 8) + (j 1).val)
  congr 1 <;> omega

theorem index3 : ∀ t : Fin cfg0.N, win0_3.index t = ![t.val % 8, 0] := by decide +kernel

theorem block3 (t : Fin cfg0.N) : Is2 (n := 1024) (m := 2048) (iblk m c 3 t : Vec Ideal S1024x2048 _) fun a b => (data m c).W (1024 * (t.val % 8) + a) b := fun j => by
  have ht : t.val < 128 := t.isLt
  have j0 : (j 0).val < 1024 := (j 0).isLt
  have j1 : (j 1).val < 2048 := (j 1).isLt
  obtain ⟨r, hr⟩ : ∃ r : Fin 8192, r.val = t.val % 8 * 1024 + (j 0).val := ⟨⟨t.val % 8 * 1024 + (j 0).val, by omega⟩, rfl⟩
  obtain ⟨s, hs⟩ : ∃ s : Fin 2048, s.val = 0 * 2048 + (j 1).val := ⟨⟨0 * 2048 + (j 1).val, by omega⟩, rfl⟩
  have e : ((cfg0.win 3).blk t).view.emb j = (ix2 r s : S8192x2048.Idx) := by
    funext a
    refine Fin.ext ((win0_3.rect_emb_val t j a rfl).trans ?_)
    rw [index3 t]
    match a with
    | ⟨0, _⟩ => exact hr.symm
    | ⟨1, _⟩ => exact hs.symm
  refine (congrArg (V m c main_v6 : S8192x2048.Idx → EReal) e).trans ((v6_at m c r s).trans ?_)
  show (data m c).W r.val s.val = (data m c).W (1024 * (t.val % 8) + (j 0).val) (j 1).val
  congr 1 <;> omega

/-! ### The points of a row block -/

/-- After point `t` the window holds the rows with the blocks of the hidden layer so far, and the scratch the normed rows. -/
theorem after_point (k : ℕ) : ∀ t : Fin cfg0.N, t.val = k →
    Is2 (n := 1024) (m := 2048) (outsAt0 m c t.val t.isLt).1 (fun a n => (data m c).out (1024 * (t.val % 8) + 1024) (1024 * (t.val / 8) + a) n)
    ∧ Is2 (n := 1024) (m := 2048) (outsAt0 m c t.val t.isLt).2 (fun a n => (data m c).N (1024 * (t.val / 8) + a) n) := by
  induction k with
  | zero =>
    intro t ht
    have h0 : t.val % 8 = 0 := by omega
    rw [outsAt0_A m c t h0 (by omega), out_first, scratch_first]
    refine ⟨(pay4 (block0 m c t) (block1 m c t) (block2 m c t) (block3 m c t) (by omega)).congr fun a _ b _ => ?_, pay3 (block0 m c t) (block1 m c t)⟩
    rw [h0]
  | succ k ih =>
    intro t ht
    by_cases h0 : t.val % 8 = 0
    · rw [outsAt0_A m c t h0 (by omega), out_first, scratch_first]
      refine ⟨(pay4 (block0 m c t) (block1 m c t) (block2 m c t) (block3 m c t) (by omega)).congr fun a _ b _ => ?_, pay3 (block0 m c t) (block1 m c t)⟩
      rw [h0]
    · obtain ⟨i1, i2⟩ := ih ⟨t.val - 1, by omega⟩ (by show t.val - 1 = k; omega)
      have e1 : (t.val - 1) / 8 = t.val / 8 := by omega
      have e2 : 1024 * ((t.val - 1) % 8) + 1024 = 1024 * (t.val % 8) := by omega
      simp only [e1, e2] at i1 i2
      rw [outsAt0_B m c t h0 (by omega), out_next]
      exact ⟨pay5 i1 i2 (block2 m c t) (block3 m c t), i2⟩

/-- The array the call leaves, read at an index. -/
theorem result (r : Fin 16384) (n : Fin 2048) : ((dats m 0 c).arrAt 4 cfg0.N : S16384x2048.Idx → EReal) (ix2 r n) = (data m c).out 8192 r.val n.val := by
  have hr := r.isLt
  have hn := n.isLt
  rw [Value.final4]
  obtain ⟨t, ht⟩ : ∃ t : Fin cfg0.N, t.val = Value.pt4Of (ix2 r n) := ⟨⟨Value.pt4Of (ix2 r n), by
    show 8 * (1 * (r.val / 1024 - 0) + 1 * (n.val / 2048 - 0)) + 7 < 128; omega⟩, rfl⟩
  have hv : t.val = 8 * (1 * (r.val / 1024 - 0) + 1 * (n.val / 2048 - 0)) + 7 := ht
  have h := (after_point m c t.val t rfl).1 (ix2 (Fin.ofNat 1024 r.val) (Fin.ofNat 2048 n.val))
  have hl : Value.loc4Of (ix2 r n) = ix2 (Fin.ofNat 1024 r.val) (Fin.ofNat 2048 n.val) := by
    funext a
    match a with
    | ⟨0, _⟩ => rfl
    | ⟨1, _⟩ => rfl
  have hg : (Value.G4 m c : S16384x2048.Idx → EReal) (ix2 r n) = (outsAt0 m c t.val t.isLt).1 (ix2 (Fin.ofNat 1024 r.val) (Fin.ofNat 2048 n.val)) := by
    unfold Value.G4
    rw [dif_pos (by rw [← ht]; exact t.isLt), hl, Value.outsAt0_sweep, Value.fold0_congr m c _ _ _ _ ht.symm]
  refine hg.trans (h.trans ?_)
  show (data m c).out (1024 * (t.val % 8) + 1024) (1024 * (t.val / 8) + r.val % 1024) (n.val % 2048) = _
  congr 1 <;> omega

end Cert.Feed
-- ==== Proof.FfnFinal.lean ====
module

public import proofs.«01_k».proof.Proof.FfnFold
public import proofs.«01_k».proof.Proof.Gen.FfnReferenceIdeal.Read

@[expose] public section

set_option maxRecDepth 16384

noncomputable section

/-! The reference's feed-forward part read at an index, and its equality with the call's result. -/

namespace Cert.Feed

open Idealize.ShloMosaic hiding ix0 ix1 ix2 ix3 ix4 ix5 eq_ix1 eq_ix2 eq_ix3 eq_ix4 eq_ix5
open Idealize.ShloMosaic.ValueIdx
open Idealize.ShloMosaic.TcCoe Cert.FfnReferenceIdeal Cert.FfnReferenceIdeal.Gen Cert.FfnReferenceIdeal.Read

variable (x0 : S4x4096x2048.Idx → EReal) (x1 : S1x2048.Idx → EReal) (x2 : S1x2048x8192.Idx → EReal) (x3 : S1x8192x2048.Idx → EReal)
  (b : Fin 4) (s : Fin 4096)

theorem rows_at (j : Fin 2048) : x0 (ix3 b s j) = (ofArgs x0 x1 x2 x3).H (4096 * b.val + s.val) j.val := by
  have hb := b.isLt
  have hs := s.isLt
  unfold ofArgs
  dsimp only
  rw [val_ofNat, show Fin.ofNat 4 ((4096 * b.val + s.val) / 4096) = b from Fin.ext (by show (4096 * b.val + s.val) / 4096 % 4 = b.val; omega),
    show Fin.ofNat 4096 (4096 * b.val + s.val) = s from Fin.ext (by show (4096 * b.val + s.val) % 4096 = s.val; omega)]

theorem zero_bits : Ideal.ofBits .f32 0x00000000#32 = 0 := by
  simp [Ideal.ofBits, Ideal.ieee]

theorem squares_at : (val_main_v2 (F := Ideal) x0 (ix2 b s) : EReal)
    = ∑ j ∈ Finset.range 2048, (ofArgs x0 x1 x2 x3).H (4096 * b.val + s.val) j * (ofArgs x0 x1 x2 x3).H (4096 * b.val + s.val) j := by
  rw [val_main_v2_apply, val_main_cst_apply, Finset.sum_range]
  refine (congrArg₂ (· + ·) zero_bits rfl).trans ((zero_add _).trans ?_)
  refine Finset.sum_congr rfl fun j _ => ?_
  rw [← rows_at, val_main_v1_apply]
  have e : idx_main_v2 (ix2 b s) j = ix3 b s j := by
    funext a
    match a with
    | ⟨0, _⟩ => rfl
    | ⟨1, _⟩ => rfl
    | ⟨2, _⟩ => rfl
  rw [e]
  rfl

theorem gain_at (j : Fin 2048) : (val_main_v12 (F := Ideal) x1 (ix3 b s j) : EReal) = (ofArgs x0 x1 x2 x3).G j.val := by
  have hj := j.isLt
  rw [val_main_v12_apply, val_main_v11_apply, val_main_v0_apply]
  unfold ofArgs
  dsimp only
  rw [val_ofNat]
  refine congrArg x1 (funext fun a => ?_)
  match a with
  | ⟨0, _⟩ => rfl
  | ⟨1, _⟩ => exact Fin.ext (show j.val % 2048 = j.val by omega)

theorem normed_at (j : Fin 2048) : (val_main_v13 (F := Ideal) x0 x1 (ix3 b s j) : EReal) = (ofArgs x0 x1 x2 x3).N (4096 * b.val + s.val) j.val := by
  rw [val_main_v13_apply, val_main_v10_apply, val_main_v9_apply, val_main_v8_apply, val_main_v7_apply, val_main_v5_apply, val_main_v3_apply,
    val_main_v4_apply, val_main_cst_0_apply, val_main_v6_apply, val_main_cst_1_apply]
  have e : idx_main_v3 (idx_main_v9 (ix3 b s j)) = ix2 b s := by
    funext a
    match a with
    | ⟨0, _⟩ => rfl
    | ⟨1, _⟩ => rfl
  have h2 := squares_at x0 x1 x2 x3 b s
  have hg := gain_at x0 x1 x2 x3 b s j
  have h0 := rows_at x0 x1 x2 x3 b s j
  rw [e]
  unfold Data.N
  rw [← h2, ← hg, ← h0]
  rfl

theorem up_at (j : Fin 2048) (f : Fin 8192) : (val_main_v14 (F := Ideal) x2 (ix2 j f) : EReal) = (ofArgs x0 x1 x2 x3).U j.val f.val := by
  have hj := j.isLt
  have hf := f.isLt
  rw [val_main_v14_apply]
  unfold ofArgs
  dsimp only
  rw [val_ofNat, val_ofNat]
  refine congrArg x2 (funext fun a => ?_)
  match a with
  | ⟨0, _⟩ => rfl
  | ⟨1, _⟩ => exact Fin.ext (show (j.val * 8192 + f.val) / 8192 % 2048 = j.val by omega)
  | ⟨2, _⟩ => exact Fin.ext (show (j.val * 8192 + f.val) % 8192 = f.val by omega)

theorem down_at (f : Fin 8192) (n : Fin 2048) : (val_main_v18 (F := Ideal) x3 (ix2 f n) : EReal) = (ofArgs x0 x1 x2 x3).W f.val n.val := by
  have hf := f.isLt
  have hn := n.isLt
  rw [val_main_v18_apply]
  unfold ofArgs
  dsimp only
  rw [val_ofNat, val_ofNat]
  refine congrArg x3 (funext fun a => ?_)
  match a with
  | ⟨0, _⟩ => rfl
  | ⟨1, _⟩ => exact Fin.ext (show (f.val * 2048 + n.val) / 2048 % 8192 = f.val by omega)
  | ⟨2, _⟩ => exact Fin.ext (show (f.val * 2048 + n.val) % 2048 = n.val by omega)

theorem relu_at (f : Fin 8192) : (val_main_v16 (F := Ideal) x0 x1 x2 (ix3 b s f) : EReal) = (ofArgs x0 x1 x2 x3).R (4096 * b.val + s.val) f.val := by
  rw [val_main_v16_apply, val_main_v15_apply, val_main_call0_v0_apply, val_main_call0_cst_apply]
  unfold Data.R
  rw [Finset.sum_range]
  refine congrArg (max · (Ideal.ofBits .f32 0x00000000#32)) (Finset.sum_congr rfl fun j _ => ?_)
  rw [← normed_at, ← up_at]
  congr 2
  · funext a
    match a with
    | ⟨0, _⟩ => rfl
    | ⟨1, _⟩ => rfl
    | ⟨2, _⟩ => rfl
  · funext a
    match a with
    | ⟨0, _⟩ => rfl
    | ⟨1, _⟩ => rfl

theorem sum_at (n : Fin 2048) : (val_main_v20 (F := Ideal) x0 x1 x2 x3 (ix3 b s n) : EReal) = (ofArgs x0 x1 x2 x3).out 8192 (4096 * b.val + s.val) n.val := by
  rw [val_main_v20_apply, val_main_v19_apply]
  unfold Data.out
  rw [Finset.sum_range, ← rows_at]
  refine congrArg (x0 (ix3 b s n) + ·) (Finset.sum_congr rfl fun f _ => ?_)
  rw [← relu_at, ← down_at, val_main_v17_apply]
  have e1 : lidx_main_v19 (ix3 b s n) f = ix3 b s f := by
    funext a
    match a with
    | ⟨0, _⟩ => rfl
    | ⟨1, _⟩ => rfl
    | ⟨2, _⟩ => rfl
  have e2 : ridx_main_v19 (ix3 b s n) f = ix2 f n := by
    funext a
    match a with
    | ⟨0, _⟩ => rfl
    | ⟨1, _⟩ => rfl
  rw [e1, e2]
  rfl

theorem reference_at (r : Fin 16384) (n : Fin 2048) : (val_main_v21 (F := Ideal) x0 x1 x2 x3 (ix2 r n) : EReal) = (ofArgs x0 x1 x2 x3).out 8192 r.val n.val := by
  have hr := r.isLt
  have hn := n.isLt
  have e : idx_main_v21 (ix2 r n) = ix3 (Fin.ofNat 4 (r.val / 4096)) (Fin.ofNat 4096 r.val) n := by
    funext a
    match a with
    | ⟨0, _⟩ => exact Fin.ext (show (r.val * 2048 + n.val) / 8388608 = r.val / 4096 % 4 by omega)
    | ⟨1, _⟩ => exact Fin.ext (show (r.val * 2048 + n.val) / 2048 % 4096 = r.val % 4096 by omega)
    | ⟨2, _⟩ => exact Fin.ext (show (r.val * 2048 + n.val) % 2048 = n.val by omega)
  rw [val_main_v21_apply, e, sum_at]
  congr 1
  show 4096 * (r.val / 4096 % 4) + r.val % 4096 = r.val
  omega

/-- The call's result array is the reference's. -/
theorem result_eq (m : (ℓ : Loc Cert.FfnIdeal.nD Cert.FfnIdeal.τ Cert.FfnIdeal.sig) → Buf (Elt Ideal) ℓ) (c : Dev Cert.FfnIdeal.nD) :
    ((Cert.FfnIdeal.Gen.dats m 0 c).arrAt 4 Cert.FfnIdeal.cfg0.N : S16384x2048.Idx → EReal)
    = val_main_v21 (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1))
      (m ((c.tc : Thread Cert.FfnIdeal.nD Cert.FfnIdeal.τ).loc Cert.FfnIdeal.main_arg2)) (m ((c.tc : Thread Cert.FfnIdeal.nD Cert.FfnIdeal.τ).loc Cert.FfnIdeal.main_arg3)) := by
  funext i
  rw [eq_ix2 i]
  exact (result m c (i 0) (i 1)).trans (reference_at _ _ _ _ (i 0) (i 1)).symm

end Cert.Feed
-- ==== Proof.Rows.lean ====
module

public import proofs.«01_k».proof.Proof.Basic

@[expose] public section

noncomputable section

/-! Batches of rows and stacked matrices as functions of two natural coordinates, and arrays read by blocks. -/

namespace Cert.Rows

open Idealize.ShloMosaic hiding ix0 ix1 ix2 ix3 ix4 ix5 eq_ix1 eq_ix2 eq_ix3 eq_ix4 eq_ix5
open Idealize.ShloMosaic.ValueIdx
open Cert.Words

variable {k l : ℕ} [NeZero k] [NeZero l]

theorem val_ofNat {n : ℕ} [NeZero n] (i : Fin n) : Fin.ofNat n i.val = i := Fin.ext (Nat.mod_eq_of_lt i.isLt)

/-- Four batches of 4096 rows, by row number. -/
def rows (x : (⟨3, ![4, 4096, k]⟩ : Shape).Idx → EReal) (r j : ℕ) : EReal := x (ix3 (Fin.ofNat 4 (r / 4096)) (Fin.ofNat 4096 r) (Fin.ofNat k j))

/-- The one matrix of a stack of one. -/
def mat (x : (⟨3, ![1, k, l]⟩ : Shape).Idx → EReal) (a b : ℕ) : EReal := x (ix3 0 (Fin.ofNat k a) (Fin.ofNat l b))

theorem rows_at (x : (⟨3, ![4, 4096, k]⟩ : Shape).Idx → EReal) (b : Fin 4) (s : Fin 4096) (j : Fin k) : rows x (4096 * b.val + s.val) j.val = x (ix3 b s j) := by
  have hb := b.isLt
  have hs := s.isLt
  unfold rows
  rw [val_ofNat, show Fin.ofNat 4 ((4096 * b.val + s.val) / 4096) = b from Fin.ext (by show (4096 * b.val + s.val) / 4096 % 4 = b.val; omega),
    show Fin.ofNat 4096 (4096 * b.val + s.val) = s from Fin.ext (by show (4096 * b.val + s.val) % 4096 = s.val; omega)]

theorem mat_at (x : (⟨3, ![1, k, l]⟩ : Shape).Idx → EReal) (a : Fin k) (b : Fin l) : mat x a.val b.val = x (ix3 0 a b) := by
  unfold mat
  rw [val_ofNat, val_ofNat]

/-- The batches laid out as rows. -/
theorem is2_rows (x : (⟨3, ![4, 4096, k]⟩ : Shape).Idx → EReal) (hc : Shape.ShapeCasts ⟨3, ![4, 4096, k]⟩ ⟨2, ![16384, k]⟩) :
    Is2 (shapeCast ⟨2, ![16384, k]⟩ x hc) (rows x) := fun i => by
  obtain ⟨r, j, rfl⟩ : ∃ r j, i = ix2 r j := ⟨_, _, eq_ix2 i⟩
  have hr := r.isLt
  show _ = rows x r.val j.val
  unfold rows
  rw [val_ofNat]
  refine shapeCast_apply x hc _ (ix3 (Fin.ofNat 4 (r.val / 4096)) (Fin.ofNat 4096 r.val) j) ?_
  rw [Shape.rowMajor_val_two, Shape.rowMajor_val_three]
  show (r.val / 4096 % 4 * 4096 + r.val % 4096) * k + j.val = r.val * k + j.val
  rw [show r.val / 4096 % 4 * 4096 + r.val % 4096 = r.val by omega]

/-- The stack of one as a matrix. -/
theorem is2_mat (x : (⟨3, ![1, k, l]⟩ : Shape).Idx → EReal) (hc : Shape.ShapeCasts ⟨3, ![1, k, l]⟩ ⟨2, ![k, l]⟩) :
    Is2 (shapeCast ⟨2, ![k, l]⟩ x hc) (mat x) := fun i => by
  obtain ⟨a, b, rfl⟩ : ∃ a b, i = ix2 a b := ⟨_, _, eq_ix2 i⟩
  show _ = mat x a.val b.val
  rw [mat_at]
  refine shapeCast_apply x hc _ (ix3 0 a b) ?_
  rw [Shape.rowMajor_val_two, Shape.rowMajor_val_three]
  show (0 * k + a.val) * l + b.val = a.val * l + b.val
  rw [Nat.zero_mul, Nat.zero_add]

section Blocks

variable {n m N M p q : ℕ} {A : (⟨2, ![N, M]⟩ : Shape).Idx → EReal} {f : ℕ → ℕ → EReal} {e : (⟨2, ![n, m]⟩ : Shape).Idx → (⟨2, ![N, M]⟩ : Shape).Idx}

/-- A block of an array. -/
theorem is2_block (hA : Is2 A f) (he : ∀ j a, (e j a).val = (![p, q] : Fin 2 → ℕ) a * (![n, m] : Fin 2 → ℕ) a + (j a).val) :
    Is2 (fun j => A (e j)) fun a b => f (n * p + a) (m * q + b) := fun j => by
  have h0 : (e j 0).val = p * n + (j 0).val := he j 0
  have h1 : (e j 1).val = q * m + (j 1).val := he j 1
  show A (e j) = _
  rw [hA, h0, h1, Nat.mul_comm p, Nat.mul_comm q]

/-- An array's element, from the block that holds it. -/
theorem of_block [NeZero n] [NeZero m] (hA : Is2 (fun j => A (e j)) fun a b => f (n * p + a) (m * q + b))
    (he : ∀ j a, (e j a).val = (![p, q] : Fin 2 → ℕ) a * (![n, m] : Fin 2 → ℕ) a + (j a).val) (r : Fin N) (s : Fin M) (hr : r.val / n = p) (hs : s.val / m = q) :
    A (ix2 r s) = f r.val s.val := by
  have h0 : n * p + r.val % n = r.val := by rw [← hr]; exact Nat.div_add_mod _ _
  have h1 : m * q + s.val % m = s.val := by rw [← hs]; exact Nat.div_add_mod _ _
  have h : A (e (ix2 (Fin.ofNat n r.val) (Fin.ofNat m s.val))) = f (n * p + r.val % n) (m * q + s.val % m) := hA (ix2 (Fin.ofNat n r.val) (Fin.ofNat m s.val))
  rw [h0, h1] at h
  rw [← h]
  refine congrArg A (funext fun a => Fin.ext ?_)
  refine Eq.trans ?_ (he (ix2 (Fin.ofNat n r.val) (Fin.ofNat m s.val)) a).symm
  match a with
  | ⟨0, _⟩ =>
    show r.val = p * n + r.val % n
    rw [Nat.mul_comm p, h0]
  | ⟨1, _⟩ =>
    show s.val = q * m + s.val % m
    rw [Nat.mul_comm q, h1]

end Blocks

end Cert.Rows
-- ==== Proof.Mix.lean ====
module

public import proofs.«01_k».proof.Proof.Entry
public import proofs.«01_k».proof.Proof.Rows
public import proofs.«01_k».proof.Proof.Gen.MixIdeal.Value
public import proofs.«01_k».proof.Proof.Gen.MixReferenceIdeal.Read

@[expose] public section

set_option maxRecDepth 16384

noncomputable section

/-! The gated mixing of the two attentions: the call's array, the reference, and their equality. -/

namespace Cert.Mix

open Idealize.ShloMosaic hiding ix0 ix1 ix2 ix3 ix4 ix5 eq_ix1 eq_ix2 eq_ix3 eq_ix4 eq_ix5
open Idealize.ShloMosaic.ValueIdx
open Idealize.ShloMosaic.TcCoe Cert.Words Cert.Entry Cert.Rows Cert.MixIdeal Cert.MixIdeal.Gen

/-- The sigmoid of a gate: of the product with the columns of the weights from column `o` on. -/
def gate (x : S4x4096x2048.Idx → EReal) (w : S1x2048x9280.Idx → EReal) (o r n : ℕ) : EReal :=
  Ideal.logistic (∑ j ∈ Finset.range 2048, rows x r j * mat w j (o + n))

/-- One attention's projection. -/
def part (y : S4x4096x1024.Idx → EReal) (w : S1x1024x2048.Idx → EReal) (r n : ℕ) : EReal := ∑ j ∈ Finset.range 1024, rows y r j * mat w j n

/-- The mixed rows. -/
def out (x : S4x4096x2048.Idx → EReal) (y z : S4x4096x1024.Idx → EReal) (w : S1x2048x9280.Idx → EReal) (u v : S1x1024x2048.Idx → EReal) (r n : ℕ) : EReal :=
  gate x w 5184 r n * part y u r n + gate x w 7232 r n * part z v r n

theorem is2_logistic {n m : ℕ} {f : ℕ → ℕ → EReal} {φ : FTy} {v : FVec Ideal ⟨2, ![n, m]⟩ φ} (hv : Is2 v f) :
    Is2 (logistic v) (fun a b => Ideal.logistic (f a b)) := fun j => by
  show Ideal.logistic (v j) = _; rw [hv j]

/-! ### The call -/

variable (m : (ℓ : Loc nD τ sig) → Buf (Elt Ideal) ℓ) (c : Dev nD)

/-- The call's result. -/
abbrev res : ℕ → ℕ → EReal := out (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5))

/-- The buffers written, in order. -/
abbrev hostWritten : List (Ref sig .tc) := [main_v0, main_v1, main_v2, main_v3, main_v4, main_v5, main_v6, main_v7, main_v8, main_v9, main_v10, main_v11, main_v12, main_v13]

theorem host_writes : (hostOps0 (F := Ideal)).map HloOp.writes = hostWritten.map fun w => {Proc.devRef (τ := τ) .tc w} := rfl

theorem is_v1 : Is2 (n := 2048) (m := 9280) (V m c main_v1) (mat (m ((c : Thread nD τ).loc main_arg3))) := by
  rw [show V m c main_v1 = ((truncf (F := Ideal) (φ := .f32) .bf16 · bitsLt_bf16_f32) : (⟨S2048x9280, .f32⟩ : BufTy).Contents (Elt Ideal) → (⟨S2048x9280, .bf16⟩ : BufTy).Contents (Elt Ideal)) (V m c main_v0)
      from ssa1 host_writes 1 rfl (by decide) (by decide) _,
    show V m c main_v0 = shapeCast _ (V m c main_arg3) shapeCasts_S1x2048x9280_S2048x9280 from ssaR host_writes 0 rfl (by decide) (by decide) _, V_main_arg3]
  exact is2_mat (k := 2048) (l := 9280) _ _

theorem is_v3 : Is2 (n := 16384) (m := 2048) (V m c main_v3) (rows (m ((c : Thread nD τ).loc main_arg0))) := by
  rw [show V m c main_v3 = ((truncf (F := Ideal) (φ := .f32) .bf16 · bitsLt_bf16_f32) : (⟨S16384x2048, .f32⟩ : BufTy).Contents (Elt Ideal) → (⟨S16384x2048, .bf16⟩ : BufTy).Contents (Elt Ideal)) (V m c main_v2)
      from ssa1 host_writes 3 rfl (by decide) (by decide) _,
    show V m c main_v2 = shapeCast _ (V m c main_arg0) shapeCasts_S4x4096x2048_S16384x2048 from ssaR host_writes 2 rfl (by decide) (by decide) _, V_main_arg0]
  exact is2_rows (k := 2048) _ _

theorem is_v5 : Is2 (n := 16384) (m := 1024) (V m c main_v5) (rows (m ((c : Thread nD τ).loc main_arg1))) := by
  rw [show V m c main_v5 = ((truncf (F := Ideal) (φ := .f32) .bf16 · bitsLt_bf16_f32) : (⟨S16384x1024, .f32⟩ : BufTy).Contents (Elt Ideal) → (⟨S16384x1024, .bf16⟩ : BufTy).Contents (Elt Ideal)) (V m c main_v4)
      from ssa1 host_writes 5 rfl (by decide) (by decide) _,
    show V m c main_v4 = shapeCast _ (V m c main_arg1) shapeCasts_S4x4096x1024_S16384x1024 from ssaR host_writes 4 rfl (by decide) (by decide) _, V_main_arg1]
  exact is2_rows (k := 1024) _ _

theorem is_v7 : Is2 (n := 16384) (m := 1024) (V m c main_v7) (rows (m ((c : Thread nD τ).loc main_arg2))) := by
  rw [show V m c main_v7 = ((truncf (F := Ideal) (φ := .f32) .bf16 · bitsLt_bf16_f32) : (⟨S16384x1024, .f32⟩ : BufTy).Contents (Elt Ideal) → (⟨S16384x1024, .bf16⟩ : BufTy).Contents (Elt Ideal)) (V m c main_v6)
      from ssa1 host_writes 7 rfl (by decide) (by decide) _,
    show V m c main_v6 = shapeCast _ (V m c main_arg2) shapeCasts_S4x4096x1024_S16384x1024 from ssaR host_writes 6 rfl (by decide) (by decide) _, V_main_arg2]
  exact is2_rows (k := 1024) _ _

theorem is_v8 : Is2 (n := 2048) (m := 2048) (V m c main_v8) (fun a b => mat (m ((c : Thread nD τ).loc main_arg3)) (0 + a) (5184 + b)) := by
  rw [show V m c main_v8 = ((extractStridedSlice S2048x2048 ![0, 5184] · slices_S2048x9280_S2048x2048_0_5184) : (⟨S2048x9280, .bf16⟩ : BufTy).Contents (Elt Ideal) → (⟨S2048x2048, .bf16⟩ : BufTy).Contents (Elt Ideal)) (V m c main_v1)
      from ssa1 host_writes 8 rfl (by decide) (by decide) _]
  exact is2_slice (is_v1 m c) 0 5184 _

theorem is_v9 : Is2 (n := 2048) (m := 2048) (V m c main_v9) (fun a b => mat (m ((c : Thread nD τ).loc main_arg3)) (0 + a) (7232 + b)) := by
  rw [show V m c main_v9 = ((extractStridedSlice S2048x2048 ![0, 7232] · slices_S2048x9280_S2048x2048_0_7232) : (⟨S2048x9280, .bf16⟩ : BufTy).Contents (Elt Ideal) → (⟨S2048x2048, .bf16⟩ : BufTy).Contents (Elt Ideal)) (V m c main_v1)
      from ssa1 host_writes 9 rfl (by decide) (by decide) _]
  exact is2_slice (is_v1 m c) 0 7232 _

theorem is_v11 : Is2 (n := 1024) (m := 2048) (V m c main_v11) (mat (m ((c : Thread nD τ).loc main_arg4))) := by
  rw [show V m c main_v11 = ((truncf (F := Ideal) (φ := .f32) .bf16 · bitsLt_bf16_f32) : (⟨S1024x2048, .f32⟩ : BufTy).Contents (Elt Ideal) → (⟨S1024x2048, .bf16⟩ : BufTy).Contents (Elt Ideal)) (V m c main_v10)
      from ssa1 host_writes 11 rfl (by decide) (by decide) _,
    show V m c main_v10 = shapeCast _ (V m c main_arg4) shapeCasts_S1x1024x2048_S1024x2048 from ssaR host_writes 10 rfl (by decide) (by decide) _, V_main_arg4]
  exact is2_mat (k := 1024) (l := 2048) _ _

theorem is_v13 : Is2 (n := 1024) (m := 2048) (V m c main_v13) (mat (m ((c : Thread nD τ).loc main_arg5))) := by
  rw [show V m c main_v13 = ((truncf (F := Ideal) (φ := .f32) .bf16 · bitsLt_bf16_f32) : (⟨S1024x2048, .f32⟩ : BufTy).Contents (Elt Ideal) → (⟨S1024x2048, .bf16⟩ : BufTy).Contents (Elt Ideal)) (V m c main_v12)
      from ssa1 host_writes 13 rfl (by decide) (by decide) _,
    show V m c main_v12 = shapeCast _ (V m c main_arg5) shapeCasts_S1x1024x2048_S1024x2048 from ssaR host_writes 12 rfl (by decide) (by decide) _, V_main_arg5]
  exact is2_mat (k := 1024) (l := 2048) _ _

theorem index0 : ∀ t : Fin cfg0.N, win0_0.index t = ![t.val / 2, 0] := by decide +kernel
theorem index1 : ∀ t : Fin cfg0.N, win0_1.index t = ![t.val / 2, 0] := by decide +kernel
theorem index2 : ∀ t : Fin cfg0.N, win0_2.index t = ![t.val / 2, 0] := by decide +kernel
theorem index3 : ∀ t : Fin cfg0.N, win0_3.index t = ![0, t.val % 2] := by decide +kernel
theorem index4 : ∀ t : Fin cfg0.N, win0_4.index t = ![0, t.val % 2] := by decide +kernel
theorem index5 : ∀ t : Fin cfg0.N, win0_5.index t = ![0, t.val % 2] := by decide +kernel
theorem index6 : ∀ t : Fin cfg0.N, win0_6.index t = ![0, t.val % 2] := by decide +kernel
theorem index7 : ∀ t : Fin cfg0.N, win0_7.index t = ![t.val / 2, t.val % 2] := by decide +kernel

theorem block0 (t : Fin cfg0.N) : Is2 (n := 1024) (m := 2048) (iblk m c 0 t) fun a b => rows (m ((c : Thread nD τ).loc main_arg0)) (1024 * (t.val / 2) + a) (2048 * 0 + b) :=
  is2_block (p := t.val / 2) (q := 0) (e := ((cfg0.win 0).blk t).view.emb) (is_v3 m c) fun j a => (win0_0.rect_emb_val t j a rfl).trans (by rw [index0 t])

theorem block1 (t : Fin cfg0.N) : Is2 (n := 1024) (m := 1024) (iblk m c 1 t) fun a b => rows (m ((c : Thread nD τ).loc main_arg1)) (1024 * (t.val / 2) + a) (1024 * 0 + b) :=
  is2_block (p := t.val / 2) (q := 0) (e := ((cfg0.win 1).blk t).view.emb) (is_v5 m c) fun j a => (win0_1.rect_emb_val t j a rfl).trans (by rw [index1 t])

theorem block2 (t : Fin cfg0.N) : Is2 (n := 1024) (m := 1024) (iblk m c 2 t) fun a b => rows (m ((c : Thread nD τ).loc main_arg2)) (1024 * (t.val / 2) + a) (1024 * 0 + b) :=
  is2_block (p := t.val / 2) (q := 0) (e := ((cfg0.win 2).blk t).view.emb) (is_v7 m c) fun j a => (win0_2.rect_emb_val t j a rfl).trans (by rw [index2 t])

theorem block3 (t : Fin cfg0.N) : Is2 (n := 2048) (m := 1024) (iblk m c 3 t) fun a b => mat (m ((c : Thread nD τ).loc main_arg3)) (0 + (2048 * 0 + a)) (5184 + (1024 * (t.val % 2) + b)) :=
  is2_block (p := 0) (q := t.val % 2) (e := ((cfg0.win 3).blk t).view.emb) (is_v8 m c) fun j a => (win0_3.rect_emb_val t j a rfl).trans (by rw [index3 t])

theorem block4 (t : Fin cfg0.N) : Is2 (n := 2048) (m := 1024) (iblk m c 4 t) fun a b => mat (m ((c : Thread nD τ).loc main_arg3)) (0 + (2048 * 0 + a)) (7232 + (1024 * (t.val % 2) + b)) :=
  is2_block (p := 0) (q := t.val % 2) (e := ((cfg0.win 4).blk t).view.emb) (is_v9 m c) fun j a => (win0_4.rect_emb_val t j a rfl).trans (by rw [index4 t])

theorem block5 (t : Fin cfg0.N) : Is2 (n := 1024) (m := 1024) (iblk m c 5 t) fun a b => mat (m ((c : Thread nD τ).loc main_arg4)) (1024 * 0 + a) (1024 * (t.val % 2) + b) :=
  is2_block (p := 0) (q := t.val % 2) (e := ((cfg0.win 5).blk t).view.emb) (is_v11 m c) fun j a => (win0_5.rect_emb_val t j a rfl).trans (by rw [index5 t])

theorem block6 (t : Fin cfg0.N) : Is2 (n := 1024) (m := 1024) (iblk m c 6 t) fun a b => mat (m ((c : Thread nD τ).loc main_arg5)) (1024 * 0 + a) (1024 * (t.val % 2) + b) :=
  is2_block (p := 0) (q := t.val % 2) (e := ((cfg0.win 6).blk t).view.emb) (is_v13 m c) fun j a => (win0_6.rect_emb_val t j a rfl).trans (by rw [index6 t])

theorem zero2 : (![0, 0] : Fin 2 → ℕ) = fun _ => 0 := by funext a; match a with | ⟨0, _⟩ => rfl | ⟨1, _⟩ => rfl

/-- What one point stores. -/
theorem point (t : Fin cfg0.N) : Is2 (n := 1024) (m := 1024) (out0_7 (iblk m c 0 t) (iblk m c 1 t) (iblk m c 2 t) (iblk m c 3 t) (iblk m c 4 t) (iblk m c 5 t) (iblk m c 6 t))
    fun a b => res m c (1024 * (t.val / 2) + a) (1024 * (t.val % 2) + b) := by
  unfold out0_7
  rw [View.canon_unit_zero zero2]
  simp only [View.ld_unit_zero (S := S1024x2048) zero2, View.ld_unit_zero (S := S1024x1024) zero2, View.ld_unit_zero (S := S2048x1024) zero2]
  unfold k0_pay1
  refine (is2_truncf (φ := .f32) (ψ := .bf16) (is2_addf (φ := .f32)
    (is2_mulf (φ := .f32) (is2_logistic (φ := .f32) (is2_matmul (n := 1024) (k := 2048) (m := 1024) (prec := none) (φ₁ := .bf16) (φ₂ := .bf16) (is2_self (block0 m c t) _) (is2_self (block3 m c t) _) rfl))
      (is2_matmul (n := 1024) (k := 1024) (m := 1024) (prec := none) (φ₁ := .bf16) (φ₂ := .bf16) (is2_self (block1 m c t) _) (is2_self (block5 m c t) _) rfl))
    (is2_mulf (φ := .f32) (is2_logistic (φ := .f32) (is2_matmul (n := 1024) (k := 2048) (m := 1024) (prec := none) (φ₁ := .bf16) (φ₂ := .bf16) (is2_self (block0 m c t) _) (is2_self (block4 m c t) _) rfl))
      (is2_matmul (n := 1024) (k := 1024) (m := 1024) (prec := none) (φ₁ := .bf16) (φ₂ := .bf16) (is2_self (block2 m c t) _) (is2_self (block6 m c t) _) rfl))) _).congr fun a _ b _ => ?_
  simp only [Nat.mul_zero, Nat.zero_add]
  rfl

/-- The array the call leaves, read at an index. -/
theorem result (r : Fin 16384) (n : Fin 2048) : ((dats m 0 c).arrAt 7 cfg0.N : S16384x2048.Idx → EReal) (ix2 r n) = res m c r.val n.val := by
  have hr := r.isLt
  have hn := n.isLt
  obtain ⟨t, ht⟩ : ∃ t : Fin cfg0.N, t.val = r.val / 1024 * 2 + n.val / 1024 := ⟨⟨r.val / 1024 * 2 + n.val / 1024, by show _ < 32; omega⟩, rfl⟩
  have h := (Value.blocks7 m c t (flush0_7 t)).trans (Value.flushed7 m c t)
  refine of_block (n := 1024) (m := 1024) (p := t.val / 2) (q := t.val % 2) (f := res m c) (e := ((cfg0.win 7).blk t).view.emb) (fun j => (congrFun h j).trans (point m c t j))
    (fun j a => (win0_7.rect_emb_val t j a rfl).trans (by rw [index7 t])) r n (by omega) (by omega)

/-! ### The reference -/

section Reference
open Cert.MixReferenceIdeal.Read

variable (x : S4x4096x2048.Idx → EReal) (y z : S4x4096x1024.Idx → EReal) (w : S1x2048x9280.Idx → EReal) (u v : S1x1024x2048.Idx → EReal)
  (b : Fin 4) (s : Fin 4096) (n : Fin 2048)

theorem one_bits : Ideal.ofBits .f32 0x3F800000#32 = 1 := by
  simp [Ideal.ofBits, Ideal.ieee]
  rw [← EReal.coe_mul]
  norm_num

/-- A column of the input projection. -/
theorem product_at (k : Fin 9280) : (val_main_v1 (F := Ideal) x w (ix3 b s k) : EReal) = ∑ j ∈ Finset.range 2048, rows x (4096 * b.val + s.val) j * mat w j k.val := by
  rw [val_main_v1_apply, Finset.sum_range]
  refine Finset.sum_congr rfl fun j _ => ?_
  rw [rows_at]
  refine congrArg₂ (· * ·) (congrArg x ?_) (is2_mat (k := 2048) (l := 9280) w _ _)
  funext a
  match a with
  | ⟨0, _⟩ => rfl
  | ⟨1, _⟩ => rfl
  | ⟨2, _⟩ => rfl

theorem gate_of (t : EReal) : Ideal.div (Ideal.ofBits .f32 0x3F800000#32) (Ideal.ofBits .f32 0x3F800000#32 + Ideal.exp (-t)) = Ideal.logistic t := by
  rw [one_bits]; rfl

theorem gateA_at : (val_main_v15 (F := Ideal) x w (ix3 b s n) : EReal) = gate x w 5184 (4096 * b.val + s.val) n.val := by
  have hn := n.isLt
  rw [val_main_v15_apply, val_main_v13_apply, val_main_v14_apply, val_main_v12_apply, val_main_v11_apply, val_main_v10_apply, val_main_v8_apply, val_main_cst_apply, val_main_cst_0_apply]
  refine (gate_of _).trans (congrArg Ideal.logistic ?_)
  have e : idx_main_v8 (ix3 b s n) = ix3 b s (⟨5184 + n.val, by omega⟩ : Fin 9280) := by
    funext a
    match a with
    | ⟨0, _⟩ => exact Fin.ext rfl
    | ⟨1, _⟩ => exact Fin.ext rfl
    | ⟨2, _⟩ => rfl
  rw [e]
  exact product_at x w b s _

theorem gateB_at : (val_main_v24 (F := Ideal) x w (ix3 b s n) : EReal) = gate x w 7232 (4096 * b.val + s.val) n.val := by
  have hn := n.isLt
  rw [val_main_v24_apply, val_main_v22_apply, val_main_v23_apply, val_main_v21_apply, val_main_v20_apply, val_main_v19_apply, val_main_v9_apply, val_main_cst_1_apply, val_main_cst_2_apply]
  refine (gate_of _).trans (congrArg Ideal.logistic ?_)
  have e : idx_main_v9 (ix3 b s n) = ix3 b s (⟨7232 + n.val, by omega⟩ : Fin 9280) := by
    funext a
    match a with
    | ⟨0, _⟩ => exact Fin.ext rfl
    | ⟨1, _⟩ => exact Fin.ext rfl
    | ⟨2, _⟩ => rfl
  rw [e]
  exact product_at x w b s _

theorem partA_at : (val_main_v17 (F := Ideal) y u (ix3 b s n) : EReal) = part y u (4096 * b.val + s.val) n.val := by
  rw [val_main_v17_apply]
  unfold part
  rw [Finset.sum_range]
  refine Finset.sum_congr rfl fun j _ => ?_
  rw [rows_at]
  refine congrArg₂ (· * ·) (congrArg y ?_) (is2_mat (k := 1024) (l := 2048) u _ _)
  funext a
  match a with
  | ⟨0, _⟩ => rfl
  | ⟨1, _⟩ => rfl
  | ⟨2, _⟩ => rfl

theorem partB_at : (val_main_v26 (F := Ideal) z v (ix3 b s n) : EReal) = part z v (4096 * b.val + s.val) n.val := partA_at z v b s n

theorem sum_at : (val_main_v28 (F := Ideal) x y z w u v (ix3 b s n) : EReal) = out x y z w u v (4096 * b.val + s.val) n.val := by
  rw [val_main_v28_apply, val_main_v18_apply, val_main_v27_apply, gateA_at, gateB_at, partA_at, partB_at]
  rfl

theorem rows_at_v29 (r : Fin 16384) : (val_main_v29 (F := Ideal) x y z w u v (ix2 r n) : EReal) = rows (val_main_v28 (F := Ideal) x y z w u v) r.val n.val := by
  unfold val_main_v29
  generalize val_main_v28 (F := Ideal) x y z w u v = f
  exact is2_rows (k := 2048) f shapeCasts_S4x4096x2048_S16384x2048 (ix2 r n)

theorem truncf_id (h) (t : EReal) : (FloatOps.truncf (F := Ideal) (φ := .f32) .bf16 h t : EReal) = t := rfl

theorem reference_at (r : Fin 16384) : (val_main_v30 (F := Ideal) x y z w u v (ix2 r n) : EReal) = out x y z w u v r.val n.val := by
  have hr := r.isLt
  obtain ⟨b, s, e⟩ : ∃ (b : Fin 4) (s : Fin 4096), r.val = 4096 * b.val + s.val := ⟨⟨r.val / 4096, by omega⟩, ⟨r.val % 4096, by omega⟩, by show r.val = 4096 * (r.val / 4096) + r.val % 4096; omega⟩
  rw [val_main_v30_apply, truncf_id, rows_at_v29, e, rows_at, sum_at]

end Reference

/-- The call's result array is the reference's. -/
theorem result_eq : ((dats m 0 c).arrAt 7 cfg0.N : S16384x2048.Idx → EReal)
    = Cert.MixReferenceIdeal.Read.val_main_v30 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  funext i
  rw [eq_ix2 i]
  exact (result m c (i 0) (i 1)).trans (reference_at _ _ _ _ _ _ (i 1) (i 0)).symm

end Cert.Mix
-- ==== Proof.Outproj.lean ====
module

public import proofs.«01_k».proof.Proof.Entry
public import proofs.«01_k».proof.Proof.Rows
public import proofs.«01_k».proof.Proof.Gen.OutprojIdeal.Value
public import proofs.«01_k».proof.Proof.Gen.OutprojReferenceIdeal.Read

@[expose] public section

set_option maxRecDepth 16384

noncomputable section

/-! The output projection with its residual: the call's array, the reference, and their equality. -/

namespace Cert.Outproj

open Idealize.ShloMosaic hiding ix0 ix1 ix2 ix3 ix4 ix5 eq_ix1 eq_ix2 eq_ix3 eq_ix4 eq_ix5
open Idealize.ShloMosaic.ValueIdx
open Idealize.ShloMosaic.TcCoe Cert.Words Cert.Entry Cert.Rows Cert.OutprojIdeal Cert.OutprojIdeal.Gen

/-- The rows with the product added, as a function of the row and the column. -/
def out (x y : S4x4096x2048.Idx → EReal) (w : S1x2048x2048.Idx → EReal) (r n : ℕ) : EReal := rows x r n + ∑ j ∈ Finset.range 2048, rows y r j * mat w j n

/-! ### The call -/

variable (m : (ℓ : Loc nD τ sig) → Buf (Elt Ideal) ℓ) (c : Dev nD)

/-- The call's result. -/
abbrev res : ℕ → ℕ → EReal := out (m ((c : Thread nD τ).loc main_arg0)) (m ((c : Thread nD τ).loc main_arg1)) (m ((c : Thread nD τ).loc main_arg2))

/-- The buffers written, in order. -/
abbrev hostWritten : List (Ref sig .tc) := [main_v0, main_v1, main_v2, main_v3, main_v4]

theorem host_writes : (hostOps0 (F := Ideal)).map HloOp.writes = hostWritten.map fun w => {Proc.devRef (τ := τ) .tc w} := rfl

theorem is_v0 : Is2 (n := 16384) (m := 2048) (V m c main_v0) (rows (m ((c : Thread nD τ).loc main_arg0))) := by
  rw [show V m c main_v0 = shapeCast _ (V m c main_arg0) shapeCasts_S4x4096x2048_S16384x2048 from ssaR host_writes 0 rfl (by decide) (by decide) _, V_main_arg0]
  exact is2_rows (k := 2048) _ _

theorem is_v2 : Is2 (n := 16384) (m := 2048) (V m c main_v2) (rows (m ((c : Thread nD τ).loc main_arg1))) := by
  rw [show V m c main_v2 = ((truncf (F := Ideal) (φ := .f32) .bf16 · bitsLt_bf16_f32) : (⟨S16384x2048, .f32⟩ : BufTy).Contents (Elt Ideal) → (⟨S16384x2048, .bf16⟩ : BufTy).Contents (Elt Ideal)) (V m c main_v1)
      from ssa1 host_writes 2 rfl (by decide) (by decide) _,
    show V m c main_v1 = shapeCast _ (V m c main_arg1) shapeCasts_S4x4096x2048_S16384x2048 from ssaR host_writes 1 rfl (by decide) (by decide) _, V_main_arg1]
  exact is2_rows (k := 2048) _ _

theorem is_v4 : Is2 (n := 2048) (m := 2048) (V m c main_v4) (mat (m ((c : Thread nD τ).loc main_arg2))) := by
  rw [show V m c main_v4 = ((truncf (F := Ideal) (φ := .f32) .bf16 · bitsLt_bf16_f32) : (⟨S2048x2048, .f32⟩ : BufTy).Contents (Elt Ideal) → (⟨S2048x2048, .bf16⟩ : BufTy).Contents (Elt Ideal)) (V m c main_v3)
      from ssa1 host_writes 4 rfl (by decide) (by decide) _,
    show V m c main_v3 = shapeCast _ (V m c main_arg2) shapeCasts_S1x2048x2048_S2048x2048 from ssaR host_writes 3 rfl (by decide) (by decide) _, V_main_arg2]
  exact is2_mat (k := 2048) (l := 2048) _ _

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![0, 0] := by decide +kernel
theorem index3 : ∀ t : Fin cfg0.N, win0_3.index t = ![t.val, 0] := by decide +kernel

theorem block0 (t : Fin cfg0.N) : Is2 (n := 512) (m := 2048) (iblk m c 0 t) fun a b => rows (m ((c : Thread nD τ).loc main_arg0)) (512 * t.val + a) (2048 * 0 + b) :=
  is2_block (p := t.val) (q := 0) (e := ((cfg0.win 0).blk t).view.emb) (is_v0 m c) fun j a => (win0_0.rect_emb_val t j a rfl).trans (by rw [index0 t])

theorem block1 (t : Fin cfg0.N) : Is2 (n := 512) (m := 2048) (iblk m c 1 t) fun a b => rows (m ((c : Thread nD τ).loc main_arg1)) (512 * t.val + a) (2048 * 0 + b) :=
  is2_block (p := t.val) (q := 0) (e := ((cfg0.win 1).blk t).view.emb) (is_v2 m c) fun j a => (win0_1.rect_emb_val t j a rfl).trans (by rw [index1 t])

theorem block2 (t : Fin cfg0.N) : Is2 (n := 2048) (m := 2048) (iblk m c 2 t) fun a b => mat (m ((c : Thread nD τ).loc main_arg2)) (2048 * 0 + a) (2048 * 0 + b) :=
  is2_block (p := 0) (q := 0) (e := ((cfg0.win 2).blk t).view.emb) (is_v4 m c) fun j a => (win0_2.rect_emb_val t j a rfl).trans (by rw [index2 t])

theorem zero2 : (![0, 0] : Fin 2 → ℕ) = fun _ => 0 := by funext a; match a with | ⟨0, _⟩ => rfl | ⟨1, _⟩ => rfl

/-- What one point stores. -/
theorem point (t : Fin cfg0.N) : Is2 (n := 512) (m := 2048) (out0_3 (iblk m c 0 t) (iblk m c 1 t) (iblk m c 2 t)) fun a b => res m c (512 * t.val + a) (2048 * 0 + b) := by
  unfold out0_3
  rw [View.canon_unit_zero zero2, View.ld_unit_zero (S := S512x2048) zero2, View.ld_unit_zero (S := S512x2048) zero2, View.ld_unit_zero (S := S2048x2048) zero2]
  unfold k0_pay1
  refine (is2_addf (φ := .f32) (is2_self (block0 m c t) _) (is2_matmul (n := 512) (k := 2048) (m := 2048) (prec := none) (φ₁ := .bf16) (φ₂ := .bf16) (is2_self (block1 m c t) _) (is2_self (block2 m c t) _) rfl)).congr
    fun a _ b _ => ?_
  simp only [Nat.mul_zero, Nat.zero_add]
  rfl

/-- The array the call leaves, read at an index. -/
theorem result (r : Fin 16384) (n : Fin 2048) : ((dats m 0 c).arrAt 3 cfg0.N : S16384x2048.Idx → EReal) (ix2 r n) = res m c r.val n.val := by
  have hr := r.isLt
  have hn := n.isLt
  obtain ⟨t, ht⟩ : ∃ t : Fin cfg0.N, t.val = r.val / 512 := ⟨⟨r.val / 512, by show _ < 32; omega⟩, rfl⟩
  have h := (Value.blocks3 m c t (flush0_3 t)).trans (Value.flushed3 m c t)
  refine of_block (n := 512) (m := 2048) (p := t.val) (q := 0) (f := res m c) (e := ((cfg0.win 3).blk t).view.emb) (fun j => (congrFun h j).trans (point m c t j))
    (fun j a => (win0_3.rect_emb_val t j a rfl).trans (by rw [index3 t])) r n (by omega) (by omega)

/-! ### The reference -/

section Reference
open Cert.OutprojReferenceIdeal.Read

variable (x y : S4x4096x2048.Idx → EReal) (w : S1x2048x2048.Idx → EReal)

theorem reference_at (r : Fin 16384) (n : Fin 2048) : (val_main_v3 (F := Ideal) x y w (ix2 r n) : EReal) = out x y w r.val n.val := by
  have h : (val_main_v3 (F := Ideal) x y w (ix2 r n) : EReal) = rows (val_main_v2 (F := Ideal) x y w) r.val n.val := is2_rows (k := 2048) _ _ (ix2 r n)
  rw [h]
  unfold rows out
  rw [val_main_v2_apply, val_main_v1_apply, Finset.sum_range]
  refine congrArg₂ (· + ·) rfl (Finset.sum_congr rfl fun j _ => ?_)
  unfold rows
  refine congrArg₂ (· * ·) (congrArg y ?_) ?_
  · rw [val_ofNat, val_ofNat]
    funext a
    match a with
    | ⟨0, _⟩ => rfl
    | ⟨1, _⟩ => rfl
    | ⟨2, _⟩ => rfl
  · refine (is2_mat (k := 2048) (l := 2048) w _ _).trans ?_
    show mat w j.val (n.val % 2048) = _
    rw [Nat.mod_eq_of_lt n.isLt]

end Reference

/-- The call's result array is the reference's. -/
theorem result_eq : ((dats m 0 c).arrAt 3 cfg0.N : S16384x2048.Idx → EReal)
    = Cert.OutprojReferenceIdeal.Read.val_main_v3 (F := Ideal) (m ((c.tc : Thread nD τ).loc main_arg0)) (m ((c.tc : Thread nD τ).loc main_arg1)) (m ((c.tc : Thread nD τ).loc main_arg2)) := by
  funext i
  rw [eq_ix2 i]
  exact (result m c (i 0) (i 1)).trans (reference_at _ _ _ (i 0) (i 1)).symm

end Cert.Outproj
-- ==== Proof.KvRun.lean ====
module

public import proofs.«01_k».proof.Proof.Gen.KvIdeal.Launch
public import proofs.«01_k».proof.Proof.Gen.KvIdeal.Skeleton
public import proofs.«01_k».proof.Proof.Gen.KvIdeal.Points
public import Idealize.ShloMosaic.Lib.Pipeline.FrameBody
public import Idealize.ShloMosaic.Lib.Pipeline.TableIdle
public import Idealize.ShloMosaic.Lib.Tactic
public import Idealize.ShloMosaic.Lib.Pipeline.Value

@[expose] public section

/-!
The body of `kv_f32` at its two kinds of grid points, over any float values.
At a point of the first column block it norms its rows into the scratch and stores the eight normed key heads.
At a point of the second it reads the scratch and stores the eight value heads.
Head `h` goes to every eighth row of the output from row `h` on.
-/

set_option maxRecDepth 16384

noncomputable section

namespace Cert.KvRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KvIdeal Cert.KvIdeal.Gen

variable {F : FTy → Type} [FloatOps F]

/-- Assertions about the machine that runs the call. -/
abbrev Prop' (F : FTy → Type) [FloatOps F] := sProp (MT nD τ sig Unit (Elt F) ℕ (UR sig nD τ) ℕ)

theorem zero_off : (![0, 0] : Fin 2 → ℕ) = fun _ => 0 := by funext a; fin_cases a <;> rfl

/-- The stores of the eight key heads, the last one first. -/
def keyPieces (x0 : Vec F S512x2048 .f32) (x1 : Vec F S1x2048 .f32) (x2 : Vec F S2048x1024 .bf16) (x3 : Vec F S1x128 .f32) :
    List (View.Piece (Elt F) S4096x128 .f32) :=
  [
    ⟨⟨(⟨![7, 0], S512x128.size, ![8, 1], inb_S4096x128_S512x128_7_0_s_8_1⟩ : LoadRect S4096x128), spos_8_1⟩, k0_pay2 (k0_pay14 x0 x1 x2) x3⟩,
    ⟨⟨(⟨![6, 0], S512x128.size, ![8, 1], inb_S4096x128_S512x128_6_0_s_8_1⟩ : LoadRect S4096x128), spos_8_1⟩, k0_pay1 (k0_pay14 x0 x1 x2) x3⟩,
    ⟨⟨(⟨![5, 0], S512x128.size, ![8, 1], inb_S4096x128_S512x128_5_0_s_8_1⟩ : LoadRect S4096x128), spos_8_1⟩, k0_pay23 (k0_pay14 x0 x1 x2) x3⟩,
    ⟨⟨(⟨![4, 0], S512x128.size, ![8, 1], inb_S4096x128_S512x128_4_0_s_8_1⟩ : LoadRect S4096x128), spos_8_1⟩, k0_pay22 (k0_pay14 x0 x1 x2) x3⟩,
    ⟨⟨(⟨![3, 0], S512x128.size, ![8, 1], inb_S4096x128_S512x128_3_0_s_8_1⟩ : LoadRect S4096x128), spos_8_1⟩, k0_pay21 (k0_pay18 (k0_pay14 x0 x1 x2)) (k0_pay19 x3) (k0_pay20 (k0_pay14 x0 x1 x2))⟩,
    ⟨⟨(⟨![2, 0], S512x128.size, ![8, 1], inb_S4096x128_S512x128_2_0_s_8_1⟩ : LoadRect S4096x128), spos_8_1⟩, k0_pay17 (k0_pay14 x0 x1 x2) x3⟩,
    ⟨⟨(⟨![1, 0], S512x128.size, ![8, 1], inb_S4096x128_S512x128_1_0_s_8_1⟩ : LoadRect S4096x128), spos_8_1⟩, k0_pay16 (k0_pay14 x0 x1 x2) x3⟩,
    ⟨⟨(⟨![0, 0], S512x128.size, ![8, 1], inb_S4096x128_S512x128_0_0_s_8_1⟩ : LoadRect S4096x128), spos_8_1⟩, k0_pay15 x0 x1 x2 x3⟩]

/-- The stores of the eight value heads, the last one first. -/
def valPieces (xs : Vec F S512x2048 .bf16) (x2 : Vec F S2048x1024 .bf16) : List (View.Piece (Elt F) S4096x128 .f32) :=
  [
    ⟨⟨(⟨![7, 0], S512x128.size, ![8, 1], inb_S4096x128_S512x128_7_0_s_8_1⟩ : LoadRect S4096x128), spos_8_1⟩, k0_pay11 xs x2⟩,
    ⟨⟨(⟨![6, 0], S512x128.size, ![8, 1], inb_S4096x128_S512x128_6_0_s_8_1⟩ : LoadRect S4096x128), spos_8_1⟩, k0_pay10 xs x2⟩,
    ⟨⟨(⟨![5, 0], S512x128.size, ![8, 1], inb_S4096x128_S512x128_5_0_s_8_1⟩ : LoadRect S4096x128), spos_8_1⟩, k0_pay9 xs x2⟩,
    ⟨⟨(⟨![4, 0], S512x128.size, ![8, 1], inb_S4096x128_S512x128_4_0_s_8_1⟩ : LoadRect S4096x128), spos_8_1⟩, k0_pay8 xs x2⟩,
    ⟨⟨(⟨![3, 0], S512x128.size, ![8, 1], inb_S4096x128_S512x128_3_0_s_8_1⟩ : LoadRect S4096x128), spos_8_1⟩, k0_pay7 xs x2⟩,
    ⟨⟨(⟨![2, 0], S512x128.size, ![8, 1], inb_S4096x128_S512x128_2_0_s_8_1⟩ : LoadRect S4096x128), spos_8_1⟩, k0_pay6 xs x2⟩,
    ⟨⟨(⟨![1, 0], S512x128.size, ![8, 1], inb_S4096x128_S512x128_1_0_s_8_1⟩ : LoadRect S4096x128), spos_8_1⟩, k0_pay5 xs x2⟩,
    ⟨⟨(⟨![0, 0], S512x128.size, ![8, 1], inb_S4096x128_S512x128_0_0_s_8_1⟩ : LoadRect S4096x128), spos_8_1⟩, k0_pay4 xs x2⟩]

/-- The one store of the normed rows into the scratch. -/
def normPieces (x0 : Vec F S512x2048 .f32) (x1 : Vec F S1x2048 .f32) : List (View.Piece (Elt F) S512x2048 .bf16) :=
  [⟨Rect.unit (s := S512x2048) ![0, 0] S512x2048.size inb_S512x2048_S512x2048_0_0, k0_pay13 x0 x1⟩]

set_option maxHeartbeats 1000000 in
/-- At a point of the first column block the body leaves its inputs alone and stores the normed rows and the key heads. -/
theorem run_keys (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S512x2048 .bf16) (harg8 : arg8.IsWhole)
    (hk : k0_cond1 i = 1#1) (hv : ¬k0_cond2 i = 1#1)
    (x0 : Vec F S512x2048 .f32) (x1 : Vec F S1x2048 .f32) (x2 : Vec F S2048x1024 .bf16) (x3 : Vec F S1x128 .f32)
    (E : Set ℕ) (K : PUnit → Prop' F) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ (∃ f, arg6.view.loc (c : Thread nD τ) ↦[arg6.view.set]{fullShare} arg6.view.writes (Elt F) f (keyPieces x0 x1 x2 x3))
            ∗ (∃ f, arg8.view.loc (c : Thread nD τ) ↦[arg8.view.set]{fullShare} arg8.view.writes (Elt F) f (normPieces x0 x1))) -∗ K ⟨⟩))
      ⊢ wp frame (wpE (defs₀ (F := F)) Variants.none c none) E (cc0_kv_f32 i arg2 harg2 arg3 harg3 arg4 harg4 arg5 harg5 arg6 harg6 arg7 harg7 arg8 harg8) K := by
  simp only [cc0_kv_f32_eq_skeleton]; unfold cc0_kv_f32_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | sl_exact hk | sl_exact hv)
  sl_step
  simp only [View.readAt_eq_ld, harg2.read_unread, harg3.read_unread, harg4.read_unread, harg5.read_unread, View.ld_unit_zero (S := S512x2048) zero_off, View.ld_unit_zero (S := S1x2048) zero_off,
    View.ld_unit_zero (S := S2048x1024) zero_off, View.ld_unit_zero (S := S1x128) zero_off]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; unfold keyPieces; iexact H4
  iexists _; unfold normPieces; iexact HS0

set_option maxHeartbeats 1000000 in
/-- At a point of the second column block the body reads the scratch and stores the value heads. -/
theorem run_vals (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S512x2048 .bf16) (harg8 : arg8.IsWhole)
    (hk : ¬k0_cond1 i = 1#1) (hv : k0_cond2 i = 1#1)
    (x2 : Vec F S2048x1024 .bf16) (xs : Vec F S512x2048 .bf16)
    (E : Set ℕ) (K : PUnit → Prop' F) :
    iprop(owns (c : Thread nD τ) arg4 fullShare x2 ∗ (∃ d, owns (c : Thread nD τ) arg7 fullShare d) ∗ owns (c : Thread nD τ) arg8 fullShare xs
        ∗ (iprop(owns (c : Thread nD τ) arg4 fullShare x2
            ∗ (∃ f, arg7.view.loc (c : Thread nD τ) ↦[arg7.view.set]{fullShare} arg7.view.writes (Elt F) f (valPieces xs x2))
            ∗ owns (c : Thread nD τ) arg8 fullShare xs) -∗ K ⟨⟩))
      ⊢ wp frame (wpE (defs₀ (F := F)) Variants.none c none) E (cc0_kv_f32 i arg2 harg2 arg3 harg3 arg4 harg4 arg5 harg5 arg6 harg6 arg7 harg7 arg8 harg8) K := by
  simp only [cc0_kv_f32_eq_skeleton]; unfold cc0_kv_f32_skel
  unfold owns
  iintro ⟨⟨%f2, %hf2, H2⟩, ⟨%d5, %f5, -, H5⟩, ⟨%fs0, %hfs0, HS0⟩, Hk⟩
  obtain rfl := harg4.eq_unread hf2; obtain rfl := harg8.eq_unread hfs0
  sl_exec (disch := first | sl_exact hk | sl_exact hv)
  sl_step
  simp only [View.readAt_eq_ld, harg4.read_unread, harg8.read_unread, View.ld_unit_zero (S := S512x2048) zero_off, View.ld_unit_zero (S := S2048x1024) zero_off]
  iapply Hk
  isplitl [H2]
  · iexists _; isplitr; · ipureintro; exact harg4.read_unread _
    iexact H2
  isplitl [H5]
  · iexists _; unfold valPieces; iexact H5
  iexists _; isplitr; · ipureintro; exact harg8.read_unread _
  iexact HS0

end Cert.KvRun

end
-- ==== Proof.KvFrame.lean ====
module

public import proofs.«01_k».proof.Proof.KvRun
public import proofs.«01_k».proof.Proof.Basic
public import Idealize.ShloMosaic.Lib.Pipeline.Frame

@[expose] public section

/-!
The run of the whole `kv_f32` call over any float values, and its frame.
Points come in pairs, one pair for each block of 512 rows.
The first of a pair leaves the normed rows in the scratch and the keys in their window.
The second finds both as they were left, and leaves the values in theirs.
-/

set_option maxRecDepth 16384

noncomputable section

namespace Cert.KvRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KvIdeal Cert.KvIdeal.Gen

variable {F : FTy → Type} [FloatOps F]

/-! ## Eight heads in one array -/

/-- The rows of head `h`: every eighth from row `h` on. -/
def headRect (h : Fin 8) : Rect S4096x128 :=
  ⟨⟨![h.val, 0], S512x128.size, ![8, 1], fun a => by have := h.isLt; fin_cases a <;> simp [S512x128, S4096x128] <;> omega⟩, spos_8_1⟩

/-- Eight heads, head `h` of row `r` at row `8 r + h`. -/
def interleave (p : Fin 8 → FVec F S512x128 .f32) : Vec F S4096x128 .f32 := fun y =>
  p ⟨(y 0).val % 8, Nat.mod_lt _ (by decide)⟩ (ix2 (⟨(y 0).val / 8, by have : (y 0).val < 4096 := (y 0).isLt; omega⟩ : Fin 512) (y 1 : Fin 128))

/-- Storing the eight heads, the last one first. -/
def heads (p : Fin 8 → FVec F S512x128 .f32) : List (View.Piece (Elt F) S4096x128 .f32) :=
  [7, 6, 5, 4, 3, 2, 1, 0].map fun h => ⟨headRect h, p h⟩

theorem interleave_at (p : Fin 8 → FVec F S512x128 .f32) (h : Fin 8) (x : (headRect h).shape.Idx) : p h x = interleave p ((headRect h).emb x) := by
  have hh := h.isLt
  have h0 : ((headRect h).emb x 0).val = h.val + 8 * (x 0).val := rfl
  have h1 : ((headRect h).emb x 1).val = 0 + 1 * (x 1).val := rfl
  unfold interleave
  have eh : (⟨((headRect h).emb x 0).val % 8, Nat.mod_lt _ (by decide)⟩ : Fin 8) = h := Fin.ext (by show ((headRect h).emb x 0).val % 8 = h.val; rw [h0]; omega)
  rw [eh]
  refine congrArg (p h) (funext fun a => Fin.ext ?_)
  match a with
  | ⟨0, _⟩ => show (x 0).val = ((headRect h).emb x 0).val / 8; rw [h0]; omega
  | ⟨1, _⟩ => show (x 1).val = ((headRect h).emb x 1).val; rw [h1]; omega

/-- Whatever the array held before, it then holds the heads interleaved. -/
theorem read_heads {κ : Kind} {sp : Space} (v : View sig κ sp S4096x128 .f32) (f : v.ty.Contents (Elt F)) (p : Fin 8 → FVec F S512x128 .f32) :
    v.read (Elt F) (v.writes (Elt F) f (heads p)) = interleave p := funext fun y => by
  refine View.read_writes_apply_of_pieces v f (interleave p) (heads p) (fun q hq => ?_) y ⟨⟨headRect ⟨(y 0).val % 8, Nat.mod_lt _ (by decide)⟩, p ⟨(y 0).val % 8, Nat.mod_lt _ (by decide)⟩⟩, ?_, ?_⟩
  · obtain ⟨h, -, rfl⟩ := List.mem_map.mp hq
    exact interleave_at p h
  · exact List.mem_map.mpr ⟨_, (by decide : ∀ h : Fin 8, h ∈ [7, 6, 5, 4, 3, 2, 1, 0]) _, rfl⟩
  · have hy : (y 0).val < 4096 := (y 0).isLt
    have hz : (y 1).val < 128 := (y 1).isLt
    refine (headRect ⟨(y 0).val % 8, Nat.mod_lt _ (by decide)⟩).toLoadRect.mem_set.mpr fun a => ?_
    match a with
    | ⟨0, _⟩ => exact ⟨(y 0).val / 8, (by show (y 0).val / 8 < 512; omega), by show (y 0).val = (y 0).val % 8 + 8 * ((y 0).val / 8); omega⟩
    | ⟨1, _⟩ => exact ⟨(y 1).val, (by show (y 1).val < 128; omega), by show (y 1).val = 0 + 1 * (y 1).val; omega⟩

/-- The eight key heads of a row block. -/
def keyHead (x0 : Vec F S512x2048 .f32) (x1 : Vec F S1x2048 .f32) (x2 : Vec F S2048x1024 .bf16) (x3 : Vec F S1x128 .f32) : Fin 8 → FVec F S512x128 .f32 :=
  ![k0_pay15 x0 x1 x2 x3,
    k0_pay16 (k0_pay14 x0 x1 x2) x3,
    k0_pay17 (k0_pay14 x0 x1 x2) x3,
    k0_pay21 (k0_pay18 (k0_pay14 x0 x1 x2)) (k0_pay19 x3) (k0_pay20 (k0_pay14 x0 x1 x2)),
    k0_pay22 (k0_pay14 x0 x1 x2) x3,
    k0_pay23 (k0_pay14 x0 x1 x2) x3,
    k0_pay1 (k0_pay14 x0 x1 x2) x3,
    k0_pay2 (k0_pay14 x0 x1 x2) x3]

/-- The eight value heads of a row block, from its normed rows. -/
def valHead (xs : Vec F S512x2048 .bf16) (x2 : Vec F S2048x1024 .bf16) : Fin 8 → FVec F S512x128 .f32 :=
  ![k0_pay4 xs x2,
    k0_pay5 xs x2,
    k0_pay6 xs x2,
    k0_pay7 xs x2,
    k0_pay8 xs x2,
    k0_pay9 xs x2,
    k0_pay10 xs x2,
    k0_pay11 xs x2]

theorem keyPieces_eq (x0 : Vec F S512x2048 .f32) (x1 : Vec F S1x2048 .f32) (x2 : Vec F S2048x1024 .bf16) (x3 : Vec F S1x128 .f32) :
    keyPieces x0 x1 x2 x3 = heads (keyHead x0 x1 x2 x3) := rfl

theorem valPieces_eq (xs : Vec F S512x2048 .bf16) (x2 : Vec F S2048x1024 .bf16) : valPieces xs x2 = heads (valHead xs x2) := rfl

/-- Whatever the scratch held before, it then holds the normed rows. -/
theorem read_norm {κ : Kind} {sp : Space} (v : View sig κ sp S512x2048 .bf16) (f : v.ty.Contents (Elt F)) (x0 : Vec F S512x2048 .f32) (x1 : Vec F S1x2048 .f32) :
    v.read (Elt F) (v.writes (Elt F) f (normPieces x0 x1)) = k0_pay13 x0 x1 := funext fun y => by
  refine View.read_writes_apply_of_pieces v f (k0_pay13 x0 x1) _ (fun q hq x => ?_) y ⟨_, List.mem_singleton_self _, View.mem_set_unit_zero (S := S512x2048) zero_off inb_S512x2048_S512x2048_0_0 y⟩
  obtain rfl := List.mem_singleton.mp hq
  exact (congrFun (View.ld_unit_zero (S := S512x2048) (Val := Elt F) (e := .bf16) zero_off inb_S512x2048_S512x2048_0_0 (k0_pay13 x0 x1)) x).symm

/-! ## The host operations before the call -/

variable (m : (ℓ : Loc nD τ sig) → Buf (Elt F) ℓ) (ρ : Dev nD → PrngReg)

/-- What core `c`'s buffers hold when the call is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the host operations before the call writes is found as launched. -/
theorem V_arg (c : Dev nD) (b : Ref sig .tc) (h : ∀ b' ∈ [main_v0, main_v1, main_v2, main_v3, main_v4, main_v5, main_v6], b ≠ b') :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    refine ⟨?_, ?_, ?_, ?_, ?_, ?_, ?_⟩ <;> exact StableHlo.devRef_ne_of_ne (h _ (by simp))))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The weights' blocks that the points ask for lie inside the array. -/
theorem weight_size : ∀ (t : Fin cfg0.N) (a : Fin 2), (cfg0.win 2).xsize (cfg0.grid.coords t) a = S2048x1024.size a :=
  (by decide +kernel : ∀ (t : Fin grid0.N) (a : Fin 2), win0_2.xsize (grid0.coords t) a = S2048x1024.size a)

/-- The weights' block at point `t`. -/
def wblk (c : Dev nD) (t : Fin cfg0.N) : Vec F S2048x1024 .bf16 := fun j => iblk m c 2 t fun a => ⟨(j a).val, (j a).isLt.trans_eq (weight_size t a).symm⟩

/-! ## What the buffers hold after each point -/

theorem first_block : ∀ t : Fin cfg0.N, k0_cond1 (grid0.coords t) = 1#1 ↔ t.val % 2 = 0 :=
  (by decide +kernel : ∀ t : Fin grid0.N, k0_cond1 (grid0.coords t) = 1#1 ↔ t.val % 2 = 0)

theorem second_block : ∀ t : Fin cfg0.N, k0_cond2 (grid0.coords t) = 1#1 ↔ t.val % 2 = 1 :=
  (by decide +kernel : ∀ t : Fin grid0.N, k0_cond2 (grid0.coords t) = 1#1 ↔ t.val % 2 = 1)

/-- The first point of the pair of `t`. -/
def pairOf (t : Fin cfg0.N) : Fin cfg0.N := ⟨t.val - t.val % 2, by have := t.isLt; omega⟩

theorem pairOf_even (t : Fin cfg0.N) (h : t.val % 2 = 0) : pairOf t = t := Fin.ext (by show t.val - t.val % 2 = t.val; omega)

theorem pairOf_odd (t : Fin cfg0.N) (h : t.val % 2 = 1) : pairOf ⟨t.val - 1, by omega⟩ = pairOf t :=
  Fin.ext (by show t.val - 1 - (t.val - 1) % 2 = t.val - t.val % 2; omega)

/-- The normed rows of the pair of `t`. -/
def normAt (c : Dev nD) (t : Fin cfg0.N) : Vec F S512x2048 .bf16 := k0_pay13 (iblk m c 0 (pairOf t)) (iblk m c 1 (pairOf t))

/-- The keys of the pair of `t`. -/
def keysAt (c : Dev nD) (t : Fin cfg0.N) : Vec F S4096x128 .f32 :=
  interleave (keyHead (iblk m c 0 (pairOf t)) (iblk m c 1 (pairOf t)) (wblk m c (pairOf t)) (iblk m c 3 (pairOf t)))

/-- The values from the normed rows of the pair of `t` and the weights of `t`. -/
def valsAt (c : Dev nD) (t : Fin cfg0.N) : Vec F S4096x128 .f32 := interleave (valHead (normAt m c t) (wblk m c t))

theorem normAt_odd (c : Dev nD) (t : Fin cfg0.N) (h : t.val % 2 = 1) : normAt m c ⟨t.val - 1, by omega⟩ = normAt m c t := by
  unfold normAt; rw [pairOf_odd t h]

theorem keysAt_odd (c : Dev nD) (t : Fin cfg0.N) (h : t.val % 2 = 1) : keysAt m c ⟨t.val - 1, by omega⟩ = keysAt m c t := by
  unfold keysAt; rw [pairOf_odd t h]

/-- The scratch as the body holds it. -/
abbrev scratch : Memref sig .tc .vmem S512x2048 .bf16 := Memref.whole cc0_scratch0

/-- Between the points: the scratch, at the normed rows of the point before, and the generator. -/
def between (c : Dev nD) : (n : ℕ) → n ≤ cfg0.N → Prop' F
  | 0, _ => Pipeline.ΦA spec0 c
  | n + 1, hn => iprop((owns (c : Thread nD τ) scratch fullShare (normAt m c ⟨n, hn⟩)) ∗ (∃ r, prngReg c r))

theorem between_pos (c : Dev nD) (n : ℕ) (h : n ≤ cfg0.N) (hz : n ≠ 0) :
    between m c n h = iprop((owns (c : Thread nD τ) scratch fullShare (normAt m c ⟨n - 1, by omega⟩)) ∗ (∃ r, prngReg c r)) := by
  cases n with
  | zero => exact absurd rfl hz
  | succ n => rfl

theorem start_eq (c : Dev nD) : (Pipeline.ΦA spec0 c : Prop' F) = iprop((∃ d, owns (c : Thread nD τ) scratch fullShare d) ∗ (∃ r, prngReg c r)) := by
  unfold Pipeline.ΦA; rw [scopedRest0_eq]; simp only [scratch, owns_whole]; rfl

/-- The facts of the run, core by core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wblk m c t
    | ⟨3, _⟩ => iblk m c 3 t
    | ⟨4, _⟩ => keysAt m c t
    | ⟨5, _⟩ => valsAt m c t
  Φ t := between m c t.val (Nat.le_of_lt_succ t.isLt)
  q _ := fullShare
  owed _ := 0

theorem A_eq (c : Dev nD) (w : Fin cfg0.W) : (dats m 0 c).A w = V m c (Pipeline.arrRef spec0 w) := by dsimp only [dats]

theorem phi_eq (c : Dev nD) (t : Fin cfg0.N) : (dats m 0 c).Φ t.castSucc = between m c t.val (Nat.le_of_lt t.isLt) := by
  dsimp only [dats]; exact Pipeline.Dat.Φ_castSucc (between m c) t

theorem phi_succ (c : Dev nD) (t : Fin cfg0.N) :
    (dats m 0 c).Φ t.succ = iprop((owns (c : Thread nD τ) scratch fullShare (normAt m c t)) ∗ (∃ r, prngReg c r)) := rfl

/-- Before the second point of a pair the scratch holds the normed rows of the pair. -/
theorem phi_odd (c : Dev nD) (t : Fin cfg0.N) (h : t.val % 2 = 1) :
    (dats m 0 c).Φ t.castSucc = iprop((owns (c : Thread nD τ) scratch fullShare (normAt m c t)) ∗ (∃ r, prngReg c r)) := by
  rw [phi_eq, between_pos m c _ _ (by omega), normAt_odd m c t h]

/-- Before any point the scratch holds something. -/
theorem phi_any (c : Dev nD) (t : Fin (cfg0.N + 1)) :
    (dats m 0 c).Φ t ⊢ (iprop((∃ d, owns (c : Thread nD τ) scratch fullShare d) ∗ (∃ r, prngReg c r)) : Prop' F) := by
  rw [show (dats m 0 c).Φ t = between m c t.val (Nat.le_of_lt_succ t.isLt) from rfl]
  obtain ⟨n, hn⟩ := t
  cases n with
  | zero => rw [show between m c 0 _ = Pipeline.ΦA spec0 c from rfl, start_eq]
  | succ n =>
    rw [between_pos m c _ _ (Nat.succ_ne_zero n)]
    iintro ⟨HS, Hg⟩
    isplitl [HS]
    · iexists _; iexact HS
    iexact Hg

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = wblk m c t := by dsimp only [dats]
theorem after3 (c : Dev nD) (t : Fin cfg0.N) : (dats m 0 c).after 3 t = iblk m c 3 t := by dsimp only [dats]
theorem after4 (c : Dev nD) (t : Fin cfg0.N) : (dats m 0 c).after 4 t = keysAt m c t := by dsimp only [dats]
theorem after5 (c : Dev nD) (t : Fin cfg0.N) : (dats m 0 c).after 5 t = valsAt m c t := by dsimp only [dats]

/-- An input's buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]) t d).trans
    (by unfold Dat.fetched Dat.blockOf iblk; rw [A_eq]; try rfl)

/-- The weights' buffer holds its block at every point. -/
theorem before2 (c : Dev nD) (t : Fin cfg0.N) (d) : (dats m 0 c).before 2 t d = wblk m c t := by
  unfold Dat.before
  rw [if_pos (fetch0_2 t)]
  unfold Dat.fetched Dat.blockOf wblk iblk
  rw [A_eq]
  funext j
  unfold Window.fill
  rw [dif_pos (((cfg0.win 2).moved_iff _ _).mpr fun a => (j a).isLt.trans_eq (weight_size t a).symm)]

/-- The keys' buffer at the second point of a pair: what the first left. -/
theorem keys_before (c : Dev nD) (t : Fin cfg0.N) (h : t.val % 2 = 1) (d) : (dats m 0 c).before 4 t d = keysAt m c t := by
  rw [Dat.before_of_pos _ 4 t (by omega) rfl, if_neg (by
    rw [Bool.not_eq_true, ← Bool.not_eq_true, flush0_4]; show ¬(t.val - 1) % 2 = 1; omega)]
  unfold Dat.left
  have hi : cfg0.idle 4 (cfg0.grid.coords ⟨t.val - 1, Nat.lt_of_le_of_lt (Nat.sub_le _ _) t.isLt⟩) = false := by
    show (!(k0_cond1 (grid0.coords ⟨t.val - 1, Nat.lt_of_le_of_lt (Nat.sub_le _ _) t.isLt⟩) == 1#1)) = false
    rw [(first_block ⟨t.val - 1, Nat.lt_of_le_of_lt (Nat.sub_le _ _) t.isLt⟩).mpr (by show (t.val - 1) % 2 = 0; omega)]; rfl
  rw [hi]
  show (dats m 0 c).kept 4 _ d = _
  exact keysAt_odd m c t h

/-! ## The body at each point -/

abbrev M0 (t : Fin cfg0.N) : Memref sig .tc .vmem S512x2048 .f32 := win0_0.stage (cfg0.slots t 0)
abbrev M1 (t : Fin cfg0.N) : Memref sig .tc .vmem S1x2048 .f32 := win0_1.stage (cfg0.slots t 1)
abbrev M2 (t : Fin cfg0.N) : Memref sig .tc .vmem S2048x1024 .bf16 := win0_2.stage (cfg0.slots t 2)
abbrev M3 (t : Fin cfg0.N) : Memref sig .tc .vmem S1x128 .f32 := win0_3.stage (cfg0.slots t 3)
abbrev M4 (t : Fin cfg0.N) : Memref sig .tc .vmem S4096x128 .f32 := win0_4.stage (cfg0.slots t 4)
abbrev M5 (t : Fin cfg0.N) : Memref sig .tc .vmem S4096x128 .f32 := win0_5.stage (cfg0.slots t 5)

/-- What the body finds at point `t`. -/
def found (c : Dev nD) (t : Fin cfg0.N) : Prop' F :=
  iprop((dats m 0 c).Φ t.castSucc ∗ (dats m 0 c).owesAt () t.castSucc
    ∗ (∃ d, owns (c : Thread nD τ) (M0 t) fullShare ((dats m 0 c).before 0 t d))
    ∗ (∃ d, owns (c : Thread nD τ) (M1 t) fullShare ((dats m 0 c).before 1 t d))
    ∗ (∃ d, owns (c : Thread nD τ) (M2 t) fullShare ((dats m 0 c).before 2 t d))
    ∗ (∃ d, owns (c : Thread nD τ) (M3 t) fullShare ((dats m 0 c).before 3 t d))
    ∗ (∃ d, owns (c : Thread nD τ) (M4 t) fullShare ((dats m 0 c).before 4 t d))
    ∗ (∃ d, owns (c : Thread nD τ) (M5 t) fullShare ((dats m 0 c).before 5 t d)))

/-- What it leaves there. -/
def done (c : Dev nD) (t : Fin cfg0.N) : Prop' F :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- A window that the body stores into, or whose block goes out, is left at what the facts say. -/
theorem leaves_live (c : Dev nD) (w : Fin cfg0.W) (t : Fin cfg0.N) (h : cfg0.idle w (cfg0.grid.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [h]
  · rw [h]; cases cfg0.idle w (cfg0.grid.coords t) <;> rfl

set_option maxHeartbeats 1600000 in
theorem body_first (c : Dev nD) (t : Fin cfg0.N) (h : t.val % 2 = 0) :
    found m c t ⊢ wp frame (wpE (defs₀ (F := F)) Variants.none c none) Set.univ (bodyAt0 t) (fun _ => done m c t) := by
  have hk := (first_block t).mpr h
  have hv : ¬k0_cond2 (grid0.coords t) = 1#1 := fun e => by have := (second_block t).mp e; omega
  have hi : cfg0.idle 5 (cfg0.grid.coords t) = true := by
    show (!(k0_cond2 (grid0.coords t) == 1#1)) = true
    rw [beq_false_of_ne hv]; rfl
  have hl : cfg0.idle 4 (cfg0.grid.coords t) = false := by
    show (!(k0_cond1 (grid0.coords t) == 1#1)) = false
    rw [hk]; rfl
  have hf : (cfg0.win 5).flush t = false := by
    rw [← Bool.not_eq_true, flush0_5]; omega
  unfold found done bodyAt0
  simp only [before0, before1, before2, before3]
  rw [leaves_live m c 0 t (.inl rfl), leaves_live m c 1 t (.inl rfl), leaves_live m c 2 t (.inl rfl), leaves_live m c 3 t (.inl rfl),
    leaves_live m c 4 t (.inl hl), Dat.leavesExact_idle _ 5 t hi hf, after0, after1, after2, after3, after4, phi_succ]
  refine (Idealize.SL.BI.BIClass.sep_mono (phi_any m c t.castSucc) (Idealize.SL.BI.Entails.refl _)).trans ?_
  iintro ⟨⟨⟨%ds, HS⟩, Hg⟩, Ho, ⟨%d0, H0⟩, ⟨%d1, H1⟩, ⟨%d2, H2⟩, ⟨%d3, H3⟩, ⟨%d4, H4⟩, H5⟩
  iapply (run_keys c (grid0.coords t) _ _ _ _ _ _ _ _ _ _ _ _ _ _ hk hv (iblk m c 0 t) (iblk m c 1 t) (wblk m c t) (iblk m c 3 t) Set.univ _)
  isplitl [H0]; · iexact H0
  isplitl [H1]; · iexact H1
  isplitl [H2]; · iexact H2
  isplitl [H3]; · iexact H3
  isplitl [H4]; · iexists _; iexact H4
  isplitl [HS]; · iexists _; iexact HS
  iintro ⟨H0, H1, H2, H3, ⟨%e4, H4⟩, ⟨%es, HS⟩⟩
  isplitl [HS Hg]
  · isplitl [HS]
    · unfold owns; iexists _; isplitr
      swap; · iexact HS
      ipureintro; rw [read_norm]; unfold normAt; rw [pairOf_even t h]
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; rw [keyPieces_eq, read_heads]; unfold keysAt; rw [pairOf_even t h]
  iexact H5

set_option maxHeartbeats 1600000 in
theorem body_second (c : Dev nD) (t : Fin cfg0.N) (h : t.val % 2 = 1) :
    found m c t ⊢ wp frame (wpE (defs₀ (F := F)) Variants.none c none) Set.univ (bodyAt0 t) (fun _ => done m c t) := by
  have hv := (second_block t).mpr h
  have hk : ¬k0_cond1 (grid0.coords t) = 1#1 := fun e => by have := (first_block t).mp e; omega
  unfold found done bodyAt0
  simp only [before0, before1, before2, before3, keys_before m c t h]
  rw [leaves_live m c 0 t (.inl rfl), leaves_live m c 1 t (.inl rfl), leaves_live m c 2 t (.inl rfl), leaves_live m c 3 t (.inl rfl),
    leaves_live m c 4 t (.inr ((flush0_4 t).mpr h)), leaves_live m c 5 t (.inr ((flush0_5 t).mpr h)), after0, after1, after2, after3, after4, after5, phi_succ, phi_odd m c t h]
  iintro ⟨⟨HS, Hg⟩, Ho, ⟨%d0, H0⟩, ⟨%d1, H1⟩, ⟨%d2, H2⟩, ⟨%d3, H3⟩, ⟨%d4, H4⟩, ⟨%d5, H5⟩⟩
  iapply (run_vals c (grid0.coords t) _ _ _ _ _ _ _ _ _ _ _ _ _ _ hk hv (wblk m c t) (normAt m c t) Set.univ _)
  isplitl [H2]; · iexact H2
  isplitl [H5]; · iexists _; iexact H5
  isplitl [HS]; · iexact HS
  iintro ⟨H2, ⟨%e5, H5⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; rw [valPieces_eq, read_heads]; rfl

theorem body_at (c : Dev nD) (t : Fin cfg0.N) :
    found m c t ⊢ wp frame (wpE (defs₀ (F := F)) Variants.none c none) Set.univ (bodyAt0 t) (fun _ => done m c t) := by
  rcases Nat.mod_two_eq_zero_or_one t.val with h | h
  · exact body_first m c t h
  · exact body_second m c t h

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (body_at m c t) rfl .rfl fun _ => .rfl

/-! ## The run and the frame -/

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [start_eq]; exact phi_any m c _

set_option backward.isDefEq.respectTransparency.types false in
/-- The launch: what every array holds at the end, and every counter back at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- An argument that no window stages ends as launched. -/
theorem arg_end {r} (h : Pipeline.FramePost cfgs (dats m) 0 (V m) r) (c : Dev nD) (b : Ref sig .tc) (hb : b ∈ Pipeline.restRefs sig spec0)
    (hn : ∀ b' ∈ [main_v0, main_v1, main_v2, main_v3, main_v4, main_v5, main_v6], b ≠ b') :
    r.2.mem ((c.tc : Thread nD τ).loc b) = m ((c.tc : Thread nD τ).loc b) :=
  ((h c).2 b hb).trans (V_arg m c b hn)

/-- All four arguments end as launched. -/
theorem args_end {r} (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨arg_end m h c main_arg0 (Pipeline.mem_restRefs_of main_arg0 (by decide) (by decide)) (by decide),
    arg_end m h c main_arg1 (Pipeline.mem_restRefs_of main_arg1 (by decide) (by decide)) (by decide),
    arg_end m h c main_arg2 (Pipeline.mem_restRefs_of main_arg2 (by decide) (by decide)) (by decide),
    arg_end m h c main_arg3 (Pipeline.mem_restRefs_of main_arg3 (by decide) (by decide)) (by decide)⟩

/-- The call ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_end m h.1, h.2⟩) (run m ρ)

end Cert.KvRun

end
-- ==== Proof.KvHeads.lean ====
module

public import proofs.«01_k».proof.Proof.KvFrame
public import proofs.«01_k».proof.Proof.Rows

@[expose] public section

set_option maxRecDepth 16384

noncomputable section

/-! Keys and values as functions of natural coordinates, and what a pair of points computes of them. -/

namespace Cert.Kv

open Idealize.ShloMosaic hiding ix0 ix1 ix2 ix3 ix4 ix5 eq_ix1 eq_ix2 eq_ix3 eq_ix4 eq_ix5
open Idealize.ShloMosaic.ValueIdx
open Cert.Words Cert.Rows Cert.KvIdeal Cert.KvIdeal.Gen Cert.KvRun

/-- A vector over its mean square, times a gain. -/
def scaled (n : ℕ) (bits : BitVec 32) (y G : ℕ → EReal) (b : ℕ) : EReal :=
  y b * Ideal.rsqrt (Ideal.div (∑ j ∈ Finset.range n, y j * y j) (Ideal.ofBits .f32 bits) + Ideal.ofBits .f32 0x358637BD#32) * G b

/-- The one vector of a stack of one. -/
def vec {k : ℕ} [NeZero k] (g : (⟨2, ![1, k]⟩ : Shape).Idx → EReal) (j : ℕ) : EReal := g (ix2 0 (Fin.ofNat k j))

/-- The normed rows. -/
def normed (x : S4x4096x2048.Idx → EReal) (g : S1x2048.Idx → EReal) (r : ℕ) : ℕ → EReal := scaled 2048 0x45000000#32 (rows x r) (vec g)

/-- Their product with the weights. -/
def proj (x : S4x4096x2048.Idx → EReal) (g : S1x2048.Idx → EReal) (w : S1x2048x9280.Idx → EReal) (r n : ℕ) : EReal :=
  ∑ j ∈ Finset.range 2048, normed x g r j * mat w j n

/-- The key of row `r` and head `h`. -/
def key (x : S4x4096x2048.Idx → EReal) (g : S1x2048.Idx → EReal) (w : S1x2048x9280.Idx → EReal) (u : S1x128.Idx → EReal) (r h : ℕ) : ℕ → EReal :=
  scaled 128 0x43000000#32 (fun d => proj x g w r (1024 + (128 * h + d))) (vec u)

/-- The value of row `r` and head `h`. -/
def value (x : S4x4096x2048.Idx → EReal) (g : S1x2048.Idx → EReal) (w : S1x2048x9280.Idx → EReal) (r h d : ℕ) : EReal := proj x g w r (2048 + (128 * h + d))

/-- The row of the input that row `r` of a result comes from: the last 512 of each batch, eight heads each. -/
def spot (r : ℕ) : ℕ := 4096 * (r / 4096) + (3584 + r % 4096 / 8)

/-! ### The stages -/

variable {f : ℕ → ℕ → EReal} {G : ℕ → EReal}

theorem is2_interleave {p : Fin 8 → FVec Ideal S512x128 .f32} {f : ℕ → ℕ → ℕ → EReal} (hp : ∀ h : Fin 8, Is2 (n := 512) (m := 128) (p h) (f h.val)) :
    Is2 (n := 4096) (m := 128) (interleave p) fun a b => f (a % 8) (a / 8) b := fun j => hp ⟨(j 0).val % 8, Nat.mod_lt _ (by decide)⟩ _

theorem is2_normed {x0 : Vec Ideal S512x2048 .f32} {x1 : Vec Ideal S1x2048 .f32} (h0 : Is2 (n := 512) (m := 2048) x0 f) (h1 : Is2 (n := 1) (m := 2048) x1 fun _ b => G b) :
    Is2 (n := 512) (m := 2048) (k0_pay12 x0 x1) fun a b => scaled 2048 0x45000000#32 (f a) G b := by
  unfold k0_pay12
  have hs := is2_self (n := 512) (m := 2048) h0 shapeCasts_S512x2048_S512x2048
  exact is2_truncf (φ := .f32) (ψ := .bf16) (is2_mulf (φ := .f32) (is2_mulf (φ := .f32) hs (is2_bcastCol (is2_rsqrt (φ := .f32) (is2_addf (φ := .f32) (is2_divf (φ := .f32)
    (is2_col (is1_rowSum (is2_mulf (φ := .f32) hs hs) _ _ _) _) (is2_broadcast _)) (is2_broadcast _))) _)) (is2_bcastRow (is2_self h1 _) _)) _

/-- A head over its mean square, times the gain. -/
theorem is2_scaled {y : FVec Ideal S512x128 .f32} {v : FVec Ideal S1x128 .f32} (hy : Is2 (n := 512) (m := 128) y f) (hv : Is2 (n := 1) (m := 128) v fun _ b => G b) :
    Is2 (n := 512) (m := 128) (k0_pay21 y v (divf (shapeCast S512x1 (multiReduction .add [1] S512 (mulf y y) 0x00000000#32 reduces_S512x128_S512 (.inl rfl) rfl) shapeCasts_S512_S512x1)
      (broadcast S512x1 (Scalar.ofBits (F := Ideal) .f32 0x43000000#32)))) fun a b => scaled 128 0x43000000#32 (f a) G b := by
  unfold k0_pay21
  exact is2_mulf (φ := .f32) (is2_mulf (φ := .f32) hy (is2_bcastCol (is2_rsqrt (φ := .f32) (is2_addf (φ := .f32) (is2_divf (φ := .f32)
    (is2_col (is1_rowSum (is2_mulf (φ := .f32) hy hy) _ _ _) _) (is2_broadcast _)) (is2_broadcast _))) _)) (is2_bcastRow hv _)

/-- A slice of 128 columns. -/
theorem is2_head {y : FVec Ideal S512x1024 .f32} (hy : Is2 (n := 512) (m := 1024) y f) (p : ℕ) (hs : Shape.Slices S512x1024 ![0, p] S512x128) :
    Is2 (n := 512) (m := 128) (extractStridedSlice S512x128 ![0, p] y hs) fun a b => f a (p + b) :=
  (is2_slice (n' := 512) (m' := 128) hy 0 p hs).congr fun a _ b _ => by rw [Nat.zero_add]

theorem is2_keyHead {x0 : Vec Ideal S512x2048 .f32} {x1 : Vec Ideal S1x2048 .f32} {x2 : Vec Ideal S2048x1024 .bf16} {x3 : Vec Ideal S1x128 .f32}
    (hy : Is2 (n := 512) (m := 1024) (k0_pay14 x0 x1 x2) f) (hv : Is2 (n := 1) (m := 128) x3 fun _ b => G b) (h : Fin 8) :
    Is2 (n := 512) (m := 128) (keyHead x0 x1 x2 x3 h) fun a b => scaled 128 0x43000000#32 (fun d => f a (128 * h.val + d)) G b := by
  have hw := is2_self (n := 1) (m := 128) hv shapeCasts_S1x128_S1x128
  match h with
  | ⟨0, _⟩ => exact is2_scaled (is2_head hy 0 slices_S512x1024_o0_0_S512x128) hw
  | ⟨1, _⟩ => exact is2_scaled (is2_head hy 128 slices_S512x1024_o0_128_S512x128) hw
  | ⟨2, _⟩ => exact is2_scaled (is2_head hy 256 slices_S512x1024_o0_256_S512x128) hw
  | ⟨3, _⟩ => exact is2_scaled (is2_head hy 384 slices_S512x1024_o0_384_S512x128) hw
  | ⟨4, _⟩ => exact is2_scaled (is2_head hy 512 slices_S512x1024_o0_512_S512x128) hw
  | ⟨5, _⟩ => exact is2_scaled (is2_head hy 640 slices_S512x1024_o0_640_S512x128) hw
  | ⟨6, _⟩ => exact is2_scaled (is2_head hy 768 slices_S512x1024_o0_768_S512x128) hw
  | ⟨7, _⟩ => exact is2_scaled (is2_head hy 896 slices_S512x1024_o0_896_S512x128) hw

theorem is2_valHead {xs : Vec Ideal S512x2048 .bf16} {x2 : Vec Ideal S2048x1024 .bf16} (hy : Is2 (n := 512) (m := 1024) (k0_pay3 xs x2) f) (h : Fin 8) :
    Is2 (n := 512) (m := 128) (valHead xs x2 h) fun a b => f a (128 * h.val + b) := by
  match h with
  | ⟨0, _⟩ => exact is2_head hy 0 slices_S512x1024_o0_0_S512x128
  | ⟨1, _⟩ => exact is2_head hy 128 slices_S512x1024_o0_128_S512x128
  | ⟨2, _⟩ => exact is2_head hy 256 slices_S512x1024_o0_256_S512x128
  | ⟨3, _⟩ => exact is2_head hy 384 slices_S512x1024_o0_384_S512x128
  | ⟨4, _⟩ => exact is2_head hy 512 slices_S512x1024_o0_512_S512x128
  | ⟨5, _⟩ => exact is2_head hy 640 slices_S512x1024_o0_640_S512x128
  | ⟨6, _⟩ => exact is2_head hy 768 slices_S512x1024_o0_768_S512x128
  | ⟨7, _⟩ => exact is2_head hy 896 slices_S512x1024_o0_896_S512x128

theorem is2_product {xs : FVec Ideal S512x2048 .bf16} {x2 : Vec Ideal S2048x1024 .bf16} {g : ℕ → ℕ → EReal} (h0 : Is2 (n := 512) (m := 2048) xs f)
    (h2 : Is2 (n := 2048) (m := 1024) x2 g) : Is2 (n := 512) (m := 1024) (k0_pay3 xs x2) fun a b => ∑ j ∈ Finset.range 2048, f a j * g j b := by
  unfold k0_pay3
  exact is2_matmul (n := 512) (k := 2048) (m := 1024) (prec := none) (φ₁ := .bf16) (φ₂ := .bf16) h0 (is2_self h2 _) rfl

end Cert.Kv
-- ==== Proof.KvValue.lean ====
module

public import proofs.«01_k».proof.Proof.Entry
public import proofs.«01_k».proof.Proof.KvHeads

@[expose] public section

set_option maxRecDepth 16384

noncomputable section

/-! The arrays that the `kv_f32` call leaves, read at an index. -/

namespace Cert.Kv

open Idealize.ShloMosaic hiding ix0 ix1 ix2 ix3 ix4 ix5 eq_ix1 eq_ix2 eq_ix3 eq_ix4 eq_ix5
open Idealize.ShloMosaic.ValueIdx
open Idealize.ShloMosaic.TcCoe Cert.Words Cert.Entry Cert.Rows Cert.KvIdeal Cert.KvIdeal.Gen Cert.KvRun

variable (m : (ℓ : Loc nD τ sig) → Buf (Elt Ideal) ℓ) (c : Dev nD)

/-- The buffers written, in order. -/
abbrev hostWritten : List (Ref sig .tc) := [main_v0, main_v1, main_v2, main_v3, main_v4, main_v5, main_v6]

theorem host_writes : (hostOps0 (F := Ideal)).map HloOp.writes = hostWritten.map fun w => {Proc.devRef (τ := τ) .tc w} := rfl

theorem is_v0 : Is2 (n := 16384) (m := 2048) (V m c main_v0) (rows (m ((c : Thread nD τ).loc main_arg0))) := by
  rw [show V m c main_v0 = shapeCast _ (V m c main_arg0) shapeCasts_S4x4096x2048_S16384x2048 from ssaR host_writes 0 rfl (by decide) (by decide) _,
    V_arg m c main_arg0 (by decide)]
  exact is2_rows (k := 2048) _ _

theorem is_v4 : Is2 (n := 2048) (m := 9280) (V m c main_v4) (mat (m ((c : Thread nD τ).loc main_arg2))) := by
  rw [show V m c main_v4 = ((truncf (F := Ideal) (φ := .f32) .bf16 · bitsLt_bf16_f32) : (⟨S2048x9280, .f32⟩ : BufTy).Contents (Elt Ideal) → (⟨S2048x9280, .bf16⟩ : BufTy).Contents (Elt Ideal)) (V m c main_v3)
      from ssa1 host_writes 4 rfl (by decide) (by decide) _,
    show V m c main_v3 = shapeCast _ (V m c main_arg2) shapeCasts_S1x2048x9280_S2048x9280 from ssaR host_writes 3 rfl (by decide) (by decide) _,
    V_arg m c main_arg2 (by decide)]
  exact is2_mat (k := 2048) (l := 9280) _ _

theorem is_v2 : Is2 (n := 1) (m := 2048) (V m c main_v2) fun _ b => vec (m ((c : Thread nD τ).loc main_arg1)) b := fun i => by
  obtain ⟨z, j, rfl⟩ : ∃ z j, i = ix2 z j := ⟨_, _, eq_ix2 i⟩
  show _ = vec (m ((c : Thread nD τ).loc main_arg1)) j.val
  unfold vec
  rw [val_ofNat, show V m c main_v2 = (broadcastInDim S1x2048 ![1] bcast_S2048_S1x2048_1 : (⟨S2048, .f32⟩ : BufTy).Contents (Elt Ideal) → (⟨S1x2048, .f32⟩ : BufTy).Contents (Elt Ideal)) (V m c main_v1)
      from ssa1 host_writes 2 rfl (by decide) (by decide) _,
    show V m c main_v1 = shapeCast _ (V m c main_arg1) shapeCasts_S1x2048_S2048 from ssaR host_writes 1 rfl (by decide) (by decide) _,
    V_arg m c main_arg1 (by decide)]
  pointwise
  rw [Subsingleton.elim z 0]

theorem is_v6 : Is2 (n := 1) (m := 128) (V m c main_v6) fun _ b => vec (m ((c : Thread nD τ).loc main_arg3)) b := fun i => by
  obtain ⟨z, j, rfl⟩ : ∃ z j, i = ix2 z j := ⟨_, _, eq_ix2 i⟩
  show _ = vec (m ((c : Thread nD τ).loc main_arg3)) j.val
  unfold vec
  rw [val_ofNat, show V m c main_v6 = (broadcastInDim S1x128 ![1] bcast_S128_S1x128_1 : (⟨S128, .f32⟩ : BufTy).Contents (Elt Ideal) → (⟨S1x128, .f32⟩ : BufTy).Contents (Elt Ideal)) (V m c main_v5)
      from ssa1 host_writes 6 rfl (by decide) (by decide) _,
    show V m c main_v5 = shapeCast _ (V m c main_arg3) shapeCasts_S1x128_S128 from ssaR host_writes 5 rfl (by decide) (by decide) _,
    V_arg m c main_arg3 (by decide)]
  pointwise
  rw [Subsingleton.elim z 0]

theorem index0 : ∀ t : Fin cfg0.N, win0_0.index t = ![8 * (t.val / 2) + 7, 0] := by decide +kernel
theorem index1 : ∀ t : Fin cfg0.N, win0_1.index t = ![0, 0] := by decide +kernel
theorem index2 : ∀ t : Fin cfg0.N, win0_2.index t = ![0, t.val % 2 + 1] := by decide +kernel
theorem index3 : ∀ t : Fin cfg0.N, win0_3.index t = ![0, 0] := by decide +kernel
theorem index4 : ∀ t : Fin cfg0.N, win0_4.index t = ![t.val / 2, 0] := by decide +kernel
theorem index5 : ∀ t : Fin cfg0.N, win0_5.index t = ![t.val / 2, 0] := by decide +kernel

theorem block0 (t : Fin cfg0.N) : Is2 (n := 512) (m := 2048) (iblk m c 0 t) fun a b => rows (m ((c : Thread nD τ).loc main_arg0)) (512 * (8 * (t.val / 2) + 7) + a) (2048 * 0 + b) :=
  is2_block (p := 8 * (t.val / 2) + 7) (q := 0) (e := ((cfg0.win 0).blk t).view.emb) (is_v0 m c) fun j a => (win0_0.rect_emb_val t j a rfl).trans (by rw [index0 t])

theorem block1 (t : Fin cfg0.N) : Is2 (n := 1) (m := 2048) (iblk m c 1 t) fun _ b => vec (m ((c : Thread nD τ).loc main_arg1)) (2048 * 0 + b) :=
  is2_block (p := 0) (q := 0) (e := ((cfg0.win 1).blk t).view.emb) (is_v2 m c) fun j a => (win0_1.rect_emb_val t j a rfl).trans (by rw [index1 t])

theorem block3 (t : Fin cfg0.N) : Is2 (n := 1) (m := 128) (iblk m c 3 t) fun _ b => vec (m ((c : Thread nD τ).loc main_arg3)) (128 * 0 + b) :=
  is2_block (p := 0) (q := 0) (e := ((cfg0.win 3).blk t).view.emb) (is_v6 m c) fun j a => (win0_3.rect_emb_val t j a rfl).trans (by rw [index3 t])

theorem block2 (t : Fin cfg0.N) : Is2 (n := 2048) (m := 1024) (wblk m c t) fun a b => mat (m ((c : Thread nD τ).loc main_arg2)) (2048 * 0 + a) (1024 * (t.val % 2 + 1) + b) :=
  is2_block (p := 0) (q := t.val % 2 + 1) (e := fun j => ((cfg0.win 2).blk t).view.emb fun a => ⟨(j a).val, (j a).isLt.trans_eq (weight_size t a).symm⟩) (is_v4 m c)
    fun j a => (win0_2.rect_emb_val t (fun a => ⟨(j a).val, (j a).isLt.trans_eq (weight_size t a).symm⟩) a rfl).trans (by rw [index2 t])

/-! ### A pair of points -/

/-- The call's first result. -/
abbrev keys : ℕ → ℕ → ℕ → EReal :=
  key (m ((c : Thread nD τ).loc main_arg0)) (m ((c : Thread nD τ).loc main_arg1)) (m ((c : Thread nD τ).loc main_arg2)) (m ((c : Thread nD τ).loc main_arg3))

/-- The call's second result. -/
abbrev values : ℕ → ℕ → ℕ → EReal :=
  value (m ((c : Thread nD τ).loc main_arg0)) (m ((c : Thread nD τ).loc main_arg1)) (m ((c : Thread nD τ).loc main_arg2))

theorem pair_half (t : Fin cfg0.N) : (pairOf t).val / 2 = t.val / 2 := by show (t.val - t.val % 2) / 2 = _; omega
theorem pair_even (t : Fin cfg0.N) : (pairOf t).val % 2 = 0 := by show (t.val - t.val % 2) % 2 = _; omega

theorem norms (t : Fin cfg0.N) : Is2 (n := 512) (m := 2048) (k0_pay12 (iblk m c 0 (pairOf t)) (iblk m c 1 (pairOf t)))
    fun a b => normed (m ((c : Thread nD τ).loc main_arg0)) (m ((c : Thread nD τ).loc main_arg1)) (512 * (8 * (t.val / 2) + 7) + a) b := by
  have h := is2_normed (block0 m c (pairOf t)) (block1 m c (pairOf t))
  rw [pair_half] at h
  refine h.congr fun a _ b _ => ?_
  simp only [Nat.mul_zero, Nat.zero_add]
  rfl

theorem products (t s : Fin cfg0.N) {y : FVec Ideal S512x2048 .bf16} (hy : Is2 (n := 512) (m := 2048) y
      fun a b => normed (m ((c : Thread nD τ).loc main_arg0)) (m ((c : Thread nD τ).loc main_arg1)) (512 * (8 * (t.val / 2) + 7) + a) b) :
    Is2 (n := 512) (m := 1024) (k0_pay3 y (wblk m c s)) fun a b => proj (m ((c : Thread nD τ).loc main_arg0)) (m ((c : Thread nD τ).loc main_arg1)) (m ((c : Thread nD τ).loc main_arg2))
      (512 * (8 * (t.val / 2) + 7) + a) (1024 * (s.val % 2 + 1) + b) := by
  refine (is2_product hy (block2 m c s)).congr fun a _ b _ => ?_
  simp only [Nat.mul_zero, Nat.zero_add]
  rfl

theorem keys_at (t : Fin cfg0.N) : Is2 (n := 4096) (m := 128) (keysAt m c t) fun a b => keys m c (512 * (8 * (t.val / 2) + 7) + a / 8) (a % 8) b := by
  unfold keysAt
  have h := products m c t (pairOf t) (norms m c t)
  rw [pair_even] at h
  refine is2_interleave (f := fun h a b => keys m c (512 * (8 * (t.val / 2) + 7) + a) h b) fun i => (is2_keyHead (x3 := iblk m c 3 (pairOf t)) h (block3 m c (pairOf t)) i).congr fun a _ b _ => ?_
  simp only [Nat.mul_zero, Nat.zero_add]
  rfl

theorem values_at (t : Fin cfg0.N) (ht : t.val % 2 = 1) : Is2 (n := 4096) (m := 128) (valsAt m c t) fun a b => values m c (512 * (8 * (t.val / 2) + 7) + a / 8) (a % 8) b := by
  unfold valsAt normAt k0_pay13
  have h := products m c t t (is2_self (norms m c t) shapeCasts_S512x2048_S512x2048)
  rw [ht] at h
  refine is2_interleave (f := fun h a b => values m c (512 * (8 * (t.val / 2) + 7) + a) h b) fun i => (is2_valHead h i).congr fun a _ b _ => ?_
  rfl

/-! ### The arrays the call leaves -/

theorem apart4 : ∀ t t' : Fin cfg0.N, (cfg0.win 4).flush t = true → (cfg0.win 4).flush t' = true → t ≠ t' → Disjoint ((cfg0.win 4).blk t).view.set ((cfg0.win 4).blk t').view.set :=
  fun t t' h h' hne => (cfg0.win 4).disjoint_blk fun e => hne (Fin.ext (by
    have e0 : t.val / 2 = t'.val / 2 := congrFun (((index4 t).symm.trans e).trans (index4 t')) 0
    have := (flush0_4 t).mp h
    have := (flush0_4 t').mp h'
    omega))

theorem apart5 : ∀ t t' : Fin cfg0.N, (cfg0.win 5).flush t = true → (cfg0.win 5).flush t' = true → t ≠ t' → Disjoint ((cfg0.win 5).blk t).view.set ((cfg0.win 5).blk t').view.set :=
  fun t t' h h' hne => (cfg0.win 5).disjoint_blk fun e => hne (Fin.ext (by
    have e0 : t.val / 2 = t'.val / 2 := congrFun (((index5 t).symm.trans e).trans (index5 t')) 0
    have := (flush0_5 t).mp h
    have := (flush0_5 t').mp h'
    omega))

/-- A row of a block as a row of the result. -/
theorem spot_block (t a : ℕ) (ha : a < 4096) : 512 * (8 * (t / 2) + 7) + a / 8 = spot (4096 * (t / 2) + a) ∧ a % 8 = (4096 * (t / 2) + a) % 8 := by
  unfold spot; omega

theorem odd_point (r : Fin 16384) : ∃ t : Fin cfg0.N, t.val / 2 = r.val / 4096 ∧ t.val % 2 = 1 := by
  have hr := r.isLt
  exact ⟨⟨2 * (r.val / 4096) + 1, by show _ < 8; omega⟩, by show (2 * (r.val / 4096) + 1) / 2 = _; omega, by show (2 * (r.val / 4096) + 1) % 2 = _; omega⟩

theorem result_keys (r : Fin 16384) (n : Fin 128) : ((dats m 0 c).arrAt 4 cfg0.N : S16384x128.Idx → EReal) (ix2 r n) = keys m c (spot r.val) (r.val % 8) n.val := by
  have hr := r.isLt
  have hn := n.isLt
  obtain ⟨t, ht, h1⟩ := odd_point r
  have h := (dats m 0 c).read_blk_arrAt_eq_flushed 4 apart4 cfg0.N t t.isLt ((flush0_4 t).mpr h1)
  have hk : (dats m 0 c).flushed 4 t = (cfg0.win 4).cut (grid0.coords t) (keysAt m c t) := by
    show (cfg0.win 4).cut (grid0.coords t) ((dats m 0 c).after 4 t) = _
    rw [after4]
  refine of_block (n := 4096) (m := 128) (p := t.val / 2) (q := 0) (f := fun r n => keys m c (spot r) (r % 8) n) (e := ((cfg0.win 4).blk t).view.emb)
    (fun j => (congrFun (h.trans hk) j).trans ((keys_at m c t j).trans ?_)) (fun j a => (win0_4.rect_emb_val t j a rfl).trans (by rw [index4 t])) r n (by omega) (by omega)
  have e := spot_block t.val (j 0).val (j 0).isLt
  dsimp only
  rw [e.1, e.2, Nat.mul_zero, Nat.zero_add]

theorem result_values (r : Fin 16384) (n : Fin 128) : ((dats m 0 c).arrAt 5 cfg0.N : S16384x128.Idx → EReal) (ix2 r n) = values m c (spot r.val) (r.val % 8) n.val := by
  have hr := r.isLt
  have hn := n.isLt
  obtain ⟨t, ht, h1⟩ := odd_point r
  have h := (dats m 0 c).read_blk_arrAt_eq_flushed 5 apart5 cfg0.N t t.isLt ((flush0_5 t).mpr h1)
  have hk : (dats m 0 c).flushed 5 t = (cfg0.win 5).cut (grid0.coords t) (valsAt m c t) := by
    show (cfg0.win 5).cut (grid0.coords t) ((dats m 0 c).after 5 t) = _
    rw [after5]
  refine of_block (n := 4096) (m := 128) (p := t.val / 2) (q := 0) (f := fun r n => values m c (spot r) (r % 8) n) (e := ((cfg0.win 5).blk t).view.emb)
    (fun j => (congrFun (h.trans hk) j).trans ((values_at m c t h1 j).trans ?_)) (fun j a => (win0_5.rect_emb_val t j a rfl).trans (by rw [index5 t])) r n (by omega) (by omega)
  have e := spot_block t.val (j 0).val (j 0).isLt
  dsimp only
  rw [e.1, e.2, Nat.mul_zero, Nat.zero_add]

end Cert.Kv
-- ==== Proof.KvFinal.lean ====
module

public import proofs.«01_k».proof.Proof.KvValue
public import proofs.«01_k».proof.Proof.Gen.KvReferenceIdeal.Run
public import proofs.«01_k».proof.Proof.Gen.KvReferenceIdeal.Read

@[expose] public section

set_option maxRecDepth 16384

noncomputable section

/-! The reference's keys and values read at an index, and their equality with the call's results. -/

namespace Cert.Kv

open Idealize.ShloMosaic hiding ix0 ix1 ix2 ix3 ix4 ix5 eq_ix1 eq_ix2 eq_ix3 eq_ix4 eq_ix5
open Idealize.ShloMosaic.ValueIdx
open Idealize.ShloMosaic.TcCoe Cert.Rows

section Reference
open Cert.KvReferenceIdeal Cert.KvReferenceIdeal.Gen Cert.KvReferenceIdeal.Read

variable (x : S4x4096x2048.Idx → EReal) (g : S1x2048.Idx → EReal) (w : S1x2048x9280.Idx → EReal) (u : S1x128.Idx → EReal) (b : Fin 4) (s : Fin 4096)

theorem zero_bits : Ideal.ofBits .f32 0x00000000#32 = 0 := by
  simp [Ideal.ofBits, Ideal.ieee]

theorem squares_at : (val_main_v2 (F := Ideal) x (ix2 b s) : EReal)
    = ∑ j ∈ Finset.range 2048, rows x (4096 * b.val + s.val) j * rows x (4096 * b.val + s.val) j := by
  rw [val_main_v2_apply, val_main_cst_apply, Finset.sum_range]
  refine (congrArg₂ (· + ·) zero_bits rfl).trans ((zero_add _).trans (Finset.sum_congr rfl fun j _ => ?_))
  rw [rows_at, val_main_v1_apply, show idx_main_v2 (ix2 b s) j = ix3 b s j from by
    funext a
    match a with
    | ⟨0, _⟩ => rfl
    | ⟨1, _⟩ => rfl
    | ⟨2, _⟩ => rfl]
  rfl

theorem gain_at (j : Fin 2048) : (val_main_v12 (F := Ideal) g (ix3 b s j) : EReal) = vec g j.val := by
  rw [val_main_v12_apply, val_main_v11_apply, val_main_v0_apply]
  unfold vec
  refine congrArg g (funext fun a => ?_)
  match a with
  | ⟨0, _⟩ => rfl
  | ⟨1, _⟩ => rfl

theorem normed_at (j : Fin 2048) : (val_main_v13 (F := Ideal) x g (ix3 b s j) : EReal) = normed x g (4096 * b.val + s.val) j.val := by
  rw [val_main_v13_apply, val_main_v10_apply, val_main_v9_apply, val_main_v8_apply, val_main_v7_apply, val_main_v5_apply, val_main_v3_apply,
    val_main_v4_apply, val_main_cst_0_apply, val_main_v6_apply, val_main_cst_1_apply, show idx_main_v3 (idx_main_v9 (ix3 b s j)) = ix2 b s from by
      funext a
      match a with
      | ⟨0, _⟩ => rfl
      | ⟨1, _⟩ => rfl]
  unfold normed scaled
  rw [← squares_at, ← gain_at g b s j, rows_at]
  rfl

theorem proj_at (n : Fin 9280) : (val_main_v15 (F := Ideal) x g w (ix3 b s n) : EReal) = proj x g w (4096 * b.val + s.val) n.val := by
  rw [val_main_v15_apply]
  unfold proj
  rw [Finset.sum_range]
  refine Finset.sum_congr rfl fun j _ => ?_
  rw [← normed_at x g b s j]
  refine congrArg₂ (· * ·) (congrArg _ ?_) (is2_mat (k := 2048) (l := 9280) w _ _)
  funext a
  match a with
  | ⟨0, _⟩ => rfl
  | ⟨1, _⟩ => rfl
  | ⟨2, _⟩ => rfl

variable (h : Fin 8) (d : Fin 128)

/-- The unscaled keys. -/
theorem raw_at : (val_main_v24 (F := Ideal) x g w (ix4 b s h d) : EReal) = proj x g w (4096 * b.val + s.val) (1024 + (128 * h.val + d.val)) := by
  have hb := b.isLt
  have hs := s.isLt
  have hh := h.isLt
  have hd := d.isLt
  rw [val_main_v24_apply, val_main_v17_apply, ← proj_at x g w b s ⟨1024 + (128 * h.val + d.val), by omega⟩]
  refine congrArg _ (funext fun a => ?_)
  match a with
  | ⟨0, _⟩ => exact Fin.ext (show (((b.val * 4096 + s.val) * 8 + h.val) * 128 + d.val) / 4194304 = b.val by omega)
  | ⟨1, _⟩ => exact Fin.ext (show (((b.val * 4096 + s.val) * 8 + h.val) * 128 + d.val) / 1024 % 4096 = s.val by omega)
  | ⟨2, _⟩ => exact Fin.ext (show 1024 + (((b.val * 4096 + s.val) * 8 + h.val) * 128 + d.val) % 1024 = 1024 + (128 * h.val + d.val) by omega)

theorem value_at : (val_main_v39 (F := Ideal) x g w (ix4 b s h d) : EReal) = value x g w (4096 * b.val + s.val) h.val d.val := by
  have hb := b.isLt
  have hs := s.isLt
  have hh := h.isLt
  have hd := d.isLt
  unfold value
  rw [val_main_v39_apply, val_main_v18_apply, ← proj_at x g w b s ⟨2048 + (128 * h.val + d.val), by omega⟩]
  refine congrArg _ (funext fun a => ?_)
  match a with
  | ⟨0, _⟩ => exact Fin.ext (show (((b.val * 4096 + s.val) * 8 + h.val) * 128 + d.val) / 4194304 = b.val by omega)
  | ⟨1, _⟩ => exact Fin.ext (show (((b.val * 4096 + s.val) * 8 + h.val) * 128 + d.val) / 1024 % 4096 = s.val by omega)
  | ⟨2, _⟩ => exact Fin.ext (show 2048 + (((b.val * 4096 + s.val) * 8 + h.val) * 128 + d.val) % 1024 = 2048 + (128 * h.val + d.val) by omega)

theorem key_squares_at : (val_main_v27 (F := Ideal) x g w (ix3 b s h) : EReal)
    = ∑ j ∈ Finset.range 128, proj x g w (4096 * b.val + s.val) (1024 + (128 * h.val + j)) * proj x g w (4096 * b.val + s.val) (1024 + (128 * h.val + j)) := by
  rw [val_main_v27_apply, val_main_cst_2_apply, Finset.sum_range]
  refine (congrArg₂ (· + ·) zero_bits rfl).trans ((zero_add _).trans (Finset.sum_congr rfl fun j _ => ?_))
  rw [← raw_at, val_main_v26_apply, show idx_main_v27 (ix3 b s h) j = ix4 b s h j from by
    funext a
    match a with
    | ⟨0, _⟩ => rfl
    | ⟨1, _⟩ => rfl
    | ⟨2, _⟩ => rfl
    | ⟨3, _⟩ => rfl]
  rfl

theorem key_gain_at : (val_main_v37 (F := Ideal) u (ix4 b s h d) : EReal) = vec u d.val := by
  rw [val_main_v37_apply, val_main_v36_apply, val_main_v25_apply]
  unfold vec
  refine congrArg u (funext fun a => ?_)
  match a with
  | ⟨0, _⟩ => rfl
  | ⟨1, _⟩ => rfl

theorem key_at : (val_main_v38 (F := Ideal) x g w u (ix4 b s h d) : EReal) = key x g w u (4096 * b.val + s.val) h.val d.val := by
  rw [val_main_v38_apply, val_main_v35_apply, val_main_v34_apply, val_main_v33_apply, val_main_v32_apply, val_main_v30_apply, val_main_v28_apply,
    val_main_v29_apply, val_main_cst_3_apply, val_main_v31_apply, val_main_cst_4_apply, show idx_main_v28 (idx_main_v34 (ix4 b s h d)) = ix3 b s h from by
      funext a
      match a with
      | ⟨0, _⟩ => rfl
      | ⟨1, _⟩ => rfl
      | ⟨2, _⟩ => rfl]
  unfold key scaled
  rw [← key_squares_at, ← key_gain_at u b s h d]
  dsimp only
  rw [← raw_at]
  rfl

/-- Where a row of a result is read in the whole array of heads. -/
theorem spot_at (r : Fin 16384) : 4096 * (Fin.ofNat 4 (r.val / 4096)).val + (⟨3584 + r.val % 4096 / 8, by omega⟩ : Fin 4096).val = spot r.val := by
  have hr := r.isLt
  show 4096 * (r.val / 4096 % 4) + (3584 + r.val % 4096 / 8) = 4096 * (r.val / 4096) + (3584 + r.val % 4096 / 8)
  omega

theorem keys_reference (r : Fin 16384) (n : Fin 128) : (val_main_v41 (F := Ideal) x g w u (ix2 r n) : EReal) = key x g w u (spot r.val) (r.val % 8) n.val := by
  have hr := r.isLt
  have hn := n.isLt
  rw [val_main_v41_apply, val_main_v40_apply, ← spot_at r]
  refine Eq.trans (congrArg _ (funext fun a => ?_)) (key_at x g w u _ _ ⟨r.val % 8, by omega⟩ n)
  match a with
  | ⟨0, _⟩ => exact Fin.ext (show (r.val * 128 + n.val) / 524288 = r.val / 4096 % 4 by omega)
  | ⟨1, _⟩ => exact Fin.ext (show 3584 + (r.val * 128 + n.val) / 1024 % 512 = 3584 + r.val % 4096 / 8 by omega)
  | ⟨2, _⟩ => exact Fin.ext (show (r.val * 128 + n.val) / 128 % 8 = r.val % 8 by omega)
  | ⟨3, _⟩ => exact Fin.ext (show (r.val * 128 + n.val) % 128 = n.val by omega)

theorem values_reference (r : Fin 16384) (n : Fin 128) : (val_main_v43 (F := Ideal) x g w (ix2 r n) : EReal) = value x g w (spot r.val) (r.val % 8) n.val := by
  have hr := r.isLt
  have hn := n.isLt
  rw [val_main_v43_apply, val_main_v42_apply, ← spot_at r]
  refine Eq.trans (congrArg _ (funext fun a => ?_)) (value_at x g w _ _ ⟨r.val % 8, by omega⟩ n)
  match a with
  | ⟨0, _⟩ => exact Fin.ext (show (r.val * 128 + n.val) / 524288 = r.val / 4096 % 4 by omega)
  | ⟨1, _⟩ => exact Fin.ext (show 3584 + (r.val * 128 + n.val) / 1024 % 512 = 3584 + r.val % 4096 / 8 by omega)
  | ⟨2, _⟩ => exact Fin.ext (show (r.val * 128 + n.val) / 128 % 8 = r.val % 8 by omega)
  | ⟨3, _⟩ => exact Fin.ext (show (r.val * 128 + n.val) % 128 = n.val by omega)

end Reference

section Call
open Cert.KvIdeal Cert.KvIdeal.Gen Cert.KvRun

variable (m : (ℓ : Loc nD τ sig) → Buf (Elt Ideal) ℓ) (ρ : Dev nD → PrngReg) (c : Dev nD)

/-- The call's first result is the reference's. -/
theorem keys_eq : ((dats m 0 c).arrAt 4 cfg0.N : S16384x128.Idx → EReal)
    = Cert.KvReferenceIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)) := by
  funext i
  rw [eq_ix2 i]
  exact (result_keys m c (i 0) (i 1)).trans (keys_reference _ _ _ _ (i 0) (i 1)).symm

/-- The call's second result is the reference's. -/
theorem values_eq : ((dats m 0 c).arrAt 5 cfg0.N : S16384x128.Idx → EReal)
    = Cert.KvReferenceIdeal.Read.val_main_v43 (F := Ideal) (m ((c.tc : Thread nD τ).loc main_arg0)) (m ((c.tc : Thread nD τ).loc main_arg1)) (m ((c.tc : Thread nD τ).loc main_arg2)) := by
  funext i
  rw [eq_ix2 i]
  exact (result_values m c (i 0) (i 1)).trans (values_reference _ _ _ (i 0) (i 1)).symm

/-- The call ends with its results at what the last points left and its arguments unchanged. -/
theorem call_runs : θ_run (defs (F := Ideal)) (onTc (τ := τ) (main (F := Ideal))) ⟨m, fun _ => 0, ρ⟩ fun r => ∀ c : Dev nD,
      r.2.mem ((c.tc : Thread nD τ).loc main_v7_0) = (dats m 0 c).arrAt 4 cfg0.N
      ∧ r.2.mem ((c.tc : Thread nD τ).loc main_v7_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1 c).1 4, (h.1 c).1 5, args_end m h.1 c⟩) (run m ρ)

end Call

end Cert.Kv
-- ==== Proof.lean ====
/- The proof of the claims about prompt attention with a latent cache, the gated mixing, the output projection, the feed-forward part and the newest keys and values of the band. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojIdeal.Value
public import proofs.«01_k».proof.Proof.Gen.OutprojReferenceIdeal
public import proofs.«01_k».proof.Proof.Gen.OutprojReferenceIdeal.Run
public import proofs.«01_k».proof.Proof.Gen.OutprojReferenceIdeal.Read
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvReferenceIdeal
public import proofs.«01_k».proof.Proof.Gen.KvReferenceIdeal.Run
public import proofs.«01_k».proof.Proof.Gen.KvReferenceIdeal.Read
public import proofs.«01_k».proof.Proof.Final
public import proofs.«01_k».proof.Proof.FfnFinal
public import proofs.«01_k».proof.Proof.Mix
public import proofs.«01_k».proof.Proof.Outproj
public import proofs.«01_k».proof.Proof.KvFinal
public import Idealize.ShloMosaic.Adequacy
public import Idealize.ShloMosaic.Init

@[expose] public section

noncomputable section

namespace Cert.Proof

open Idealize.ShloMosaic Idealize.SL.Sem Cert.Kernel

instance facts_pre : Cert.Pre_finite.Facts where
  bcast_S_S4x4096x8x128 := ⟨fun a => a.elim0, fun a => a.elim0⟩
  bcast_S_S4x4096x8x64 := ⟨fun a => a.elim0, fun a => a.elim0⟩
  bcast_S_S4x4096x512 := ⟨fun a => a.elim0, fun a => a.elim0⟩
  bcast_S_S4x4096x64 := ⟨fun a => a.elim0, fun a => a.elim0⟩
  bcast_S_S1x512x2048 := ⟨fun a => a.elim0, fun a => a.elim0⟩
  bcast_S_S1x128 := ⟨fun a => a.elim0, fun a => a.elim0⟩

/-- The reference runs, leaves its arguments as they were, and every semaphore at zero. -/
theorem reference_runs (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0 :=
  (θ_run _ _ _).mono (fun r h => ⟨fun c => (h c).2, sem_eq_zero_of_no_sems (by decide) r.2⟩) (Cert.ReferenceIdeal.Value.run m g)

theorem reals {m : (ℓ : Loc Cert.KernelIdeal.nD Cert.KernelIdeal.τ Cert.KernelIdeal.sig) → Buf (Elt Ideal) ℓ} (h : Cert.Pre_KernelIdeal_finite m) (c : Dev Cert.KernelIdeal.nD) :
    Cert.Final.Reals m c := by
  obtain ⟨h0, h1, h2, h3, h4, h5⟩ := h c
  exact ⟨Cert.Final.real_of _ _ (fun _ => Cert.Final.top_eq) h0, Cert.Final.real_of _ _ (fun _ => Cert.Final.top_eq) h1, Cert.Final.real_of _ _ (fun _ => Cert.Final.top_eq) h2,
    Cert.Final.real_of _ _ (fun _ => Cert.Final.top_eq) h3, Cert.Final.real_of _ _ (fun _ => Cert.Final.top_eq) h4, Cert.Final.real_of _ _ (fun _ => Cert.Final.top_eq) h5⟩

/-- The feed-forward reference runs likewise. -/
theorem feed_reference_runs (m : (ℓ : Loc Cert.FfnReferenceIdeal.nD Cert.FfnReferenceIdeal.τ Cert.FfnReferenceIdeal.sig) → Buf (Elt Ideal) ℓ) (g : Dev Cert.FfnReferenceIdeal.nD → PrngReg) :
    θ_run (Cert.FfnReferenceIdeal.defs (F := Ideal)) (onTc (τ := Cert.FfnReferenceIdeal.τ) (Cert.FfnReferenceIdeal.main (F := Ideal))) ⟨m, fun _ => 0, g⟩ fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0 :=
  (θ_run _ _ _).mono (fun r h => ⟨fun c => (h c).2, sem_eq_zero_of_no_sems (by decide) r.2⟩) (Cert.FfnReferenceIdeal.Value.run m g)

/-- The reference of the mixing runs likewise. -/
theorem mix_reference_runs (m : (ℓ : Loc Cert.MixReferenceIdeal.nD Cert.MixReferenceIdeal.τ Cert.MixReferenceIdeal.sig) → Buf (Elt Ideal) ℓ) (g : Dev Cert.MixReferenceIdeal.nD → PrngReg) :
    θ_run (Cert.MixReferenceIdeal.defs (F := Ideal)) (onTc (τ := Cert.MixReferenceIdeal.τ) (Cert.MixReferenceIdeal.main (F := Ideal))) ⟨m, fun _ => 0, g⟩ fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0 :=
  (θ_run _ _ _).mono (fun r h => ⟨fun c => (h c).2, sem_eq_zero_of_no_sems (by decide) r.2⟩) (Cert.MixReferenceIdeal.Value.run m g)

/-- The reference of the output projection runs likewise. -/
theorem outproj_reference_runs (m : (ℓ : Loc Cert.OutprojReferenceIdeal.nD Cert.OutprojReferenceIdeal.τ Cert.OutprojReferenceIdeal.sig) → Buf (Elt Ideal) ℓ) (g : Dev Cert.OutprojReferenceIdeal.nD → PrngReg) :
    θ_run (Cert.OutprojReferenceIdeal.defs (F := Ideal)) (onTc (τ := Cert.OutprojReferenceIdeal.τ) (Cert.OutprojReferenceIdeal.main (F := Ideal))) ⟨m, fun _ => 0, g⟩ fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2))
      ∧ r.2.sem = fun _ => 0 :=
  (θ_run _ _ _).mono (fun r h => ⟨fun c => (h c).2, sem_eq_zero_of_no_sems (by decide) r.2⟩) (Cert.OutprojReferenceIdeal.Value.run m g)

/-- The reference of the keys and values runs likewise. -/
theorem kv_reference_runs (m : (ℓ : Loc Cert.KvReferenceIdeal.nD Cert.KvReferenceIdeal.τ Cert.KvReferenceIdeal.sig) → Buf (Elt Ideal) ℓ) (g : Dev Cert.KvReferenceIdeal.nD → PrngReg) :
    θ_run (Cert.KvReferenceIdeal.defs (F := Ideal)) (onTc (τ := Cert.KvReferenceIdeal.τ) (Cert.KvReferenceIdeal.main (F := Ideal))) ⟨m, fun _ => 0, g⟩ fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2)
      ∧ r.2.mem ((c.tc : Thread Cert.KvReferenceIdeal.nD Cert.KvReferenceIdeal.τ).loc Cert.KvReferenceIdeal.main_arg3) = m ((c.tc : Thread Cert.KvReferenceIdeal.nD Cert.KvReferenceIdeal.τ).loc Cert.KvReferenceIdeal.main_arg3))
      ∧ r.2.sem = fun _ => 0 :=
  (θ_run _ _ _).mono (fun r h => ⟨fun c => (h c).2.2, sem_eq_zero_of_no_sems (by decide) r.2⟩) (Cert.KvReferenceIdeal.Value.run m g)

/-- The kernel of the keys and values and its ideal form have the same bodies. -/
theorem kv_bodies : Cert.Kv.defs₀ (F := Bits) = Cert.KvIdeal.defs₀ (F := Bits) := by
  refine congrArg Defs.onTc ?_
  funext l
  obtain rfl : l = 0 := Subsingleton.elim _ _
  funext a
  rfl

theorem kv_defs : Cert.Kv.defs (F := Bits) = Cert.KvIdeal.defs (F := Bits) :=
  congrArg (Pipeline.defs _) kv_bodies

/-- So the run of the ideal form, over bits, is the kernel's run. -/
theorem kv_frame : Cert.quiescent_Kv := by
  intro m g _
  rw [kv_defs]
  exact (θ_run Cert.KvIdeal.defs _ _).mono (fun _ h => h) (Cert.KvRun.frame (F := Bits) m g)

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Mix.Gen.facts, Cert.MixIdeal.Gen.facts, Cert.MixReferenceIdeal.Gen.facts, Cert.Outproj.Gen.facts, Cert.OutprojIdeal.Gen.facts, Cert.OutprojReferenceIdeal.Gen.facts,
  Cert.Kv.Gen.facts, Cert.KvIdeal.Gen.facts, Cert.KvReferenceIdeal.Gen.facts, facts_pre,
  fun m g _ => Cert.Kernel.Gen.frame m g,
  fun m g _ => Cert.KernelIdeal.Gen.frame m g,
  fun m g _ => Cert.KernelIdeal.Gen.frame m g,
  fun m g _ => reference_runs m g,
  fun m g _ => reference_runs m g,
  fun m g _ => Cert.Ffn.Gen.frame m g,
  fun m g _ => Cert.FfnIdeal.Gen.frame m g,
  fun m g _ => feed_reference_runs m g,
  fun m g _ => Cert.Mix.Gen.frame m g,
  fun m g _ => Cert.MixIdeal.Gen.frame m g,
  fun m g _ => mix_reference_runs m g,
  fun m g _ => Cert.Outproj.Gen.frame m g,
  fun m g _ => Cert.OutprojIdeal.Gen.frame m g,
  fun m g _ => outproj_reference_runs m g,
  kv_frame,
  fun m g _ => Cert.KvRun.frame m g,
  fun m g _ => kv_reference_runs m g,
  IdealRules.named_const.statement Cert.KernelIdeal.κ "mask" .f32 0xF149F2CA#32 ⊥ rfl,
  by
  intro m g m' g' hpre hagree
  refine ⟨fun c => (Cert.KernelIdeal.Gen.dats m 0 c).arrAt 5 Cert.KernelIdeal.cfg0.N, Cert.KernelIdeal.Value.run_blocks m g, ?_⟩
  refine (θ_run _ _ _).mono (fun r h c => ⟨(h c).1.trans ?_, (h c).2⟩) (Cert.ReferenceIdeal.Value.run m' g')
  obtain ⟨a0, a1, a2, a3, a4, a5⟩ := hagree c
  rw [Cert.ReferenceIdeal.Read.val_main_v79_eq, a0, a1, a2, a3, a4, a5]
  exact (Cert.Final.result_eq (reals hpre c)).symm,
  trivial,
  by
  intro m g m' g' _ hagree
  refine ⟨fun c => (Cert.FfnIdeal.Gen.dats m 0 c).arrAt 4 Cert.FfnIdeal.cfg0.N, Cert.FfnIdeal.Value.run_blocks m g, ?_⟩
  refine (θ_run _ _ _).mono (fun r h c => ⟨(h c).1.trans ?_, (h c).2⟩) (Cert.FfnReferenceIdeal.Value.run m' g')
  obtain ⟨a0, a1, a2, a3⟩ := hagree c
  rw [Cert.FfnReferenceIdeal.Read.val_main_v21_eq, a0, a1, a2, a3]
  exact (Cert.Feed.result_eq m c).symm,
  trivial,
  by
  intro m g m' g' _ hagree
  refine ⟨fun c => (Cert.MixIdeal.Gen.dats m 0 c).arrAt 7 Cert.MixIdeal.cfg0.N, Cert.MixIdeal.Value.run_blocks m g, ?_⟩
  refine (θ_run _ _ _).mono (fun r h c => ⟨(h c).1.trans ?_, (h c).2⟩) (Cert.MixReferenceIdeal.Value.run m' g')
  obtain ⟨a0, a1, a2, a3, a4, a5⟩ := hagree c
  rw [Cert.MixReferenceIdeal.Read.val_main_v30_eq, a0, a1, a2, a3, a4, a5]
  exact (Cert.Mix.result_eq m c).symm,
  trivial,
  by
  intro m g m' g' _ hagree
  refine ⟨fun c => (Cert.OutprojIdeal.Gen.dats m 0 c).arrAt 3 Cert.OutprojIdeal.cfg0.N, Cert.OutprojIdeal.Value.run_blocks m g, ?_⟩
  refine (θ_run _ _ _).mono (fun r h c => ⟨(h c).1.trans ?_, (h c).2⟩) (Cert.OutprojReferenceIdeal.Value.run m' g')
  obtain ⟨a0, a1, a2⟩ := hagree c
  rw [Cert.OutprojReferenceIdeal.Read.val_main_v3_eq, a0, a1, a2]
  exact (Cert.Outproj.result_eq m c).symm,
  trivial,
  by
  intro m g m' g' _ hagree
  refine ⟨fun c => (Cert.KvRun.dats m 0 c).arrAt 4 Cert.KvIdeal.cfg0.N, fun c => (Cert.KvRun.dats m 0 c).arrAt 5 Cert.KvIdeal.cfg0.N, Cert.Kv.call_runs m g, ?_⟩
  refine (θ_run _ _ _).mono (fun r h c => ⟨(h c).1.trans ?_, (h c).2.1.trans ?_, (h c).2.2⟩) (Cert.KvReferenceIdeal.Value.run m' g')
  · obtain ⟨a0, a1, a2, a3⟩ := hagree c
    rw [Cert.KvReferenceIdeal.Read.val_main_v41_eq, a0, a1, a2, a3]
    exact (Cert.Kv.keys_eq m c).symm
  · obtain ⟨a0, a1, a2, a3⟩ := hagree c
    rw [a0, a1, a2]
    exact (Cert.KvReferenceIdeal.Read.val_main_v43_eq _ _ _).trans (Cert.Kv.values_eq m c).symm⟩

end Cert.Proof

end
